-- ==== Defs.lean ====
def Pre_Kernel [hPre_ids_below_voxels : Cert.Pre_ids_below_voxels.Facts] (m : (ℓ : Loc Cert.Kernel.nD Cert.Kernel.τ Cert.Kernel.sig) → Buf (Elt Bits) ℓ) : Prop :=
  ∀ c : Dev Cert.Kernel.nD,
    (Cert.Pre_ids_below_voxels.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_ids_below_voxels : Cert.Pre_ids_below_voxels.Facts] (m : (ℓ : Loc Cert.KernelIdeal.nD Cert.KernelIdeal.τ Cert.KernelIdeal.sig) → Buf (Elt Ideal) ℓ) : Prop :=
  ∀ c : Dev Cert.KernelIdeal.nD,
    (Cert.Pre_ids_below_voxels.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_below_voxels [hPre_ids_below_voxels : Cert.Pre_ids_below_voxels.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_below_voxels.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_ids_below_voxels : Cert.Pre_ids_below_voxels.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_ids_below_voxels : Cert.Pre_ids_below_voxels.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_ids_below_voxels [hReferenceIdeal : Cert.ReferenceIdeal.Facts] [hPre_ids_below_voxels : Cert.Pre_ids_below_voxels.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_below_voxels m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_below_voxels : Cert.Pre_ids_below_voxels.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_v16) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_ids_below_voxels : Cert.Pre_ids_below_voxels.Facts),
    quiescent_Kernel (hKernel := hKernel) (hPre_ids_below_voxels := hPre_ids_below_voxels)
    ∧ quiescent_KernelIdeal (hKernelIdeal := hKernelIdeal) (hPre_ids_below_voxels := hPre_ids_below_voxels)
    ∧ quiescent_ReferenceIdeal (hReferenceIdeal := hReferenceIdeal)
    ∧ quiescent_ReferenceIdeal_pre_ids_below_voxels (hReferenceIdeal := hReferenceIdeal) (hPre_ids_below_voxels := hPre_ids_below_voxels)
    ∧ preserves_Kernel_KernelIdeal
    ∧ algebraic_KernelIdeal_ReferenceIdeal (hKernelIdeal := hKernelIdeal) (hReferenceIdeal := hReferenceIdeal) (hPre_ids_below_voxels := hPre_ids_below_voxels)
-- ==== Pre_ids_below_voxels.lean ====
abbrev S3x640x10240 : Shape := ⟨3, ![3, 640, 10240]⟩
abbrev S3x640x320 : Shape := ⟨3, ![3, 640, 320]⟩
abbrev S10240x384 : Shape := ⟨2, ![10240, 384]⟩
abbrev S384 : Shape := ⟨1, ![384]⟩
abbrev S3x640 : Shape := ⟨2, ![3, 640]⟩
abbrev S_ : Shape := ⟨0, ![]⟩

class Facts : Prop where
  bcast_S_S3x640 : S_.BroadcastsInDim S3x640 (![] : Fin 0 → Fin S3x640.rank)

variable [Facts]

def fn {F : FTy → Type} [FloatOps F] (main_arg0 : FVec F S3x640x10240 .fp8e4m3) (main_arg1 : FVec F S3x640x320 .f32) (main_arg2 : FVec F S10240x384 .fp8e4m3) (main_arg3 : FVec F S384 .f32) (main_arg4 : FVec F S384 .f32) (main_arg5 : IVec S3x640 32) : IVec S3x640 1 :=
  let main_c : IVec S_ 32 := constantI S_ 32 200#32
  let main_v0 : IVec S3x640 32 := broadcastInDim S3x640 ![] bcast_S_S3x640 main_c
  let main_v1 : IVec S3x640 1 := cmpi .slt main_arg5 main_v0
  main_v1
-- ==== Kernel.lean ====
abbrev S3x640x10240 : Shape := ⟨3, ![3, 640, 10240]⟩
abbrev S3x640x320 : Shape := ⟨3, ![3, 640, 320]⟩
abbrev S10240x384 : Shape := ⟨2, ![10240, 384]⟩
abbrev S384 : Shape := ⟨1, ![384]⟩
abbrev S3x640 : Shape := ⟨2, ![3, 640]⟩
abbrev S1x384 : Shape := ⟨2, ![1, 384]⟩
abbrev S3x200x384 : Shape := ⟨3, ![3, 200, 384]⟩
abbrev S3x200 : Shape := ⟨2, ![3, 200]⟩
abbrev S3x640x384 : Shape := ⟨3, ![3, 640, 384]⟩
abbrev S1x128x10240 : Shape := ⟨3, ![1, 128, 10240]⟩
abbrev S1x128x320 : Shape := ⟨3, ![1, 128, 320]⟩
abbrev S1x200x384 : Shape := ⟨3, ![1, 200, 384]⟩
abbrev S1x128x384 : Shape := ⟨3, ![1, 128, 384]⟩
abbrev S128x384 : Shape := ⟨2, ![128, 384]⟩
abbrev S8x208x384 : Shape := ⟨3, ![8, 208, 384]⟩
abbrev S1x1 : Shape := ⟨2, ![1, 1]⟩
abbrev S128x128 : Shape := ⟨2, ![128, 128]⟩
abbrev S1x128x128 : Shape := ⟨3, ![1, 128, 128]⟩
abbrev S128x128x1 : Shape := ⟨3, ![128, 128, 1]⟩
abbrev S128x2048 : Shape := ⟨2, ![128, 2048]⟩
abbrev S2048x384 : Shape := ⟨2, ![2048, 384]⟩
abbrev S1x128x64 : Shape := ⟨3, ![1, 128, 64]⟩
abbrev S128x64 : Shape := ⟨2, ![128, 64]⟩
abbrev S1x1x384 : Shape := ⟨3, ![1, 1, 384]⟩
abbrev S1x208x384 : Shape := ⟨3, ![1, 208, 384]⟩
abbrev S208x384 : Shape := ⟨2, ![208, 384]⟩
abbrev S200x384 : Shape := ⟨2, ![200, 384]⟩

abbrev nBuf : Space → Nat
  | .hbm => 11
  | .vmem => 13
  | .smem => 2
  | _ => 0

abbrev bufTy : (tb : Table) → Fin (tcTables nBuf tb) → BufTy
  | .hbm, ⟨0, _⟩ => ⟨S3x640x10240, .fp8e4m3⟩
  | .hbm, ⟨1, _⟩ => ⟨S3x640x320, .f32⟩
  | .hbm, ⟨2, _⟩ => ⟨S10240x384, .fp8e4m3⟩
  | .hbm, ⟨3, _⟩ => ⟨S384, .f32⟩
  | .hbm, ⟨4, _⟩ => ⟨S384, .f32⟩
  | .hbm, ⟨5, _⟩ => ⟨S3x640, .i32⟩
  | .hbm, ⟨6, _⟩ => ⟨S1x384, .f32⟩
  | .hbm, ⟨7, _⟩ => ⟨S1x384, .f32⟩
  | .hbm, ⟨8, _⟩ => ⟨S3x200x384, .bf16⟩
  | .hbm, ⟨9, _⟩ => ⟨S3x200, .i32⟩
  | .hbm, ⟨10, _⟩ => ⟨S3x640x384, .bf16⟩
  | .local _ .vmem, ⟨0, _⟩ => ⟨S1x128x10240, .fp8e4m3⟩
  | .local _ .vmem, ⟨1, _⟩ => ⟨S1x128x10240, .fp8e4m3⟩
  | .local _ .vmem, ⟨2, _⟩ => ⟨S1x128x320, .f32⟩
  | .local _ .vmem, ⟨3, _⟩ => ⟨S1x128x320, .f32⟩
  | .local _ .vmem, ⟨4, _⟩ => ⟨S10240x384, .fp8e4m3⟩
  | .local _ .vmem, ⟨5, _⟩ => ⟨S1x384, .f32⟩
  | .local _ .vmem, ⟨6, _⟩ => ⟨S1x384, .f32⟩
  | .local _ .vmem, ⟨7, _⟩ => ⟨S1x200x384, .bf16⟩
  | .local _ .vmem, ⟨8, _⟩ => ⟨S1x200x384, .bf16⟩
  | .local _ .vmem, ⟨9, _⟩ => ⟨S1x128x384, .bf16⟩
  | .local _ .vmem, ⟨10, _⟩ => ⟨S1x128x384, .bf16⟩
  | .local _ .vmem, ⟨11, _⟩ => ⟨S128x384, .f32⟩
  | .local _ .vmem, ⟨12, _⟩ => ⟨S8x208x384, .f32⟩
  | .local _ .smem, ⟨0, _⟩ => ⟨S3x640, .i32⟩
  | .local _ .smem, ⟨1, _⟩ => ⟨S3x200, .i32⟩
  | _, _ => ⟨S3x640x10240, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_stg0_0 : Ref sig .tc := ⟨.smem, 0, rfl⟩
abbrev cc0_stg7_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![3, 5], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_694 : BitVec 32 := 0#32
  let c200_i32 : BitVec 32 := 200#32
  let v1726 : BitVec 32 := Scalar.addi c0_i32_694 c200_i32
  let c1_i32_695 : BitVec 32 := 1#32
  ⟨c0_i32_694, v1726, c1_i32_695⟩
def k0_off1 (i : grid0.Coords) (k0_t1 : Fin k0_t1_loop.trips) : Fin 2 → Nat :=
  let arg0 : BitVec 32 := BitVec.ofNat 32 (i 0).val
  let v1727 : Index := Scalar.indexCast arg0
  let c0_i32_694 : BitVec 32 := 0#32
  let c1_i32_695 : BitVec 32 := 1#32
  let arg13 : BitVec 32 := Scf.iv c0_i32_694 c1_i32_695 k0_t1
  let v1728 : Index := Scalar.indexCast arg13
  ![v1727.toNat, v1728.toNat]
@[reducible] def k0_t2_loop : Scf.Loop 32 :=
  let c0_i32_684 : BitVec 32 := 0#32
  let c16_i32_685 : BitVec 32 := 16#32
  let v1718 : BitVec 32 := Scalar.addi c0_i32_684 c16_i32_685
  let c1_i32_686 : BitVec 32 := 1#32
  ⟨c0_i32_684, v1718, c1_i32_686⟩
def k0_off2 (i : grid0.Coords) (k0_t2 : Fin k0_t2_loop.trips) : Fin 2 → Nat :=
  let arg0 : BitVec 32 := BitVec.ofNat 32 (i 0).val
  let v1726 : Index := Scalar.indexCast arg0
  let arg1 : BitVec 32 := BitVec.ofNat 32 (i 1).val
  let c128_i32_692 : BitVec 32 := 128#32
  let v1724 : BitVec 32 := Scalar.muli arg1 c128_i32_692
  let c0_i32_684 : BitVec 32 := 0#32
  let c1_i32_686 : BitVec 32 := 1#32
  let arg13 : BitVec 32 := Scf.iv c0_i32_684 c1_i32_686 k0_t2
  let c8_i32_690 : BitVec 32 := 8#32
  let v1722 : BitVec 32 := Scalar.muli arg13 c8_i32_690
  let c0_i32_691 : BitVec 32 := 0#32
  let v1723 : BitVec 32 := Scalar.addi v1722 c0_i32_691
  let v1725 : BitVec 32 := Scalar.addi v1724 v1723
  let v1727 : Index := Scalar.indexCast v1725
  ![v1726.toNat, v1727.toNat]
def k0_off3 (v1728 : BitVec 32) : Fin 3 → Nat :=
  let c0_694 : Index := 0#32
  let c0_i32_693 : BitVec 32 := 0#32
  let v1729 : BitVec 1 := Scalar.cmpi .sge v1728 c0_i32_693
  let c200_i32 : BitVec 32 := 200#32
  let v1730 : BitVec 32 := Scalar.select v1729 v1728 c200_i32
  let v1731 : Index := Scalar.indexCast v1730
  let c0_695 : Index := 0#32
  ![0, v1731.toNat, 0]

def k0_off4 (k0_t2 : Fin k0_t2_loop.trips) : Fin 2 → Nat :=
  let c0_i32_684 : BitVec 32 := 0#32
  let c1_i32_686 : BitVec 32 := 1#32
  let arg13 : BitVec 32 := Scf.iv c0_i32_684 c1_i32_686 k0_t2
  let c8_i32_690 : BitVec 32 := 8#32
  let v1722 : BitVec 32 := Scalar.muli arg13 c8_i32_690
  let c0_i32_691 : BitVec 32 := 0#32
  let v1723 : BitVec 32 := Scalar.addi v1722 c0_i32_691
  let v1734 : Index := Scalar.indexCast v1723
  let c0_696 : Index := 0#32
  ![v1734.toNat, 0]
def k0_off5 (i : grid0.Coords) (v1728 : BitVec 32) : Fin 2 → Nat :=
  let arg0 : BitVec 32 := BitVec.ofNat 32 (i 0).val
  let v1890 : Index := Scalar.indexCast arg0
  let v1891 : Index := Scalar.indexCast v1728
  ![v1890.toNat, v1891.toNat]
def k0_cond2 (v1728 : BitVec 32) : BitVec 1 :=
  let c0_i32_693 : BitVec 32 := 0#32
  let v1729 : BitVec 1 := Scalar.cmpi .sge v1728 c0_i32_693
  let v1741 : BitVec 32 := Scalar.extui v1729
  let c0_i32_699 : BitVec 32 := 0#32
  let v1742 : BitVec 1 := Scalar.cmpi .ne v1741 c0_i32_699
  v1742

def k0_chk1 (i : grid0.Coords) (v1728 : BitVec 32) : Prop :=
  (∀ a, (k0_off3 v1728) a + S1x1x384.size a ≤ S8x208x384.size a) ∧
  (∀ (k0_h2 : k0_cond2 v1728 = 1#1), ∀ a, (k0_off5 i v1728) a + S1x1.size a ≤ S3x200.size a)
theorem k0_off3_inb : ∀ (i : grid0.Coords) (v1728 : BitVec 32) (k0_hw1 : k0_chk1 i v1728), ∀ a, (k0_off3 v1728) a + S1x1x384.size a ≤ S8x208x384.size a := fun i v1728 k0_hw1 => k0_hw1.1
theorem k0_off5_inb : ∀ (i : grid0.Coords) (v1728 : BitVec 32) (k0_hw1 : k0_chk1 i v1728), ∀ (k0_h2 : k0_cond2 v1728 = 1#1), ∀ a, (k0_off5 i v1728) a + S1x1.size a ≤ S3x200.size a := fun i v1728 k0_hw1 k0_h2 => k0_hw1.2 k0_h2

def k0_off6 (i : grid0.Coords) (k0_t2 : Fin k0_t2_loop.trips) : Fin 2 → Nat :=
  let arg0 : BitVec 32 := BitVec.ofNat 32 (i 0).val
  let v1747 : Index := Scalar.indexCast arg0
  let arg1 : BitVec 32 := BitVec.ofNat 32 (i 1).val
  let c128_i32_702 : BitVec 32 := 128#32
  let v1745 : BitVec 32 := Scalar.muli arg1 c128_i32_702
  let c0_i32_684 : BitVec 32 := 0#32
  let c1_i32_686 : BitVec 32 := 1#32
  let arg13 : BitVec 32 := Scf.iv c0_i32_684 c1_i32_686 k0_t2
  let c8_i32_700 : BitVec 32 := 8#32
  let v1743 : BitVec 32 := Scalar.muli arg13 c8_i32_700
  let c1_i32_701 : BitVec 32 := 1#32
  let v1744 : BitVec 32 := Scalar.addi v1743 c1_i32_701
  let v1746 : BitVec 32 := Scalar.addi v1745 v1744
  let v1748 : Index := Scalar.indexCast v1746
  ![v1747.toNat, v1748.toNat]
def k0_off7 (v1749 : BitVec 32) : Fin 3 → Nat :=
  let c1 : Index := 1#32
  let c0_i32_703 : BitVec 32 := 0#32
  let v1750 : BitVec 1 := Scalar.cmpi .sge v1749 c0_i32_703
  let c200_i32_704 : BitVec 32 := 200#32
  let v1751 : BitVec 32 := Scalar.select v1750 v1749 c200_i32_704
  let v1752 : Index := Scalar.indexCast v1751
  let c0_705 : Index := 0#32
  ![1, v1752.toNat, 0]

def k0_off8 (k0_t2 : Fin k0_t2_loop.trips) : Fin 2 → Nat :=
  let c0_i32_684 : BitVec 32 := 0#32
  let c1_i32_686 : BitVec 32 := 1#32
  let arg13 : BitVec 32 := Scf.iv c0_i32_684 c1_i32_686 k0_t2
  let c8_i32_700 : BitVec 32 := 8#32
  let v1743 : BitVec 32 := Scalar.muli arg13 c8_i32_700
  let c1_i32_701 : BitVec 32 := 1#32
  let v1744 : BitVec 32 := Scalar.addi v1743 c1_i32_701
  let v1755 : Index := Scalar.indexCast v1744
  let c0_706 : Index := 0#32
  ![v1755.toNat, 0]
def k0_off9 (i : grid0.Coords) (v1749 : BitVec 32) : Fin 2 → Nat :=
  let arg0 : BitVec 32 := BitVec.ofNat 32 (i 0).val
  let v1890 : Index := Scalar.indexCast arg0
  let v1891 : Index := Scalar.indexCast v1749
  ![v1890.toNat, v1891.toNat]
def k0_cond3 (v1749 : BitVec 32) : BitVec 1 :=
  let c0_i32_703 : BitVec 32 := 0#32
  let v1750 : BitVec 1 := Scalar.cmpi .sge v1749 c0_i32_703
  let v1762 : BitVec 32 := Scalar.extui v1750
  let c0_i32_709 : BitVec 32 := 0#32
  let v1763 : BitVec 1 := Scalar.cmpi .ne v1762 c0_i32_709
  v1763

def k0_chk2 (i : grid0.Coords) (v1749 : BitVec 32) : Prop :=
  (∀ a, (k0_off7 v1749) a + S1x1x384.size a ≤ S8x208x384.size a) ∧
  (∀ (k0_h3 : k0_cond3 v1749 = 1#1), ∀ a, (k0_off9 i v1749) a + S1x1.size a ≤ S3x200.size a)
theorem k0_off7_inb : ∀ (i : grid0.Coords) (v1749 : BitVec 32) (k0_hw2 : k0_chk2 i v1749), ∀ a, (k0_off7 v1749) a + S1x1x384.size a ≤ S8x208x384.size a := fun i v1749 k0_hw2 => k0_hw2.1
theorem k0_off9_inb : ∀ (i : grid0.Coords) (v1749 : BitVec 32) (k0_hw2 : k0_chk2 i v1749), ∀ (k0_h3 : k0_cond3 v1749 = 1#1), ∀ a, (k0_off9 i v1749) a + S1x1.size a ≤ S3x200.size a := fun i v1749 k0_hw2 k0_h3 => k0_hw2.2 k0_h3

def k0_off10 (i : grid0.Coords) (k0_t2 : Fin k0_t2_loop.trips) : Fin 2 → Nat :=
  let arg0 : BitVec 32 := BitVec.ofNat 32 (i 0).val
  let v1768 : Index := Scalar.indexCast arg0
  let arg1 : BitVec 32 := BitVec.ofNat 32 (i 1).val
  let c128_i32_711 : BitVec 32 := 128#32
  let v1766 : BitVec 32 := Scalar.muli arg1 c128_i32_711
  let c0_i32_684 : BitVec 32 := 0#32
  let c1_i32_686 : BitVec 32 := 1#32
  let arg13 : BitVec 32 := Scf.iv c0_i32_684 c1_i32_686 k0_t2
  let c8_i32_710 : BitVec 32 := 8#32
  let v1764 : BitVec 32 := Scalar.muli arg13 c8_i32_710
  let c2_i32 : BitVec 32 := 2#32
  let v1765 : BitVec 32 := Scalar.addi v1764 c2_i32
  let v1767 : BitVec 32 := Scalar.addi v1766 v1765
  let v1769 : Index := Scalar.indexCast v1767
  ![v1768.toNat, v1769.toNat]
def k0_off11 (v1770 : BitVec 32) : Fin 3 → Nat :=
  let c2 : Index := 2#32
  let c0_i32_712 : BitVec 32 := 0#32
  let v1771 : BitVec 1 := Scalar.cmpi .sge v1770 c0_i32_712
  let c200_i32_713 : BitVec 32 := 200#32
  let v1772 : BitVec 32 := Scalar.select v1771 v1770 c200_i32_713
  let v1773 : Index := Scalar.indexCast v1772
  let c0_714 : Index := 0#32
  ![2, v1773.toNat, 0]

def k0_off12 (k0_t2 : Fin k0_t2_loop.trips) : Fin 2 → Nat :=
  let c0_i32_684 : BitVec 32 := 0#32
  let c1_i32_686 : BitVec 32 := 1#32
  let arg13 : BitVec 32 := Scf.iv c0_i32_684 c1_i32_686 k0_t2
  let c8_i32_710 : BitVec 32 := 8#32
  let v1764 : BitVec 32 := Scalar.muli arg13 c8_i32_710
  let c2_i32 : BitVec 32 := 2#32
  let v1765 : BitVec 32 := Scalar.addi v1764 c2_i32
  let v1776 : Index := Scalar.indexCast v1765
  let c0_715 : Index := 0#32
  ![v1776.toNat, 0]
def k0_off13 (i : grid0.Coords) (v1770 : BitVec 32) : Fin 2 → Nat :=
  let arg0 : BitVec 32 := BitVec.ofNat 32 (i 0).val
  let v1890 : Index := Scalar.indexCast arg0
  let v1891 : Index := Scalar.indexCast v1770
  ![v1890.toNat, v1891.toNat]
def k0_cond4 (v1770 : BitVec 32) : BitVec 1 :=
  let c0_i32_712 : BitVec 32 := 0#32
  let v1771 : BitVec 1 := Scalar.cmpi .sge v1770 c0_i32_712
  let v1783 : BitVec 32 := Scalar.extui v1771
  let c0_i32_718 : BitVec 32 := 0#32
  let v1784 : BitVec 1 := Scalar.cmpi .ne v1783 c0_i32_718
  v1784

def k0_chk3 (i : grid0.Coords) (v1770 : BitVec 32) : Prop :=
  (∀ a, (k0_off11 v1770) a + S1x1x384.size a ≤ S8x208x384.size a) ∧
  (∀ (k0_h4 : k0_cond4 v1770 = 1#1), ∀ a, (k0_off13 i v1770) a + S1x1.size a ≤ S3x200.size a)
theorem k0_off11_inb : ∀ (i : grid0.Coords) (v1770 : BitVec 32) (k0_hw3 : k0_chk3 i v1770), ∀ a, (k0_off11 v1770) a + S1x1x384.size a ≤ S8x208x384.size a := fun i v1770 k0_hw3 => k0_hw3.1
theorem k0_off13_inb : ∀ (i : grid0.Coords) (v1770 : BitVec 32) (k0_hw3 : k0_chk3 i v1770), ∀ (k0_h4 : k0_cond4 v1770 = 1#1), ∀ a, (k0_off13 i v1770) a + S1x1.size a ≤ S3x200.size a := fun i v1770 k0_hw3 k0_h4 => k0_hw3.2 k0_h4

def k0_off14 (i : grid0.Coords) (k0_t2 : Fin k0_t2_loop.trips) : Fin 2 → Nat :=
  let arg0 : BitVec 32 := BitVec.ofNat 32 (i 0).val
  let v1789 : Index := Scalar.indexCast arg0
  let arg1 : BitVec 32 := BitVec.ofNat 32 (i 1).val
  let c128_i32_720 : BitVec 32 := 128#32
  let v1787 : BitVec 32 := Scalar.muli arg1 c128_i32_720
  let c0_i32_684 : BitVec 32 := 0#32
  let c1_i32_686 : BitVec 32 := 1#32
  let arg13 : BitVec 32 := Scf.iv c0_i32_684 c1_i32_686 k0_t2
  let c8_i32_719 : BitVec 32 := 8#32
  let v1785 : BitVec 32 := Scalar.muli arg13 c8_i32_719
  let c3_i32 : BitVec 32 := 3#32
  let v1786 : BitVec 32 := Scalar.addi v1785 c3_i32
  let v1788 : BitVec 32 := Scalar.addi v1787 v1786
  let v1790 : Index := Scalar.indexCast v1788
  ![v1789.toNat, v1790.toNat]
def k0_off15 (v1791 : BitVec 32) : Fin 3 → Nat :=
  let c3 : Index := 3#32
  let c0_i32_721 : BitVec 32 := 0#32
  let v1792 : BitVec 1 := Scalar.cmpi .sge v1791 c0_i32_721
  let c200_i32_722 : BitVec 32 := 200#32
  let v1793 : BitVec 32 := Scalar.select v1792 v1791 c200_i32_722
  let v1794 : Index := Scalar.indexCast v1793
  let c0_723 : Index := 0#32
  ![3, v1794.toNat, 0]

def k0_off16 (k0_t2 : Fin k0_t2_loop.trips) : Fin 2 → Nat :=
  let c0_i32_684 : BitVec 32 := 0#32
  let c1_i32_686 : BitVec 32 := 1#32
  let arg13 : BitVec 32 := Scf.iv c0_i32_684 c1_i32_686 k0_t2
  let c8_i32_719 : BitVec 32 := 8#32
  let v1785 : BitVec 32 := Scalar.muli arg13 c8_i32_719
  let c3_i32 : BitVec 32 := 3#32
  let v1786 : BitVec 32 := Scalar.addi v1785 c3_i32
  let v1797 : Index := Scalar.indexCast v1786
  let c0_724 : Index := 0#32
  ![v1797.toNat, 0]
def k0_off17 (i : grid0.Coords) (v1791 : BitVec 32) : Fin 2 → Nat :=
  let arg0 : BitVec 32 := BitVec.ofNat 32 (i 0).val
  let v1890 : Index := Scalar.indexCast arg0
  let v1891 : Index := Scalar.indexCast v1791
  ![v1890.toNat, v1891.toNat]
def k0_cond5 (v1791 : BitVec 32) : BitVec 1 :=
  let c0_i32_721 : BitVec 32 := 0#32
  let v1792 : BitVec 1 := Scalar.cmpi .sge v1791 c0_i32_721
  let v1804 : BitVec 32 := Scalar.extui v1792
  let c0_i32_727 : BitVec 32 := 0#32
  let v1805 : BitVec 1 := Scalar.cmpi .ne v1804 c0_i32_727
  v1805

def k0_chk4 (i : grid0.Coords) (v1791 : BitVec 32) : Prop :=
  (∀ a, (k0_off15 v1791) a + S1x1x384.size a ≤ S8x208x384.size a) ∧
  (∀ (k0_h5 : k0_cond5 v1791 = 1#1), ∀ a, (k0_off17 i v1791) a + S1x1.size a ≤ S3x200.size a)
theorem k0_off15_inb : ∀ (i : grid0.Coords) (v1791 : BitVec 32) (k0_hw4 : k0_chk4 i v1791), ∀ a, (k0_off15 v1791) a + S1x1x384.size a ≤ S8x208x384.size a := fun i v1791 k0_hw4 => k0_hw4.1
theorem k0_off17_inb : ∀ (i : grid0.Coords) (v1791 : BitVec 32) (k0_hw4 : k0_chk4 i v1791), ∀ (k0_h5 : k0_cond5 v1791 = 1#1), ∀ a, (k0_off17 i v1791) a + S1x1.size a ≤ S3x200.size a := fun i v1791 k0_hw4 k0_h5 => k0_hw4.2 k0_h5

def k0_off18 (i : grid0.Coords) (k0_t2 : Fin k0_t2_loop.trips) : Fin 2 → Nat :=
  let arg0 : BitVec 32 := BitVec.ofNat 32 (i 0).val
  let v1810 : Index := Scalar.indexCast arg0
  let arg1 : BitVec 32 := BitVec.ofNat 32 (i 1).val
  let c128_i32_730 : BitVec 32 := 128#32
  let v1808 : BitVec 32 := Scalar.muli arg1 c128_i32_730
  let c0_i32_684 : BitVec 32 := 0#32
  let c1_i32_686 : BitVec 32 := 1#32
  let arg13 : BitVec 32 := Scf.iv c0_i32_684 c1_i32_686 k0_t2
  let c8_i32_728 : BitVec 32 := 8#32
  let v1806 : BitVec 32 := Scalar.muli arg13 c8_i32_728
  let c4_i32_729 : BitVec 32 := 4#32
  let v1807 : BitVec 32 := Scalar.addi v1806 c4_i32_729
  let v1809 : BitVec 32 := Scalar.addi v1808 v1807
  let v1811 : Index := Scalar.indexCast v1809
  ![v1810.toNat, v1811.toNat]
def k0_off19 (v1812 : BitVec 32) : Fin 3 → Nat :=
  let c4 : Index := 4#32
  let c0_i32_731 : BitVec 32 := 0#32
  let v1813 : BitVec 1 := Scalar.cmpi .sge v1812 c0_i32_731
  let c200_i32_732 : BitVec 32 := 200#32
  let v1814 : BitVec 32 := Scalar.select v1813 v1812 c200_i32_732
  let v1815 : Index := Scalar.indexCast v1814
  let c0_733 : Index := 0#32
  ![4, v1815.toNat, 0]

def k0_off20 (k0_t2 : Fin k0_t2_loop.trips) : Fin 2 → Nat :=
  let c0_i32_684 : BitVec 32 := 0#32
  let c1_i32_686 : BitVec 32 := 1#32
  let arg13 : BitVec 32 := Scf.iv c0_i32_684 c1_i32_686 k0_t2
  let c8_i32_728 : BitVec 32 := 8#32
  let v1806 : BitVec 32 := Scalar.muli arg13 c8_i32_728
  let c4_i32_729 : BitVec 32 := 4#32
  let v1807 : BitVec 32 := Scalar.addi v1806 c4_i32_729
  let v1818 : Index := Scalar.indexCast v1807
  let c0_734 : Index := 0#32
  ![v1818.toNat, 0]
def k0_off21 (i : grid0.Coords) (v1812 : BitVec 32) : Fin 2 → Nat :=
  let arg0 : BitVec 32 := BitVec.ofNat 32 (i 0).val
  let v1890 : Index := Scalar.indexCast arg0
  let v1891 : Index := Scalar.indexCast v1812
  ![v1890.toNat, v1891.toNat]
def k0_cond6 (v1812 : BitVec 32) : BitVec 1 :=
  let c0_i32_731 : BitVec 32 := 0#32
  let v1813 : BitVec 1 := Scalar.cmpi .sge v1812 c0_i32_731
  let v1825 : BitVec 32 := Scalar.extui v1813
  let c0_i32_737 : BitVec 32 := 0#32
  let v1826 : BitVec 1 := Scalar.cmpi .ne v1825 c0_i32_737
  v1826

def k0_chk5 (i : grid0.Coords) (v1812 : BitVec 32) : Prop :=
  (∀ a, (k0_off19 v1812) a + S1x1x384.size a ≤ S8x208x384.size a) ∧
  (∀ (k0_h6 : k0_cond6 v1812 = 1#1), ∀ a, (k0_off21 i v1812) a + S1x1.size a ≤ S3x200.size a)
theorem k0_off19_inb : ∀ (i : grid0.Coords) (v1812 : BitVec 32) (k0_hw5 : k0_chk5 i v1812), ∀ a, (k0_off19 v1812) a + S1x1x384.size a ≤ S8x208x384.size a := fun i v1812 k0_hw5 => k0_hw5.1
theorem k0_off21_inb : ∀ (i : grid0.Coords) (v1812 : BitVec 32) (k0_hw5 : k0_chk5 i v1812), ∀ (k0_h6 : k0_cond6 v1812 = 1#1), ∀ a, (k0_off21 i v1812) a + S1x1.size a ≤ S3x200.size a := fun i v1812 k0_hw5 k0_h6 => k0_hw5.2 k0_h6

def k0_off22 (i : grid0.Coords) (k0_t2 : Fin k0_t2_loop.trips) : Fin 2 → Nat :=
  let arg0 : BitVec 32 := BitVec.ofNat 32 (i 0).val
  let v1831 : Index := Scalar.indexCast arg0
  let arg1 : BitVec 32 := BitVec.ofNat 32 (i 1).val
  let c128_i32_739 : BitVec 32 := 128#32
  let v1829 : BitVec 32 := Scalar.muli arg1 c128_i32_739
  let c0_i32_684 : BitVec 32 := 0#32
  let c1_i32_686 : BitVec 32 := 1#32
  let arg13 : BitVec 32 := Scf.iv c0_i32_684 c1_i32_686 k0_t2
  let c8_i32_738 : BitVec 32 := 8#32
  let v1827 : BitVec 32 := Scalar.muli arg13 c8_i32_738
  let c5_i32 : BitVec 32 := 5#32
  let v1828 : BitVec 32 := Scalar.addi v1827 c5_i32
  let v1830 : BitVec 32 := Scalar.addi v1829 v1828
  let v1832 : Index := Scalar.indexCast v1830
  ![v1831.toNat, v1832.toNat]
def k0_off23 (v1833 : BitVec 32) : Fin 3 → Nat :=
  let c5 : Index := 5#32
  let c0_i32_740 : BitVec 32 := 0#32
  let v1834 : BitVec 1 := Scalar.cmpi .sge v1833 c0_i32_740
  let c200_i32_741 : BitVec 32 := 200#32
  let v1835 : BitVec 32 := Scalar.select v1834 v1833 c200_i32_741
  let v1836 : Index := Scalar.indexCast v1835
  let c0_742 : Index := 0#32
  ![5, v1836.toNat, 0]

def k0_off24 (k0_t2 : Fin k0_t2_loop.trips) : Fin 2 → Nat :=
  let c0_i32_684 : BitVec 32 := 0#32
  let c1_i32_686 : BitVec 32 := 1#32
  let arg13 : BitVec 32 := Scf.iv c0_i32_684 c1_i32_686 k0_t2
  let c8_i32_738 : BitVec 32 := 8#32
  let v1827 : BitVec 32 := Scalar.muli arg13 c8_i32_738
  let c5_i32 : BitVec 32 := 5#32
  let v1828 : BitVec 32 := Scalar.addi v1827 c5_i32
  let v1839 : Index := Scalar.indexCast v1828
  let c0_743 : Index := 0#32
  ![v1839.toNat, 0]
def k0_off25 (i : grid0.Coords) (v1833 : BitVec 32) : Fin 2 → Nat :=
  let arg0 : BitVec 32 := BitVec.ofNat 32 (i 0).val
  let v1890 : Index := Scalar.indexCast arg0
  let v1891 : Index := Scalar.indexCast v1833
  ![v1890.toNat, v1891.toNat]
def k0_cond7 (v1833 : BitVec 32) : BitVec 1 :=
  let c0_i32_740 : BitVec 32 := 0#32
  let v1834 : BitVec 1 := Scalar.cmpi .sge v1833 c0_i32_740
  let v1846 : BitVec 32 := Scalar.extui v1834
  let c0_i32_746 : BitVec 32 := 0#32
  let v1847 : BitVec 1 := Scalar.cmpi .ne v1846 c0_i32_746
  v1847

def k0_chk6 (i : grid0.Coords) (v1833 : BitVec 32) : Prop :=
  (∀ a, (k0_off23 v1833) a + S1x1x384.size a ≤ S8x208x384.size a) ∧
  (∀ (k0_h7 : k0_cond7 v1833 = 1#1), ∀ a, (k0_off25 i v1833) a + S1x1.size a ≤ S3x200.size a)
theorem k0_off23_inb : ∀ (i : grid0.Coords) (v1833 : BitVec 32) (k0_hw6 : k0_chk6 i v1833), ∀ a, (k0_off23 v1833) a + S1x1x384.size a ≤ S8x208x384.size a := fun i v1833 k0_hw6 => k0_hw6.1
theorem k0_off25_inb : ∀ (i : grid0.Coords) (v1833 : BitVec 32) (k0_hw6 : k0_chk6 i v1833), ∀ (k0_h7 : k0_cond7 v1833 = 1#1), ∀ a, (k0_off25 i v1833) a + S1x1.size a ≤ S3x200.size a := fun i v1833 k0_hw6 k0_h7 => k0_hw6.2 k0_h7

def k0_off26 (i : grid0.Coords) (k0_t2 : Fin k0_t2_loop.trips) : Fin 2 → Nat :=
  let arg0 : BitVec 32 := BitVec.ofNat 32 (i 0).val
  let v1852 : Index := Scalar.indexCast arg0
  let arg1 : BitVec 32 := BitVec.ofNat 32 (i 1).val
  let c128_i32_748 : BitVec 32 := 128#32
  let v1850 : BitVec 32 := Scalar.muli arg1 c128_i32_748
  let c0_i32_684 : BitVec 32 := 0#32
  let c1_i32_686 : BitVec 32 := 1#32
  let arg13 : BitVec 32 := Scf.iv c0_i32_684 c1_i32_686 k0_t2
  let c8_i32_747 : BitVec 32 := 8#32
  let v1848 : BitVec 32 := Scalar.muli arg13 c8_i32_747
  let c6_i32 : BitVec 32 := 6#32
  let v1849 : BitVec 32 := Scalar.addi v1848 c6_i32
  let v1851 : BitVec 32 := Scalar.addi v1850 v1849
  let v1853 : Index := Scalar.indexCast v1851
  ![v1852.toNat, v1853.toNat]
def k0_off27 (v1854 : BitVec 32) : Fin 3 → Nat :=
  let c6 : Index := 6#32
  let c0_i32_749 : BitVec 32 := 0#32
  let v1855 : BitVec 1 := Scalar.cmpi .sge v1854 c0_i32_749
  let c200_i32_750 : BitVec 32 := 200#32
  let v1856 : BitVec 32 := Scalar.select v1855 v1854 c200_i32_750
  let v1857 : Index := Scalar.indexCast v1856
  let c0_751 : Index := 0#32
  ![6, v1857.toNat, 0]

def k0_off28 (k0_t2 : Fin k0_t2_loop.trips) : Fin 2 → Nat :=
  let c0_i32_684 : BitVec 32 := 0#32
  let c1_i32_686 : BitVec 32 := 1#32
  let arg13 : BitVec 32 := Scf.iv c0_i32_684 c1_i32_686 k0_t2
  let c8_i32_747 : BitVec 32 := 8#32
  let v1848 : BitVec 32 := Scalar.muli arg13 c8_i32_747
  let c6_i32 : BitVec 32 := 6#32
  let v1849 : BitVec 32 := Scalar.addi v1848 c6_i32
  let v1860 : Index := Scalar.indexCast v1849
  let c0_752 : Index := 0#32
  ![v1860.toNat, 0]
def k0_off29 (i : grid0.Coords) (v1854 : BitVec 32) : Fin 2 → Nat :=
  let arg0 : BitVec 32 := BitVec.ofNat 32 (i 0).val
  let v1890 : Index := Scalar.indexCast arg0
  let v1891 : Index := Scalar.indexCast v1854
  ![v1890.toNat, v1891.toNat]
def k0_cond8 (v1854 : BitVec 32) : BitVec 1 :=
  let c0_i32_749 : BitVec 32 := 0#32
  let v1855 : BitVec 1 := Scalar.cmpi .sge v1854 c0_i32_749
  let v1867 : BitVec 32 := Scalar.extui v1855
  let c0_i32_755 : BitVec 32 := 0#32
  let v1868 : BitVec 1 := Scalar.cmpi .ne v1867 c0_i32_755
  v1868

def k0_chk7 (i : grid0.Coords) (v1854 : BitVec 32) : Prop :=
  (∀ a, (k0_off27 v1854) a + S1x1x384.size a ≤ S8x208x384.size a) ∧
  (∀ (k0_h8 : k0_cond8 v1854 = 1#1), ∀ a, (k0_off29 i v1854) a + S1x1.size a ≤ S3x200.size a)
theorem k0_off27_inb : ∀ (i : grid0.Coords) (v1854 : BitVec 32) (k0_hw7 : k0_chk7 i v1854), ∀ a, (k0_off27 v1854) a + S1x1x384.size a ≤ S8x208x384.size a := fun i v1854 k0_hw7 => k0_hw7.1
theorem k0_off29_inb : ∀ (i : grid0.Coords) (v1854 : BitVec 32) (k0_hw7 : k0_chk7 i v1854), ∀ (k0_h8 : k0_cond8 v1854 = 1#1), ∀ a, (k0_off29 i v1854) a + S1x1.size a ≤ S3x200.size a := fun i v1854 k0_hw7 k0_h8 => k0_hw7.2 k0_h8

def k0_off30 (i : grid0.Coords) (k0_t2 : Fin k0_t2_loop.trips) : Fin 2 → Nat :=
  let arg0 : BitVec 32 := BitVec.ofNat 32 (i 0).val
  let v1873 : Index := Scalar.indexCast arg0
  let arg1 : BitVec 32 := BitVec.ofNat 32 (i 1).val
  let c128_i32_757 : BitVec 32 := 128#32
  let v1871 : BitVec 32 := Scalar.muli arg1 c128_i32_757
  let c0_i32_684 : BitVec 32 := 0#32
  let c1_i32_686 : BitVec 32 := 1#32
  let arg13 : BitVec 32 := Scf.iv c0_i32_684 c1_i32_686 k0_t2
  let c8_i32_756 : BitVec 32 := 8#32
  let v1869 : BitVec 32 := Scalar.muli arg13 c8_i32_756
  let c7_i32 : BitVec 32 := 7#32
  let v1870 : BitVec 32 := Scalar.addi v1869 c7_i32
  let v1872 : BitVec 32 := Scalar.addi v1871 v1870
  let v1874 : Index := Scalar.indexCast v1872
  ![v1873.toNat, v1874.toNat]
def k0_off31 (v1875 : BitVec 32) : Fin 3 → Nat :=
  let c7 : Index := 7#32
  let c0_i32_758 : BitVec 32 := 0#32
  let v1876 : BitVec 1 := Scalar.cmpi .sge v1875 c0_i32_758
  let c200_i32_759 : BitVec 32 := 200#32
  let v1877 : BitVec 32 := Scalar.select v1876 v1875 c200_i32_759
  let v1878 : Index := Scalar.indexCast v1877
  let c0_760 : Index := 0#32
  ![7, v1878.toNat, 0]

def k0_off32 (k0_t2 : Fin k0_t2_loop.trips) : Fin 2 → Nat :=
  let c0_i32_684 : BitVec 32 := 0#32
  let c1_i32_686 : BitVec 32 := 1#32
  let arg13 : BitVec 32 := Scf.iv c0_i32_684 c1_i32_686 k0_t2
  let c8_i32_756 : BitVec 32 := 8#32
  let v1869 : BitVec 32 := Scalar.muli arg13 c8_i32_756
  let c7_i32 : BitVec 32 := 7#32
  let v1870 : BitVec 32 := Scalar.addi v1869 c7_i32
  let v1881 : Index := Scalar.indexCast v1870
  let c0_761 : Index := 0#32
  ![v1881.toNat, 0]
def k0_off33 (i : grid0.Coords) (v1875 : BitVec 32) : Fin 2 → Nat :=
  let arg0 : BitVec 32 := BitVec.ofNat 32 (i 0).val
  let v1890 : Index := Scalar.indexCast arg0
  let v1891 : Index := Scalar.indexCast v1875
  ![v1890.toNat, v1891.toNat]
def k0_cond9 (v1875 : BitVec 32) : BitVec 1 :=
  let c0_i32_758 : BitVec 32 := 0#32
  let v1876 : BitVec 1 := Scalar.cmpi .sge v1875 c0_i32_758
  let v1888 : BitVec 32 := Scalar.extui v1876
  let c0_i32_764 : BitVec 32 := 0#32
  let v1889 : BitVec 1 := Scalar.cmpi .ne v1888 c0_i32_764
  v1889

def k0_chk8 (i : grid0.Coords) (v1875 : BitVec 32) : Prop :=
  (∀ a, (k0_off31 v1875) a + S1x1x384.size a ≤ S8x208x384.size a) ∧
  (∀ (k0_h9 : k0_cond9 v1875 = 1#1), ∀ a, (k0_off33 i v1875) a + S1x1.size a ≤ S3x200.size a)
theorem k0_off31_inb : ∀ (i : grid0.Coords) (v1875 : BitVec 32) (k0_hw8 : k0_chk8 i v1875), ∀ a, (k0_off31 v1875) a + S1x1x384.size a ≤ S8x208x384.size a := fun i v1875 k0_hw8 => k0_hw8.1
theorem k0_off33_inb : ∀ (i : grid0.Coords) (v1875 : BitVec 32) (k0_hw8 : k0_chk8 i v1875), ∀ (k0_h9 : k0_cond9 v1875 = 1#1), ∀ a, (k0_off33 i v1875) a + S1x1.size a ≤ S3x200.size a := fun i v1875 k0_hw8 k0_h9 => k0_hw8.2 k0_h9

def k0_cond10 (i : grid0.Coords) : BitVec 1 :=
  let arg1 : BitVec 32 := BitVec.ofNat 32 (i 1).val
  let c4_i32_688 : BitVec 32 := 4#32
  let v1719 : BitVec 1 := Scalar.cmpi .eq arg1 c4_i32_688
  let v1720 : BitVec 32 := Scalar.extui v1719
  let c0_i32_689 : BitVec 32 := 0#32
  let v1721 : BitVec 1 := Scalar.cmpi .ne v1720 c0_i32_689
  v1721

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S3x640 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x10240 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x320 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S10240x384 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x200x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .smem S3x200 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x128x384 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S3x640x10240 : Shape := ⟨3, ![3, 640, 10240]⟩
abbrev S3x640x320 : Shape := ⟨3, ![3, 640, 320]⟩
abbrev S10240x384 : Shape := ⟨2, ![10240, 384]⟩
abbrev S384 : Shape := ⟨1, ![384]⟩
abbrev S3x640 : Shape := ⟨2, ![3, 640]⟩
abbrev S3x640x320x32 : Shape := ⟨4, ![3, 640, 320, 32]⟩
abbrev S3x640x320x1 : Shape := ⟨4, ![3, 640, 320, 1]⟩
abbrev S3x640x384 : Shape := ⟨3, ![3, 640, 384]⟩
abbrev S1x1x384 : Shape := ⟨3, ![1, 1, 384]⟩
abbrev S_ : Shape := ⟨0, ![]⟩
abbrev S3x640x1 : Shape := ⟨3, ![3, 640, 1]⟩
abbrev S200 : Shape := ⟨1, ![200]⟩
abbrev S1x1x200 : Shape := ⟨3, ![1, 1, 200]⟩
abbrev S3x640x200 : Shape := ⟨3, ![3, 640, 200]⟩
abbrev S3x200 : Shape := ⟨2, ![3, 200]⟩
abbrev S3x640x200x1 : Shape := ⟨4, ![3, 640, 200, 1]⟩
abbrev S3x640x1x384 : Shape := ⟨4, ![3, 640, 1, 384]⟩
abbrev S3x640x200x384 : Shape := ⟨4, ![3, 640, 200, 384]⟩
abbrev S3x200x384 : Shape := ⟨3, ![3, 200, 384]⟩
abbrev S3x200x1 : Shape := ⟨3, ![3, 200, 1]⟩

abbrev nBuf : Space → Nat
  | .hbm => 54
  | .vmem => 4
  | .smem => 0
  | _ => 0

abbrev bufTy : (tb : Table) → Fin (tcTables nBuf tb) → BufTy
  | .hbm, ⟨0, _⟩ => ⟨S3x640x10240, .fp8e4m3⟩
  | .hbm, ⟨1, _⟩ => ⟨S3x640x320, .f32⟩
  | .hbm, ⟨2, _⟩ => ⟨S10240x384, .fp8e4m3⟩
  | .hbm, ⟨3, _⟩ => ⟨S384, .f32⟩
  | .hbm, ⟨4, _⟩ => ⟨S384, .f32⟩
  | .hbm, ⟨5, _⟩ => ⟨S3x640, .i32⟩
  | .hbm, ⟨6, _⟩ => ⟨S3x640x10240, .bf16⟩
  | .hbm, ⟨7, _⟩ => ⟨S10240x384, .bf16⟩
  | .hbm, ⟨8, _⟩ => ⟨S3x640x320x32, .bf16⟩
  | .hbm, ⟨9, _⟩ => ⟨S3x640x320, .bf16⟩
  | .hbm, ⟨10, _⟩ => ⟨S3x640x320x1, .bf16⟩
  | .hbm, ⟨11, _⟩ => ⟨S3x640x320x32, .bf16⟩
  | .hbm, ⟨12, _⟩ => ⟨S3x640x320x32, .bf16⟩
  | .hbm, ⟨13, _⟩ => ⟨S3x640x10240, .bf16⟩
  | .hbm, ⟨14, _⟩ => ⟨S3x640x384, .f32⟩
  | .hbm, ⟨15, _⟩ => ⟨S1x1x384, .f32⟩
  | .hbm, ⟨16, _⟩ => ⟨S3x640x384, .f32⟩
  | .hbm, ⟨17, _⟩ => ⟨S3x640x384, .f32⟩
  | .hbm, ⟨18, _⟩ => ⟨S1x1x384, .f32⟩
  | .hbm, ⟨19, _⟩ => ⟨S3x640x384, .f32⟩
  | .hbm, ⟨20, _⟩ => ⟨S3x640x384, .f32⟩
  | .hbm, ⟨21, _⟩ => ⟨S_, .f32⟩
  | .hbm, ⟨22, _⟩ => ⟨S3x640x384, .f32⟩
  | .hbm, ⟨23, _⟩ => ⟨S3x640x384, .f32⟩
  | .hbm, ⟨24, _⟩ => ⟨S3x640x384, .bf16⟩
  | .hbm, ⟨25, _⟩ => ⟨S3x640x1, .i32⟩
  | .hbm, ⟨26, _⟩ => ⟨S200, .i32⟩
  | .hbm, ⟨27, _⟩ => ⟨S1x1x200, .i32⟩
  | .hbm, ⟨28, _⟩ => ⟨S3x640x200, .i32⟩
  | .hbm, ⟨29, _⟩ => ⟨S3x640x200, .i32⟩
  | .hbm, ⟨30, _⟩ => ⟨S3x640x200, .i1⟩
  | .hbm, ⟨31, _⟩ => ⟨S3x640x200, .i32⟩
  | .hbm, ⟨32, _⟩ => ⟨S_, .i32⟩
  | .hbm, ⟨33, _⟩ => ⟨S3x200, .i32⟩
  | .hbm, ⟨34, _⟩ => ⟨S3x640x200x1, .i1⟩
  | .hbm, ⟨35, _⟩ => ⟨S3x640x1x384, .f32⟩
  | .hbm, ⟨36, _⟩ => ⟨S_, .f32⟩
  | .hbm, ⟨37, _⟩ => ⟨S_, .f32⟩
  | .hbm, ⟨38, _⟩ => ⟨S3x640x200x384, .i1⟩
  | .hbm, ⟨39, _⟩ => ⟨S3x640x200x384, .f32⟩
  | .hbm, ⟨40, _⟩ => ⟨S3x640x200x384, .f32⟩
  | .hbm, ⟨41, _⟩ => ⟨S3x640x200x384, .f32⟩
  | .hbm, ⟨42, _⟩ => ⟨S_, .f32⟩
  | .hbm, ⟨43, _⟩ => ⟨S3x200x384, .f32⟩
  | .hbm, ⟨44, _⟩ => ⟨S3x200x1, .i32⟩
  | .hbm, ⟨45, _⟩ => ⟨S_, .i32⟩
  | .hbm, ⟨46, _⟩ => ⟨S3x200x1, .i32⟩
  | .hbm, ⟨47, _⟩ => ⟨S3x200x1, .i1⟩
  | .hbm, ⟨48, _⟩ => ⟨S_, .f32⟩
  | .hbm, ⟨49, _⟩ => ⟨S_, .f32⟩
  | .hbm, ⟨50, _⟩ => ⟨S3x200x384, .i1⟩
  | .hbm, ⟨51, _⟩ => ⟨S3x200x384, .f32⟩
  | .hbm, ⟨52, _⟩ => ⟨S3x200x384, .f32⟩
  | .hbm, ⟨53, _⟩ => ⟨S3x200x384, .bf16⟩
  | .local _ .vmem, ⟨0, _⟩ => ⟨S3x640x10240, .fp8e4m3⟩
  | .local _ .vmem, ⟨1, _⟩ => ⟨S10240x384, .fp8e4m3⟩
  | .local _ .vmem, ⟨2, _⟩ => ⟨S3x640x10240, .bf16⟩
  | .local _ .vmem, ⟨3, _⟩ => ⟨S10240x384, .bf16⟩
  | _, _ => ⟨S3x640x10240, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_0 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_v27 : Ref sig .tc := ⟨.hbm, 41, rfl⟩
abbrev main_cst_1 : Ref sig .tc := ⟨.hbm, 42, rfl⟩
abbrev main_v28 : Ref sig .tc := ⟨.hbm, 43, rfl⟩
abbrev main_v29 : Ref sig .tc := ⟨.hbm, 44, rfl⟩
abbrev main_c_2 : Ref sig .tc := ⟨.hbm, 45, rfl⟩
abbrev main_v30 : Ref sig .tc := ⟨.hbm, 46, rfl⟩
abbrev main_v31 : Ref sig .tc := ⟨.hbm, 47, rfl⟩
abbrev main_cst_3 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v32 : Ref sig .tc := ⟨.hbm, 52, rfl⟩
abbrev main_v33 : Ref sig .tc := ⟨.hbm, 53, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S3x640x10240 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S10240x384 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x640x10240 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10240x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.KernelModel.lean ====
/- What the scatter loop computes, as functions of tensors: the per-copy running maxima (`vacN`) and the voxel counts
   (`cntN`) after `n` rows, and the two lemmas that read one store of the loop as one step of them. -/
module

public import proofs.«01_k».proof.Proof.Gen.Kernel.Skeleton
public import Idealize.ShloMosaic.Lib.Exec
public import Idealize.ShloMosaic.Lib.Tactic
public import Idealize.ShloMosaic.Lib.WritesUnit
public import Idealize.ShloMosaic.Lib.PointwiseCore
public import Idealize.ShloMosaic.Lib.WordCmp

@[expose] public section

set_option maxRecDepth 16384

noncomputable section

namespace Cert.Kernel.Hand

open Cert.Kernel Cert.Kernel.Gen
open Idealize.ShloMosaic

variable {F : FTy → Type} [FloatOps F]

/-- The row of the accumulator that a point with voxel id `v` is kept in: the id, or row 200 if it is negative. -/
def slotOf (v : BitVec 32) : ℕ := (Scalar.select (Scalar.cmpi .sge v 0#32) v 200#32).toNat

/-- The point with voxel id `v` counts. -/
def counted (v : BitVec 32) : Bool := Scalar.cmpi .sge v 0#32 == 1#1

/-- One point folded into copy `u` of the running maxima: row `s` takes the maximum with `row`. -/
def updV (u s : ℕ) (row : Fin 384 → F .f32) (V : Vec F S8x208x384 .f32) : Vec F S8x208x384 .f32 :=
  fun y => if (y 0).val = u ∧ (y 1).val = s then FloatOps.maximumf (V y) (row (y 2)) else V y

/-- One point of batch `b` with voxel id `v` counted. -/
def updC (b : ℕ) (v : BitVec 32) (C : Vec F S3x200 .i32) : Vec F S3x200 .i32 :=
  fun y => if counted v = true ∧ (y 0).val = b ∧ (y 1).val = v.toNat then Scalar.addi (C y) 1#32 else C y

/-- The running maxima after `n` points: point `r` has features `hh r` and voxel id `idr r`, and goes to copy `r % 8`. -/
def vacN (V : Vec F S8x208x384 .f32) (hh : ℕ → Fin 384 → F .f32) (idr : ℕ → BitVec 32) : ℕ → Vec F S8x208x384 .f32
  | 0 => V
  | n + 1 => updV (n % 8) (slotOf (idr n)) (hh n) (vacN V hh idr n)

/-- The counts after `n` points of batch `b`. -/
def cntN (b : ℕ) (C : Vec F S3x200 .i32) (idr : ℕ → BitVec 32) : ℕ → Vec F S3x200 .i32
  | 0 => C
  | n + 1 => updC b (idr n) (cntN b C idr n)

/-- One step of the running maxima, at point `u` of a group of eight. -/
theorem vacN_succ (V : Vec F S8x208x384 .f32) (hh : ℕ → Fin 384 → F .f32) (idr : ℕ → BitVec 32) (k u : ℕ) (hu : u < 8) :
    vacN V hh idr (8 * k + u + 1) = updV u (slotOf (idr (8 * k + u))) (hh (8 * k + u)) (vacN V hh idr (8 * k + u)) := by
  show updV ((8 * k + u) % 8) _ _ _ = _
  rw [show (8 * k + u) % 8 = u by omega]

theorem updV_congr {u : ℕ} {v v' : BitVec 32} {row : Fin 384 → F .f32} {V V' : Vec F S8x208x384 .f32} (hv : v = v') (hV : V = V') :
    updV u (slotOf v) row V = updV u (slotOf v') row V' := by subst hv; subst hV; rfl

theorem updC_congr {b : ℕ} {v v' : BitVec 32} {C C' : Vec F S3x200 .i32} (hv : v = v') (hC : C = C') :
    updC b v C = updC b v' C' := by subst hv; subst hC; rfl

/-- One trip's eight steps of the running maxima. -/
theorem vacN_eight (V : Vec F S8x208x384 .f32) (hh : ℕ → Fin 384 → F .f32) (idr : ℕ → BitVec 32) (k : ℕ) :
    vacN V hh idr (8 * (k + 1)) = updV 7 (slotOf (idr (8 * k + 7))) (hh (8 * k + 7)) (updV 6 (slotOf (idr (8 * k + 6))) (hh (8 * k + 6)) (updV 5 (slotOf (idr (8 * k + 5))) (hh (8 * k + 5)) (updV 4 (slotOf (idr (8 * k + 4))) (hh (8 * k + 4)) (updV 3 (slotOf (idr (8 * k + 3))) (hh (8 * k + 3)) (updV 2 (slotOf (idr (8 * k + 2))) (hh (8 * k + 2)) (updV 1 (slotOf (idr (8 * k + 1))) (hh (8 * k + 1)) (updV 0 (slotOf (idr (8 * k + 0))) (hh (8 * k + 0)) (vacN V hh idr (8 * k))))))))) := by
  show vacN V hh idr (8 * k + 7 + 1) = _
  exact (vacN_succ V hh idr k 7 (by decide)).trans (updV_congr rfl ((vacN_succ V hh idr k 6 (by decide)).trans (updV_congr rfl ((vacN_succ V hh idr k 5 (by decide)).trans (updV_congr rfl ((vacN_succ V hh idr k 4 (by decide)).trans (updV_congr rfl ((vacN_succ V hh idr k 3 (by decide)).trans (updV_congr rfl ((vacN_succ V hh idr k 2 (by decide)).trans (updV_congr rfl ((vacN_succ V hh idr k 1 (by decide)).trans (updV_congr rfl ((vacN_succ V hh idr k 0 (by decide)).trans (updV_congr rfl (rfl))))))))))))))))

/-- One trip's eight steps of the counts. -/
theorem cntN_eight (b : ℕ) (C : Vec F S3x200 .i32) (idr : ℕ → BitVec 32) (k : ℕ) :
    cntN b C idr (8 * (k + 1)) = updC b (idr (8 * k + 7)) (updC b (idr (8 * k + 6)) (updC b (idr (8 * k + 5)) (updC b (idr (8 * k + 4)) (updC b (idr (8 * k + 3)) (updC b (idr (8 * k + 2)) (updC b (idr (8 * k + 1)) (updC b (idr (8 * k + 0)) (cntN b C idr (8 * k))))))))) := rfl

/-- Row `r` of a tile of point features. -/
def rowOf (H : Vec F S128x384 .f32) (r : ℕ) (c : Fin 384) : F .f32 := H (ix2 ⟨r % 128, Nat.mod_lt _ (by decide)⟩ c)

/-- The voxel id of point `n` of batch `b`. -/
def idOf (I : Vec F S3x640 .i32) (b n : ℕ) : BitVec 32 :=
  I (ix2 ⟨b % 3, Nat.mod_lt _ (by decide)⟩ ⟨n % 640, Nat.mod_lt _ (by decide)⟩)

/-- One store of the loop into the running maxima is one point folded in. -/
theorem read_vstep {κ κ' : Kind} {sp sp' : Space} (m12 : View sig κ sp S8x208x384 .f32) (m11 : View sig κ' sp' S128x384 .f32)
    (f : m12.ty.Contents (Elt F)) (L : List (View.Piece (Elt F) S8x208x384 .f32)) (f11 : m11.ty.Contents (Elt F))
    {off : Fin 3 → ℕ} (inb : ∀ a, off a + S1x1x384.size a ≤ S8x208x384.size a)
    {off11 : Fin 2 → ℕ} (inb11 : ∀ a, off11 a + S1x384.size a ≤ S128x384.size a)
    (u s r : ℕ) (hoff : off = ![u, s, 0]) (hoff11 : off11 = ![r, 0]) :
    m12.read (Elt F) (m12.writes (Elt F) f ((⟨Rect.unit (s := S8x208x384) off S1x1x384.size inb,
        k0_pay3 (m12.readAt (Elt F) (Rect.unit (s := S8x208x384) off S1x1x384.size inb).toLoadRect (m12.writes (Elt F) f L))
          (m11.readAt (Elt F) (Rect.unit (s := S128x384) off11 S1x384.size inb11).toLoadRect f11)⟩ : View.Piece (Elt F) S8x208x384 .f32) :: L))
      = updV u s (rowOf (m11.read (Elt F) f11) r) (m12.read (Elt F) (m12.writes (Elt F) f L)) := by
  subst hoff; subst hoff11
  have hr : r < 128 := by have := inb11 0; simp at this; omega
  funext y
  idx_vars y
  by_cases h : y0.val = u ∧ y1.val = s
  · obtain ⟨rfl, rfl⟩ := h
    rw [View.read_writes_cons_unit_of_mem m12 f inb _ L (ix3 y0 y1 y2) (ix3 (0 : Fin 1) (0 : Fin 1) y2) rfl (by
      intro a; fin_cases a <;> simp [ix3])]
    unfold k0_pay3 updV rowOf
    pointwise
    simp only [View.readAt_apply]
    have e1 : (Rect.unit (s := S8x208x384) ![y0.val, y1.val, 0] S1x1x384.size inb).toLoadRect.idx (ix3 (0 : Fin 1) (0 : Fin 1) y2) = ix3 y0 y1 y2 := by
      funext a; fin_cases a <;> apply Fin.ext <;> simp [ix3, LoadRect.idx]
    have e2 : (Rect.unit (s := S128x384) ![r, 0] S1x384.size inb11).toLoadRect.idx (ix2 (0 : Fin 1) y2) = ix2 ⟨r % 128, Nat.mod_lt _ (by decide)⟩ y2 := by
      funext a; fin_cases a <;> apply Fin.ext <;> simp [ix2, LoadRect.idx]; omega
    rw [e1, e2]
  · have hn : m12.read (Elt F) (m12.writes (Elt F) f ((⟨Rect.unit (s := S8x208x384) ![u, s, 0] S1x1x384.size inb,
        k0_pay3 (m12.readAt (Elt F) (Rect.unit (s := S8x208x384) ![u, s, 0] S1x1x384.size inb).toLoadRect (m12.writes (Elt F) f L))
          (m11.readAt (Elt F) (Rect.unit (s := S128x384) ![r, 0] S1x384.size inb11).toLoadRect f11)⟩ : View.Piece (Elt F) S8x208x384 .f32) :: L)) (ix3 y0 y1 y2)
        = m12.read (Elt F) (m12.writes (Elt F) f L) (ix3 y0 y1 y2) := by
      rcases not_and_or.mp h with h | h
      · exact View.read_writes_cons_unit_of_not_mem m12 f inb _ L (ix3 y0 y1 y2) rfl 0 (by simp [ix3]; omega)
      · exact View.read_writes_cons_unit_of_not_mem m12 f inb _ L (ix3 y0 y1 y2) rfl 1 (by simp [ix3]; omega)
    rw [hn]
    unfold updV
    exact (if_neg h).symm

/-- One counted point of the loop, or one that is not, is one step of the counts. -/
theorem read_cstep {κ : Kind} {sp : Space} (m9 : View sig κ sp S3x200 .i32)
    (f : m9.ty.Contents (Elt F)) {C : Prop} [Decidable C] {off : Fin 2 → ℕ} (inb : C → ∀ a, off a + S1x1.size a ≤ S3x200.size a)
    (h1 : 0 < S1x1.numel) (w : C → Elt F .i32) (b : ℕ) (v : BitVec 32) (hC : C ↔ counted v = true) (hoff : off = ![b, v.toNat])
    (hw : ∀ hc, w hc = Scalar.addi (m9.readAt (Elt F) (Rect.unit (s := S3x200) off S1x1.size (inb hc)).toLoadRect f (Shape.Idx.first h1)) 1#32) :
    m9.read (Elt F) (if hc : C then m9.writes (Elt F) f [⟨Rect.unit (s := S3x200) off S1x1.size (inb hc), fun _ => w hc⟩] else f)
      = updC b v (m9.read (Elt F) f) := by
  subst hoff
  funext y
  idx_vars y
  by_cases hc : C
  · rw [dif_pos hc]
    have hcv := hC.mp hc
    by_cases h : y0.val = b ∧ y1.val = v.toNat
    · obtain ⟨rfl, h2⟩ := h
      rw [View.read_writes_cons_unit_of_mem m9 f (inb hc) _ [] (ix2 y0 y1) (ix2 (0 : Fin 1) (0 : Fin 1)) rfl (by
        intro a; fin_cases a <;> simp [ix2, h2])]
      unfold updC
      rw [hw, View.readAt_apply]
      have e1 : (Rect.unit (s := S3x200) ![y0.val, v.toNat] S1x1.size (inb hc)).toLoadRect.idx (Shape.Idx.first h1) = ix2 y0 y1 := by
        funext a; fin_cases a <;> apply Fin.ext <;> simp [ix2, LoadRect.idx, Shape.Idx.first, h2]
      rw [e1]
      exact (if_pos ⟨hcv, rfl, h2⟩).symm
    · have hn : m9.read (Elt F) (m9.writes (Elt F) f [⟨Rect.unit (s := S3x200) ![b, v.toNat] S1x1.size (inb hc), fun _ => w hc⟩]) (ix2 y0 y1)
          = m9.read (Elt F) f (ix2 y0 y1) := by
        rcases not_and_or.mp h with h | h
        · exact View.read_writes_cons_unit_of_not_mem m9 f (inb hc) _ [] (ix2 y0 y1) rfl 0 (by simp [ix2]; omega)
        · exact View.read_writes_cons_unit_of_not_mem m9 f (inb hc) _ [] (ix2 y0 y1) rfl 1 (by simp [ix2]; omega)
      rw [hn]
      unfold updC
      exact (if_neg fun h' => h h'.2).symm
  · rw [dif_neg hc]
    unfold updC
    exact (if_neg fun h' => hc (hC.mpr h'.1)).symm

/-- The precondition on one voxel id: below the number of voxels (a negative id is dropped). -/
def idOK (v : BitVec 32) : Prop := v.slt 200#32 = true

theorem counted_iff (v : BitVec 32) : counted v = true ↔ 0 ≤ v.toInt := by
  have h : Scalar.cmpi .sge v 0#32 = BitVec.ofBool (decide (0 ≤ v.toInt)) := rfl
  unfold counted
  rw [h]
  by_cases h0 : 0 ≤ v.toInt <;> simp [h0]

theorem slotOf_of_counted {v : BitVec 32} (h : counted v = true) : slotOf v = v.toNat := by
  unfold counted at h
  unfold slotOf Scalar.select
  rw [if_pos (by simpa using h)]

theorem slotOf_of_not_counted {v : BitVec 32} (h : ¬ counted v = true) : slotOf v = 200 := by
  unfold counted at h
  unfold slotOf Scalar.select
  rw [if_neg (by simpa using h)]; rfl

theorem toNat_lt {v : BitVec 32} (hv : idOK v) (h : counted v = true) : v.toNat < 200 := by
  rw [counted_iff] at h
  have h2 : v.toInt < 200 := by
    have := hv; unfold idOK BitVec.slt at this; simpa using this
  have h3 := BitVec.toInt_eq_toNat_of_msb (x := v) (by
    rw [BitVec.msb_eq_toInt]; simp; omega)
  omega

theorem slotOf_le {v : BitVec 32} (hv : idOK v) : slotOf v ≤ 200 := by
  by_cases h : counted v = true
  · rw [slotOf_of_counted h]; exact (toNat_lt hv h).le
  · rw [slotOf_of_not_counted h]

theorem cond_iff (v : BitVec 32) : Scalar.cmpi .ne (Scalar.extui (Scalar.cmpi .sge v 0#32) : BitVec 32) 0#32 = 1#1 ↔ counted v = true := by
  unfold counted
  generalize Scalar.cmpi .sge v 0#32 = b
  revert b; decide

theorem inb_slot (u : ℕ) (hu : u < 8) {v : BitVec 32} (hv : idOK v) : ∀ a : Fin 3, (![u, slotOf v, 0] : Fin 3 → ℕ) a + S1x1x384.size a ≤ S8x208x384.size a := by
  have := slotOf_le hv
  intro a; fin_cases a <;> simp <;> omega

theorem inb_cell (i : grid0.Coords) {v : BitVec 32} (hv : idOK v) (hc : counted v = true) :
    ∀ a : Fin 2, (![(i 0).val, v.toNat] : Fin 2 → ℕ) a + S1x1.size a ≤ S3x200.size a := by
  have h1 := toNat_lt hv hc
  have h : (i 0).val < 3 := (i 0).isLt
  intro a; fin_cases a <;> simp <;> omega

theorem off3_eq (v : BitVec 32) : k0_off3 v = ![0, slotOf v, 0] := rfl
theorem off5_eq (i : grid0.Coords) (v : BitVec 32) : k0_off5 i v = ![(i 0).val, v.toNat] := by
  have h : (i 0).val < 3 := (i 0).isLt
  show ![(BitVec.ofNat 32 (i 0).val).toNat, v.toNat] = _
  rw [BitVec.toNat_ofNat, Nat.mod_eq_of_lt (by omega)]
theorem cond2_iff (v : BitVec 32) : k0_cond2 v = 1#1 ↔ counted v = true := cond_iff v
theorem off7_eq (v : BitVec 32) : k0_off7 v = ![1, slotOf v, 0] := rfl
theorem off9_eq (i : grid0.Coords) (v : BitVec 32) : k0_off9 i v = ![(i 0).val, v.toNat] := by
  have h : (i 0).val < 3 := (i 0).isLt
  show ![(BitVec.ofNat 32 (i 0).val).toNat, v.toNat] = _
  rw [BitVec.toNat_ofNat, Nat.mod_eq_of_lt (by omega)]
theorem cond3_iff (v : BitVec 32) : k0_cond3 v = 1#1 ↔ counted v = true := cond_iff v
theorem off11_eq (v : BitVec 32) : k0_off11 v = ![2, slotOf v, 0] := rfl
theorem off13_eq (i : grid0.Coords) (v : BitVec 32) : k0_off13 i v = ![(i 0).val, v.toNat] := by
  have h : (i 0).val < 3 := (i 0).isLt
  show ![(BitVec.ofNat 32 (i 0).val).toNat, v.toNat] = _
  rw [BitVec.toNat_ofNat, Nat.mod_eq_of_lt (by omega)]
theorem cond4_iff (v : BitVec 32) : k0_cond4 v = 1#1 ↔ counted v = true := cond_iff v
theorem off15_eq (v : BitVec 32) : k0_off15 v = ![3, slotOf v, 0] := rfl
theorem off17_eq (i : grid0.Coords) (v : BitVec 32) : k0_off17 i v = ![(i 0).val, v.toNat] := by
  have h : (i 0).val < 3 := (i 0).isLt
  show ![(BitVec.ofNat 32 (i 0).val).toNat, v.toNat] = _
  rw [BitVec.toNat_ofNat, Nat.mod_eq_of_lt (by omega)]
theorem cond5_iff (v : BitVec 32) : k0_cond5 v = 1#1 ↔ counted v = true := cond_iff v
theorem off19_eq (v : BitVec 32) : k0_off19 v = ![4, slotOf v, 0] := rfl
theorem off21_eq (i : grid0.Coords) (v : BitVec 32) : k0_off21 i v = ![(i 0).val, v.toNat] := by
  have h : (i 0).val < 3 := (i 0).isLt
  show ![(BitVec.ofNat 32 (i 0).val).toNat, v.toNat] = _
  rw [BitVec.toNat_ofNat, Nat.mod_eq_of_lt (by omega)]
theorem cond6_iff (v : BitVec 32) : k0_cond6 v = 1#1 ↔ counted v = true := cond_iff v
theorem off23_eq (v : BitVec 32) : k0_off23 v = ![5, slotOf v, 0] := rfl
theorem off25_eq (i : grid0.Coords) (v : BitVec 32) : k0_off25 i v = ![(i 0).val, v.toNat] := by
  have h : (i 0).val < 3 := (i 0).isLt
  show ![(BitVec.ofNat 32 (i 0).val).toNat, v.toNat] = _
  rw [BitVec.toNat_ofNat, Nat.mod_eq_of_lt (by omega)]
theorem cond7_iff (v : BitVec 32) : k0_cond7 v = 1#1 ↔ counted v = true := cond_iff v
theorem off27_eq (v : BitVec 32) : k0_off27 v = ![6, slotOf v, 0] := rfl
theorem off29_eq (i : grid0.Coords) (v : BitVec 32) : k0_off29 i v = ![(i 0).val, v.toNat] := by
  have h : (i 0).val < 3 := (i 0).isLt
  show ![(BitVec.ofNat 32 (i 0).val).toNat, v.toNat] = _
  rw [BitVec.toNat_ofNat, Nat.mod_eq_of_lt (by omega)]
theorem cond8_iff (v : BitVec 32) : k0_cond8 v = 1#1 ↔ counted v = true := cond_iff v
theorem off31_eq (v : BitVec 32) : k0_off31 v = ![7, slotOf v, 0] := rfl
theorem off33_eq (i : grid0.Coords) (v : BitVec 32) : k0_off33 i v = ![(i 0).val, v.toNat] := by
  have h : (i 0).val < 3 := (i 0).isLt
  show ![(BitVec.ofNat 32 (i 0).val).toNat, v.toNat] = _
  rw [BitVec.toNat_ofNat, Nat.mod_eq_of_lt (by omega)]
theorem cond9_iff (v : BitVec 32) : k0_cond9 v = 1#1 ↔ counted v = true := cond_iff v

theorem chk1 (i : grid0.Coords) {v : BitVec 32} (hv : idOK v) : k0_chk1 i v := by
  refine ⟨?_, fun hc => ?_⟩
  · rw [off3_eq]; exact inb_slot 0 (by decide) hv
  · rw [off5_eq]; exact inb_cell i hv ((cond2_iff v).mp hc)
theorem chk2 (i : grid0.Coords) {v : BitVec 32} (hv : idOK v) : k0_chk2 i v := by
  refine ⟨?_, fun hc => ?_⟩
  · rw [off7_eq]; exact inb_slot 1 (by decide) hv
  · rw [off9_eq]; exact inb_cell i hv ((cond3_iff v).mp hc)
theorem chk3 (i : grid0.Coords) {v : BitVec 32} (hv : idOK v) : k0_chk3 i v := by
  refine ⟨?_, fun hc => ?_⟩
  · rw [off11_eq]; exact inb_slot 2 (by decide) hv
  · rw [off13_eq]; exact inb_cell i hv ((cond4_iff v).mp hc)
theorem chk4 (i : grid0.Coords) {v : BitVec 32} (hv : idOK v) : k0_chk4 i v := by
  refine ⟨?_, fun hc => ?_⟩
  · rw [off15_eq]; exact inb_slot 3 (by decide) hv
  · rw [off17_eq]; exact inb_cell i hv ((cond5_iff v).mp hc)
theorem chk5 (i : grid0.Coords) {v : BitVec 32} (hv : idOK v) : k0_chk5 i v := by
  refine ⟨?_, fun hc => ?_⟩
  · rw [off19_eq]; exact inb_slot 4 (by decide) hv
  · rw [off21_eq]; exact inb_cell i hv ((cond6_iff v).mp hc)
theorem chk6 (i : grid0.Coords) {v : BitVec 32} (hv : idOK v) : k0_chk6 i v := by
  refine ⟨?_, fun hc => ?_⟩
  · rw [off23_eq]; exact inb_slot 5 (by decide) hv
  · rw [off25_eq]; exact inb_cell i hv ((cond7_iff v).mp hc)
theorem chk7 (i : grid0.Coords) {v : BitVec 32} (hv : idOK v) : k0_chk7 i v := by
  refine ⟨?_, fun hc => ?_⟩
  · rw [off27_eq]; exact inb_slot 6 (by decide) hv
  · rw [off29_eq]; exact inb_cell i hv ((cond8_iff v).mp hc)
theorem chk8 (i : grid0.Coords) {v : BitVec 32} (hv : idOK v) : k0_chk8 i v := by
  refine ⟨?_, fun hc => ?_⟩
  · rw [off31_eq]; exact inb_slot 7 (by decide) hv
  · rw [off33_eq]; exact inb_cell i hv ((cond9_iff v).mp hc)

end Cert.Kernel.Hand
-- ==== Proof.KernelTrip.lean ====
/- One trip of the scatter loop of the kernel, and the loop's invariant: eight points are folded into the running maxima and
   counted per trip. -/
module

public import proofs.«01_k».proof.Proof.Gen.Kernel.Loops
public import proofs.«01_k».proof.Proof.Gen.Kernel.Frame
public import proofs.«01_k».proof.Proof.KernelModel

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄G" => MT nD τ sig Unit (Elt F) ℕ (UR sig nD τ) ℕ

/-- The word the loop reads at a point's place is that point's voxel id. -/
theorem read_id {κ : Kind} {sp : Space} (m2 : View sig κ sp S3x640 .i32) (f2 : m2.ty.Contents (Elt F))
    {off : Fin 2 → ℕ} (inb : ∀ a, off a + S1x1.size a ≤ S3x640.size a) (h1 : 0 < S1x1.numel) (b n : ℕ) (hoff : off = ![b, n]) :
    m2.readAt (Elt F) (Rect.unit (s := S3x640) off S1x1.size inb).toLoadRect f2 (Shape.Idx.first h1) = idOf (m2.read (Elt F) f2) b n := by
  subst hoff
  have hb : b < 3 := by have := inb 0; simp at this; omega
  have hn : n < 640 := by have := inb 1; simp at this; omega
  rw [View.readAt_apply]
  unfold idOf
  congr 1
  funext a; fin_cases a <;> apply Fin.ext <;> simp [ix2, LoadRect.idx, Shape.Idx.first] <;> omega

/-- ONE TRIP at a symbolic `k`: points `8 k … 8 k + 7` of the tile. -/
theorem trip (𝒱 : Variants) (c : Dev nD) (bd : Option 𝒱.V) (E : Set ℕ) (i : grid0.Coords) (arg2 : Memref sig .tc .smem S3x640 .i32) (harg2 : arg2.IsWhole) (arg3 : Memref sig .tc .vmem S1x128x10240 .fp8e4m3) (harg3 : arg3.IsWhole) (arg4 : Memref sig .tc .vmem S1x128x320 .f32) (harg4 : arg4.IsWhole) (arg5 : Memref sig .tc .vmem S10240x384 .fp8e4m3) (harg5 : arg5.IsWhole) (arg6 : Memref sig .tc .vmem S1x384 .f32) (harg6 : arg6.IsWhole) (arg7 : Memref sig .tc .vmem S1x384 .f32) (harg7 : arg7.IsWhole) (arg8 : Memref sig .tc .vmem S1x200x384 .bf16) (harg8 : arg8.IsWhole) (arg9 : Memref sig .tc .smem S3x200 .i32) (harg9 : arg9.IsWhole) (arg10 : Memref sig .tc .vmem S1x128x384 .bf16) (harg10 : arg10.IsWhole) (arg11 : Memref sig .tc .vmem S128x384 .f32) (harg11 : arg11.IsWhole) (arg12 : Memref sig .tc .vmem S8x208x384 .f32) (harg12 : arg12.IsWhole) (arg0 : BitVec 32) (arg1 : BitVec 32)
    (k : Fin k0_t2_loop.trips) (f2 f9 f11 f12) (hids : ∀ j, idOK (arg2.view.read (Elt F) f2 j))
    (C : Vec F S3x200 .i32) (V : Vec F S8x208x384 .f32)
    (h9 : arg9.view.read (Elt F) f9 = cntN (i 0).val C (fun r => idOf (arg2.view.read (Elt F) f2) (i 0).val (128 * (i 1).val + r)) (8 * k.val))
    (h12 : arg12.view.read (Elt F) f12 = vacN V (rowOf (arg11.view.read (Elt F) f11)) (fun r => idOf (arg2.view.read (Elt F) f2) (i 0).val (128 * (i 1).val + r)) (8 * k.val)) :
    iprop((arg2.view.loc (c : Thread nD τ) ↦[arg2.view.set]{fullShare} f2) ∗ (arg9.view.loc (c : Thread nD τ) ↦[arg9.view.set]{fullShare} f9)
      ∗ (arg11.view.loc (c : Thread nD τ) ↦[arg11.view.set]{fullShare} f11) ∗ (arg12.view.loc (c : Thread nD τ) ↦[arg12.view.set]{fullShare} f12))
    ⊢ wp frame (wpE (defs₀ (F := F)) 𝒱 (c : Thread nD τ) bd) E (k0_t2_body i arg2 harg2 arg3 harg3 arg4 harg4 arg5 harg5 arg6 harg6 arg7 harg7 arg8 harg8 arg9 harg9 arg10 harg10 arg11 harg11 arg12 harg12 arg0 arg1 k ())
      (fun _ => (iprop((arg2.view.loc (c : Thread nD τ) ↦[arg2.view.set]{fullShare} f2) ∗ (arg11.view.loc (c : Thread nD τ) ↦[arg11.view.set]{fullShare} f11)
        ∗ (∃ f, ⌜arg9.view.read (Elt F) f = cntN (i 0).val C (fun r => idOf (arg2.view.read (Elt F) f2) (i 0).val (128 * (i 1).val + r)) (8 * (k.val + 1))⌝
            ∗ (arg9.view.loc (c : Thread nD τ) ↦[arg9.view.set]{fullShare} f))
        ∗ (∃ f, ⌜arg12.view.read (Elt F) f = vacN V (rowOf (arg11.view.read (Elt F) f11)) (fun r => idOf (arg2.view.read (Elt F) f2) (i 0).val (128 * (i 1).val + r)) (8 * (k.val + 1))⌝
            ∗ (arg12.view.loc (c : Thread nD τ) ↦[arg12.view.set]{fullShare} f))) : sProp 𝕄G)) := by
  have h1 : k0_chk1 i (View.readAt (Elt F) arg2.view (Rect.unit (s := S3x640) (k0_off2 i k) S1x1.size (k0_off2_inb i k)).toLoadRect f2 (Shape.Idx.first (numel1_S1x1.symm ▸ Nat.one_pos))) := chk1 i (hids _)
  have h2 : k0_chk2 i (View.readAt (Elt F) arg2.view (Rect.unit (s := S3x640) (k0_off6 i k) S1x1.size (k0_off6_inb i k)).toLoadRect f2 (Shape.Idx.first (numel1_S1x1.symm ▸ Nat.one_pos))) := chk2 i (hids _)
  have h3 : k0_chk3 i (View.readAt (Elt F) arg2.view (Rect.unit (s := S3x640) (k0_off10 i k) S1x1.size (k0_off10_inb i k)).toLoadRect f2 (Shape.Idx.first (numel1_S1x1.symm ▸ Nat.one_pos))) := chk3 i (hids _)
  have h4 : k0_chk4 i (View.readAt (Elt F) arg2.view (Rect.unit (s := S3x640) (k0_off14 i k) S1x1.size (k0_off14_inb i k)).toLoadRect f2 (Shape.Idx.first (numel1_S1x1.symm ▸ Nat.one_pos))) := chk4 i (hids _)
  have h5 : k0_chk5 i (View.readAt (Elt F) arg2.view (Rect.unit (s := S3x640) (k0_off18 i k) S1x1.size (k0_off18_inb i k)).toLoadRect f2 (Shape.Idx.first (numel1_S1x1.symm ▸ Nat.one_pos))) := chk5 i (hids _)
  have h6 : k0_chk6 i (View.readAt (Elt F) arg2.view (Rect.unit (s := S3x640) (k0_off22 i k) S1x1.size (k0_off22_inb i k)).toLoadRect f2 (Shape.Idx.first (numel1_S1x1.symm ▸ Nat.one_pos))) := chk6 i (hids _)
  have h7 : k0_chk7 i (View.readAt (Elt F) arg2.view (Rect.unit (s := S3x640) (k0_off26 i k) S1x1.size (k0_off26_inb i k)).toLoadRect f2 (Shape.Idx.first (numel1_S1x1.symm ▸ Nat.one_pos))) := chk7 i (hids _)
  have h8 : k0_chk8 i (View.readAt (Elt F) arg2.view (Rect.unit (s := S3x640) (k0_off30 i k) S1x1.size (k0_off30_inb i k)).toLoadRect f2 (Shape.Idx.first (numel1_S1x1.symm ▸ Nat.one_pos))) := chk8 i (hids _)
  unfold k0_t2_body
  iintro ⟨H2, H9, H11, H12⟩
  sl_exec
  sl_step
  isplitl [H2]; · iexact H2
  isplitl [H11]; · iexact H11
  isplitl [H9]
  · iexists _; isplitr; swap; · iexact H9
    ipureintro
    refine Eq.trans ?_ (cntN_eight _ _ _ _).symm
    refine (read_cstep arg9.view _ _ (numel1_S1x1.symm ▸ Nat.one_pos) _ (i 0).val _ (cond9_iff _) (off33_eq i _) (fun hc => rfl)).trans ?_
    refine updC_congr (read_id arg2.view f2 (k0_off30_inb i k) (numel1_S1x1.symm ▸ Nat.one_pos) (i 0).val (128 * (i 1).val + (8 * k.val + 7)) (k0_off30_eq i k)) ?_
    refine (read_cstep arg9.view _ _ (numel1_S1x1.symm ▸ Nat.one_pos) _ (i 0).val _ (cond8_iff _) (off29_eq i _) (fun hc => rfl)).trans ?_
    refine updC_congr (read_id arg2.view f2 (k0_off26_inb i k) (numel1_S1x1.symm ▸ Nat.one_pos) (i 0).val (128 * (i 1).val + (8 * k.val + 6)) (k0_off26_eq i k)) ?_
    refine (read_cstep arg9.view _ _ (numel1_S1x1.symm ▸ Nat.one_pos) _ (i 0).val _ (cond7_iff _) (off25_eq i _) (fun hc => rfl)).trans ?_
    refine updC_congr (read_id arg2.view f2 (k0_off22_inb i k) (numel1_S1x1.symm ▸ Nat.one_pos) (i 0).val (128 * (i 1).val + (8 * k.val + 5)) (k0_off22_eq i k)) ?_
    refine (read_cstep arg9.view _ _ (numel1_S1x1.symm ▸ Nat.one_pos) _ (i 0).val _ (cond6_iff _) (off21_eq i _) (fun hc => rfl)).trans ?_
    refine updC_congr (read_id arg2.view f2 (k0_off18_inb i k) (numel1_S1x1.symm ▸ Nat.one_pos) (i 0).val (128 * (i 1).val + (8 * k.val + 4)) (k0_off18_eq i k)) ?_
    refine (read_cstep arg9.view _ _ (numel1_S1x1.symm ▸ Nat.one_pos) _ (i 0).val _ (cond5_iff _) (off17_eq i _) (fun hc => rfl)).trans ?_
    refine updC_congr (read_id arg2.view f2 (k0_off14_inb i k) (numel1_S1x1.symm ▸ Nat.one_pos) (i 0).val (128 * (i 1).val + (8 * k.val + 3)) (k0_off14_eq i k)) ?_
    refine (read_cstep arg9.view _ _ (numel1_S1x1.symm ▸ Nat.one_pos) _ (i 0).val _ (cond4_iff _) (off13_eq i _) (fun hc => rfl)).trans ?_
    refine updC_congr (read_id arg2.view f2 (k0_off10_inb i k) (numel1_S1x1.symm ▸ Nat.one_pos) (i 0).val (128 * (i 1).val + (8 * k.val + 2)) (k0_off10_eq i k)) ?_
    refine (read_cstep arg9.view _ _ (numel1_S1x1.symm ▸ Nat.one_pos) _ (i 0).val _ (cond3_iff _) (off9_eq i _) (fun hc => rfl)).trans ?_
    refine updC_congr (read_id arg2.view f2 (k0_off6_inb i k) (numel1_S1x1.symm ▸ Nat.one_pos) (i 0).val (128 * (i 1).val + (8 * k.val + 1)) (k0_off6_eq i k)) ?_
    refine (read_cstep arg9.view _ _ (numel1_S1x1.symm ▸ Nat.one_pos) _ (i 0).val _ (cond2_iff _) (off5_eq i _) (fun hc => rfl)).trans ?_
    refine updC_congr (read_id arg2.view f2 (k0_off2_inb i k) (numel1_S1x1.symm ▸ Nat.one_pos) (i 0).val (128 * (i 1).val + (8 * k.val + 0)) (k0_off2_eq i k)) ?_
    exact h9
  · iexists _; isplitr; swap; · iexact H12
    ipureintro
    refine Eq.trans ?_ (vacN_eight _ _ _ _).symm
    refine (read_vstep arg12.view arg11.view f12 _ f11 _ _ 7 _ (8 * k.val + 7) (off31_eq _) (k0_off32_eq k)).trans ?_
    refine updV_congr (read_id arg2.view f2 (k0_off30_inb i k) (numel1_S1x1.symm ▸ Nat.one_pos) (i 0).val (128 * (i 1).val + (8 * k.val + 7)) (k0_off30_eq i k)) ?_
    refine (read_vstep arg12.view arg11.view f12 _ f11 _ _ 6 _ (8 * k.val + 6) (off27_eq _) (k0_off28_eq k)).trans ?_
    refine updV_congr (read_id arg2.view f2 (k0_off26_inb i k) (numel1_S1x1.symm ▸ Nat.one_pos) (i 0).val (128 * (i 1).val + (8 * k.val + 6)) (k0_off26_eq i k)) ?_
    refine (read_vstep arg12.view arg11.view f12 _ f11 _ _ 5 _ (8 * k.val + 5) (off23_eq _) (k0_off24_eq k)).trans ?_
    refine updV_congr (read_id arg2.view f2 (k0_off22_inb i k) (numel1_S1x1.symm ▸ Nat.one_pos) (i 0).val (128 * (i 1).val + (8 * k.val + 5)) (k0_off22_eq i k)) ?_
    refine (read_vstep arg12.view arg11.view f12 _ f11 _ _ 4 _ (8 * k.val + 4) (off19_eq _) (k0_off20_eq k)).trans ?_
    refine updV_congr (read_id arg2.view f2 (k0_off18_inb i k) (numel1_S1x1.symm ▸ Nat.one_pos) (i 0).val (128 * (i 1).val + (8 * k.val + 4)) (k0_off18_eq i k)) ?_
    refine (read_vstep arg12.view arg11.view f12 _ f11 _ _ 3 _ (8 * k.val + 3) (off15_eq _) (k0_off16_eq k)).trans ?_
    refine updV_congr (read_id arg2.view f2 (k0_off14_inb i k) (numel1_S1x1.symm ▸ Nat.one_pos) (i 0).val (128 * (i 1).val + (8 * k.val + 3)) (k0_off14_eq i k)) ?_
    refine (read_vstep arg12.view arg11.view f12 _ f11 _ _ 2 _ (8 * k.val + 2) (off11_eq _) (k0_off12_eq k)).trans ?_
    refine updV_congr (read_id arg2.view f2 (k0_off10_inb i k) (numel1_S1x1.symm ▸ Nat.one_pos) (i 0).val (128 * (i 1).val + (8 * k.val + 2)) (k0_off10_eq i k)) ?_
    refine (read_vstep arg12.view arg11.view f12 _ f11 _ _ 1 _ (8 * k.val + 1) (off7_eq _) (k0_off8_eq k)).trans ?_
    refine updV_congr (read_id arg2.view f2 (k0_off6_inb i k) (numel1_S1x1.symm ▸ Nat.one_pos) (i 0).val (128 * (i 1).val + (8 * k.val + 1)) (k0_off6_eq i k)) ?_
    refine (read_vstep arg12.view arg11.view f12 _ f11 _ _ 0 _ (8 * k.val + 0) (off3_eq _) (k0_off4_eq k)).trans ?_
    refine updV_congr (read_id arg2.view f2 (k0_off2_inb i k) (numel1_S1x1.symm ▸ Nat.one_pos) (i 0).val (128 * (i 1).val + (8 * k.val + 0)) (k0_off2_eq i k)) ?_
    exact h12

end Cert.Kernel.Hand
-- ==== Proof.KernelLoops.lean ====
/- The kernel body's two loops by their invariants: the counts of a batch's row set to zero, and the points of a tile folded
   into the running maxima and the counts. -/
module

public import proofs.«01_k».proof.Proof.Gen.Kernel.Loops
public import proofs.«01_k».proof.Proof.Gen.Kernel.Frame
public import proofs.«01_k».proof.Proof.KernelTrip

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄G" => MT nD τ sig Unit (Elt F) ℕ (UR sig nD τ) ℕ

/-- Row `b` of the counts after its first `n` cells are set to zero. -/
def zeroN (b : ℕ) (C : Vec F S3x200 .i32) (n : ℕ) : Vec F S3x200 .i32 :=
  fun y => if (y 0).val = b ∧ (y 1).val < n then 0#32 else C y

theorem zeroN_zero (b : ℕ) (C : Vec F S3x200 .i32) : C = zeroN b C 0 := by
  funext y
  exact (if_neg fun h => Nat.not_lt_zero _ h.2).symm

/-- One store of the zeroing loop. -/
theorem read_zstep {κ : Kind} {sp : Space} (m9 : View sig κ sp S3x200 .i32) (f : m9.ty.Contents (Elt F)) {off : Fin 2 → ℕ}
    (inb : ∀ a, off a + S1x1.size a ≤ S3x200.size a) (b n : ℕ) (hoff : off = ![b, n]) (C : Vec F S3x200 .i32)
    (hf : m9.read (Elt F) f = zeroN b C n) :
    m9.read (Elt F) (m9.writes (Elt F) f [⟨Rect.unit (s := S3x200) off S1x1.size inb, fun _ => (0#32 : Elt F .i32)⟩]) = zeroN b C (n + 1) := by
  subst hoff
  funext y
  idx_vars y
  by_cases h : y0.val = b ∧ y1.val = n
  · obtain ⟨rfl, rfl⟩ := h
    rw [View.read_writes_cons_unit_of_mem m9 f inb _ [] (ix2 y0 y1) (ix2 (0 : Fin 1) (0 : Fin 1)) rfl (by
      intro a; fin_cases a <;> simp [ix2])]
    simp [zeroN, ix2]
  · have hn : m9.read (Elt F) (m9.writes (Elt F) f [⟨Rect.unit (s := S3x200) ![b, n] S1x1.size inb, fun _ => (0#32 : Elt F .i32)⟩]) (ix2 y0 y1)
        = m9.read (Elt F) f (ix2 y0 y1) := by
      rcases not_and_or.mp h with h | h
      · exact View.read_writes_cons_unit_of_not_mem m9 f inb _ [] (ix2 y0 y1) rfl 0 (by simp [ix2]; omega)
      · exact View.read_writes_cons_unit_of_not_mem m9 f inb _ [] (ix2 y0 y1) rfl 1 (by simp [ix2]; omega)
    rw [hn, hf]
    simp only [zeroN, ix2]
    have e : (y0.val = b ∧ y1.val < n) ↔ (y0.val = b ∧ y1.val < n + 1) := by omega
    exact if_congr e rfl rfl

/-- ONE TRIP of the zeroing loop. -/
theorem trip1 (𝒱 : Variants) (c : Dev nD) (bd : Option 𝒱.V) (E : Set ℕ) (i : grid0.Coords) (arg2 : Memref sig .tc .smem S3x640 .i32) (harg2 : arg2.IsWhole) (arg3 : Memref sig .tc .vmem S1x128x10240 .fp8e4m3) (harg3 : arg3.IsWhole) (arg4 : Memref sig .tc .vmem S1x128x320 .f32) (harg4 : arg4.IsWhole) (arg5 : Memref sig .tc .vmem S10240x384 .fp8e4m3) (harg5 : arg5.IsWhole) (arg6 : Memref sig .tc .vmem S1x384 .f32) (harg6 : arg6.IsWhole) (arg7 : Memref sig .tc .vmem S1x384 .f32) (harg7 : arg7.IsWhole) (arg8 : Memref sig .tc .vmem S1x200x384 .bf16) (harg8 : arg8.IsWhole) (arg9 : Memref sig .tc .smem S3x200 .i32) (harg9 : arg9.IsWhole) (arg10 : Memref sig .tc .vmem S1x128x384 .bf16) (harg10 : arg10.IsWhole) (arg11 : Memref sig .tc .vmem S128x384 .f32) (harg11 : arg11.IsWhole) (arg12 : Memref sig .tc .vmem S8x208x384 .f32) (harg12 : arg12.IsWhole) (k0_h1 : k0_cond1 i = 1#1)
    (k : Fin k0_t1_loop.trips) (f9) (C : Vec F S3x200 .i32) (h9 : arg9.view.read (Elt F) f9 = zeroN (i 0).val C k.val) :
    iprop((arg9.view.loc (c : Thread nD τ) ↦[arg9.view.set]{fullShare} f9))
    ⊢ wp frame (wpE (defs₀ (F := F)) 𝒱 (c : Thread nD τ) bd) E (k0_t1_body i arg2 harg2 arg3 harg3 arg4 harg4 arg5 harg5 arg6 harg6 arg7 harg7 arg8 harg8 arg9 harg9 arg10 harg10 arg11 harg11 arg12 harg12 k0_h1 k ())
      (fun _ => (iprop(∃ f, (arg9.view.loc (c : Thread nD τ) ↦[arg9.view.set]{fullShare} f) ∗ ⌜arg9.view.read (Elt F) f = zeroN (i 0).val C (k.val + 1)⌝) : sProp 𝕄G)) := by
  have hk : k.val < 200 := Nat.lt_of_lt_of_le k.isLt k0_t1_abs.2.1
  unfold k0_t1_body
  iintro H9
  sl_exec
  sl_step
  iexists _; isplitl [H9]; · iexact H9
  ipureintro
  exact read_zstep arg9.view f9 _ (i 0).val k.val (k0_off1_eq i k) C h9

/-- The zeroing loop by its invariant. -/
@[reducible] def loop1 (𝒱 : Variants) (c : Dev nD) (bd : Option 𝒱.V) (E : Set ℕ) (i : grid0.Coords) (arg2 : Memref sig .tc .smem S3x640 .i32) (harg2 : arg2.IsWhole) (arg3 : Memref sig .tc .vmem S1x128x10240 .fp8e4m3) (harg3 : arg3.IsWhole) (arg4 : Memref sig .tc .vmem S1x128x320 .f32) (harg4 : arg4.IsWhole) (arg5 : Memref sig .tc .vmem S10240x384 .fp8e4m3) (harg5 : arg5.IsWhole) (arg6 : Memref sig .tc .vmem S1x384 .f32) (harg6 : arg6.IsWhole) (arg7 : Memref sig .tc .vmem S1x384 .f32) (harg7 : arg7.IsWhole) (arg8 : Memref sig .tc .vmem S1x200x384 .bf16) (harg8 : arg8.IsWhole) (arg9 : Memref sig .tc .smem S3x200 .i32) (harg9 : arg9.IsWhole) (arg10 : Memref sig .tc .vmem S1x128x384 .bf16) (harg10 : arg10.IsWhole) (arg11 : Memref sig .tc .vmem S128x384 .f32) (harg11 : arg11.IsWhole) (arg12 : Memref sig .tc .vmem S8x208x384 .f32) (harg12 : arg12.IsWhole) (k0_h1 : k0_cond1 i = 1#1) (G_arg9 : BufTy.Contents (Elt F) arg9.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 k0_h1 where
  inv k _ := iprop(∃ f, (arg9.view.loc (c : Thread nD τ) ↦[arg9.view.set]{fullShare} f) ∗ ⌜arg9.view.read (Elt F) f = zeroN (i 0).val (arg9.view.read (Elt F) G_arg9) k⌝)
  step k acc := by
    iintro ⟨%f9, H9, %h9⟩
    iapply (trip1 (F := F) 𝒱 c bd E i arg2 harg2 arg3 harg3 arg4 harg4 arg5 harg5 arg6 harg6 arg7 harg7 arg8 harg8 arg9 harg9 arg10 harg10 arg11 harg11 arg12 harg12 k0_h1 k f9 _ h9)
    iexact H9

set_option warn.classDefReducibility false in
/-- The scatter loop by its invariant. -/
@[sl_loop] def loop2 (𝒱 : Variants) (c : Dev nD) (bd : Option 𝒱.V) (E : Set ℕ) (i : grid0.Coords) (arg2 : Memref sig .tc .smem S3x640 .i32) (harg2 : arg2.IsWhole) (arg3 : Memref sig .tc .vmem S1x128x10240 .fp8e4m3) (harg3 : arg3.IsWhole) (arg4 : Memref sig .tc .vmem S1x128x320 .f32) (harg4 : arg4.IsWhole) (arg5 : Memref sig .tc .vmem S10240x384 .fp8e4m3) (harg5 : arg5.IsWhole) (arg6 : Memref sig .tc .vmem S1x384 .f32) (harg6 : arg6.IsWhole) (arg7 : Memref sig .tc .vmem S1x384 .f32) (harg7 : arg7.IsWhole) (arg8 : Memref sig .tc .vmem S1x200x384 .bf16) (harg8 : arg8.IsWhole) (arg9 : Memref sig .tc .smem S3x200 .i32) (harg9 : arg9.IsWhole) (arg10 : Memref sig .tc .vmem S1x128x384 .bf16) (harg10 : arg10.IsWhole) (arg11 : Memref sig .tc .vmem S128x384 .f32) (harg11 : arg11.IsWhole) (arg12 : Memref sig .tc .vmem S8x208x384 .f32) (harg12 : arg12.IsWhole) (arg0 : BitVec 32) (arg1 : BitVec 32)
    (X_arg2 : BufTy.Contents (Elt F) arg2.view.ty) (X_arg11 : BufTy.Contents (Elt F) arg11.view.ty) (G_arg9 : BufTy.Contents (Elt F) arg9.view.ty) (G_arg12 : BufTy.Contents (Elt F) arg12.view.ty)
    (hids : ∀ j, idOK (arg2.view.read (Elt F) X_arg2 j)) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg0 arg1 where
  inv k _ := iprop((arg2.view.loc (c : Thread nD τ) ↦[arg2.view.set]{fullShare} X_arg2) ∗ (arg11.view.loc (c : Thread nD τ) ↦[arg11.view.set]{fullShare} X_arg11)
    ∗ (∃ f, (arg9.view.loc (c : Thread nD τ) ↦[arg9.view.set]{fullShare} f) ∗ ⌜arg9.view.read (Elt F) f = cntN (i 0).val (arg9.view.read (Elt F) G_arg9) (fun r => idOf (arg2.view.read (Elt F) X_arg2) (i 0).val (128 * (i 1).val + r)) (8 * k)⌝)
    ∗ (∃ f, (arg12.view.loc (c : Thread nD τ) ↦[arg12.view.set]{fullShare} f) ∗ ⌜arg12.view.read (Elt F) f = vacN (arg12.view.read (Elt F) G_arg12) (rowOf (arg11.view.read (Elt F) X_arg11)) (fun r => idOf (arg2.view.read (Elt F) X_arg2) (i 0).val (128 * (i 1).val + r)) (8 * k)⌝))
  step k acc := by
    iintro ⟨H2, H11, ⟨%f9, H9, %h9⟩, ⟨%f12, H12, %h12⟩⟩
    iapply (wp_wand_r Idealize.ShloMosaic.frame (wpE (defs₀ (F := F)) 𝒱 (c : Thread nD τ) bd) E)
    isplitl [H2 H9 H11 H12]
    · iapply (trip (F := F) 𝒱 c bd E i arg2 harg2 arg3 harg3 arg4 harg4 arg5 harg5 arg6 harg6 arg7 harg7 arg8 harg8 arg9 harg9 arg10 harg10 arg11 harg11 arg12 harg12 arg0 arg1 k X_arg2 f9 X_arg11 f12 hids _ _ h9 h12)
      isplitl [H2]; · iexact H2
      isplitl [H9]; · iexact H9
      isplitl [H11]; · iexact H11
      iexact H12
    · iintro %_ ⟨H2, H11, ⟨%f9', %h9', H9⟩, ⟨%f12', %h12', H12⟩⟩
      isplitl [H2]; · iexact H2
      isplitl [H11]; · iexact H11
      isplitl [H9]
      · iexists _; isplitl [H9]; · iexact H9
        ipureintro; exact h9'
      · iexists _; isplitl [H12]; · iexact H12
        ipureintro; exact h12'

end Cert.Kernel.Hand
-- ==== Proof.KernelBody.lean ====
/- The kernel body's run at one grid point, as a statement about what its windows and scratch buffers read afterwards. -/
module

public import proofs.«01_k».proof.Proof.Gen.Kernel.Loops
public import proofs.«01_k».proof.Proof.Gen.Kernel.Frame
public import proofs.«01_k».proof.Proof.KernelLoops
public import Idealize.ShloMosaic.Lib.VecWindow

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄G" => MT nD τ sig Unit (Elt F) ℕ (UR sig nD τ) ℕ

theorem cond1_iff (i : grid0.Coords) : k0_cond1 i = 1#1 ↔ (i 1).val = 0 := by
  have h : ∀ n : Fin 5, (Scalar.cmpi .ne (Scalar.extui (Scalar.cmpi .eq (BitVec.ofNat 32 n.val) 0#32) : BitVec 32) 0#32 = 1#1 ↔ n.val = 0) := by decide
  exact h (i 1)

theorem cond10_iff (i : grid0.Coords) : k0_cond10 i = 1#1 ↔ (i 1).val = 4 := by
  have h : ∀ n : Fin 5, (Scalar.cmpi .ne (Scalar.extui (Scalar.cmpi .eq (BitVec.ofNat 32 n.val) 4#32) : BitVec 32) 0#32 = 1#1 ↔ n.val = 4) := by decide
  exact h (i 1)

theorem trips1 : Scf.trips k0_t1_loop.lb k0_t1_loop.ub k0_t1_loop.st = 200 := by decide
theorem trips2 : Scf.trips k0_t2_loop.lb k0_t2_loop.ub k0_t2_loop.st = 16 := by decide

/-- Copy `u` of the running maxima. -/
def planeOf (u : ℕ) (V : Vec F S8x208x384 .f32) : Vec F S1x208x384 .f32 := fun x => V (ix3 ⟨u % 8, Nat.mod_lt _ (by decide)⟩ (x 1) (x 2))

/-- The voxel features of a batch, from the running maxima. -/
def voxOf (V : Vec F S8x208x384 .f32) : Vec F S1x200x384 .bf16 :=
  k0_pay4 (planeOf 0 V) (planeOf 1 V) (planeOf 2 V) (planeOf 3 V) (planeOf 4 V) (planeOf 5 V) (planeOf 6 V) (planeOf 7 V)

theorem plane_read {κ : Kind} {sp : Space} (m : View sig κ sp S8x208x384 .f32) (f : m.ty.Contents (Elt F)) (u : ℕ) (hu : u < 8)
    (b : ∀ a, ![u, 0, 0] a + S1x208x384.size a ≤ S8x208x384.size a) :
    m.readAt (Elt F) (Rect.unit (s := S8x208x384) ![u, 0, 0] S1x208x384.size b).toLoadRect f = planeOf u (m.read (Elt F) f) := by
  funext x
  idx_vars x
  rw [View.readAt_apply]
  unfold planeOf
  congr 1
  funext a; fin_cases a <;> apply Fin.ext <;> simp [ix3, LoadRect.idx] <;> omega

/-- The eight planes the last tile loads are the eight copies. -/
theorem vox_read {κ : Kind} {sp : Space} (m : View sig κ sp S8x208x384 .f32) (f : m.ty.Contents (Elt F))
    (b0 : ∀ a, ![0, 0, 0] a + S1x208x384.size a ≤ S8x208x384.size a) (b1 : ∀ a, ![1, 0, 0] a + S1x208x384.size a ≤ S8x208x384.size a) (b2 : ∀ a, ![2, 0, 0] a + S1x208x384.size a ≤ S8x208x384.size a) (b3 : ∀ a, ![3, 0, 0] a + S1x208x384.size a ≤ S8x208x384.size a) (b4 : ∀ a, ![4, 0, 0] a + S1x208x384.size a ≤ S8x208x384.size a) (b5 : ∀ a, ![5, 0, 0] a + S1x208x384.size a ≤ S8x208x384.size a) (b6 : ∀ a, ![6, 0, 0] a + S1x208x384.size a ≤ S8x208x384.size a) (b7 : ∀ a, ![7, 0, 0] a + S1x208x384.size a ≤ S8x208x384.size a) :
    k0_pay4 (m.readAt (Elt F) (Rect.unit (s := S8x208x384) ![0, 0, 0] S1x208x384.size b0).toLoadRect f) (m.readAt (Elt F) (Rect.unit (s := S8x208x384) ![1, 0, 0] S1x208x384.size b1).toLoadRect f) (m.readAt (Elt F) (Rect.unit (s := S8x208x384) ![2, 0, 0] S1x208x384.size b2).toLoadRect f) (m.readAt (Elt F) (Rect.unit (s := S8x208x384) ![3, 0, 0] S1x208x384.size b3).toLoadRect f) (m.readAt (Elt F) (Rect.unit (s := S8x208x384) ![4, 0, 0] S1x208x384.size b4).toLoadRect f) (m.readAt (Elt F) (Rect.unit (s := S8x208x384) ![5, 0, 0] S1x208x384.size b5).toLoadRect f) (m.readAt (Elt F) (Rect.unit (s := S8x208x384) ![6, 0, 0] S1x208x384.size b6).toLoadRect f) (m.readAt (Elt F) (Rect.unit (s := S8x208x384) ![7, 0, 0] S1x208x384.size b7).toLoadRect f) = voxOf (m.read (Elt F) f) := by
  rw [plane_read m f 0 (by decide) b0, plane_read m f 1 (by decide) b1, plane_read m f 2 (by decide) b2, plane_read m f 3 (by decide) b3, plane_read m f 4 (by decide) b4, plane_read m f 5 (by decide) b5, plane_read m f 6 (by decide) b6, plane_read m f 7 (by decide) b7]
  rfl

/-- The running maxima a tile starts from. -/
def vac0 (i : grid0.Coords) (V : Vec F S8x208x384 .f32) : Vec F S8x208x384 .f32 := if (i 1).val = 0 then k0_pay13 else V

/-- The counts a tile starts from. -/
def cnt0 (i : grid0.Coords) (C : Vec F S3x200 .i32) : Vec F S3x200 .i32 := if (i 1).val = 0 then zeroN (i 0).val C 200 else C

/-- THE BODY'S RUN at a grid point. The pieces it writes into the point-features window and the tile buffer are the run's own finds. -/
def bodyRun (𝒱 : Variants) (c : Dev nD) (bd : Option 𝒱.V) (E : Set ℕ) (i : grid0.Coords) (arg2 : Memref sig .tc .smem S3x640 .i32) (harg2 : arg2.IsWhole) (arg3 : Memref sig .tc .vmem S1x128x10240 .fp8e4m3) (harg3 : arg3.IsWhole) (arg4 : Memref sig .tc .vmem S1x128x320 .f32) (harg4 : arg4.IsWhole) (arg5 : Memref sig .tc .vmem S10240x384 .fp8e4m3) (harg5 : arg5.IsWhole) (arg6 : Memref sig .tc .vmem S1x384 .f32) (harg6 : arg6.IsWhole) (arg7 : Memref sig .tc .vmem S1x384 .f32) (harg7 : arg7.IsWhole) (arg8 : Memref sig .tc .vmem S1x200x384 .bf16) (harg8 : arg8.IsWhole) (arg9 : Memref sig .tc .smem S3x200 .i32) (harg9 : arg9.IsWhole) (arg10 : Memref sig .tc .vmem S1x128x384 .bf16) (harg10 : arg10.IsWhole) (arg11 : Memref sig .tc .vmem S128x384 .f32) (harg11 : arg11.IsWhole) (arg12 : Memref sig .tc .vmem S8x208x384 .f32) (harg12 : arg12.IsWhole)
    (f3 f4 f5 f6 f7) :
    { L : List (View.Piece (Elt F) S1x128x384 .bf16) × List (View.Piece (Elt F) S128x384 .f32) //
      ∀ (f2 f8 f9 f10 f11 f12) (_ : ∀ j, idOK (arg2.view.read (Elt F) f2 j)), iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12))
    ⊢ wp frame (wpE (defs₀ (F := F)) 𝒱 (c : Thread nD τ) bd) E (cc0_pfn_scatter_max_skel (F := F) i arg2 harg2 arg3 harg3 arg4 harg4 arg5 harg5 arg6 harg6 arg7 harg7 arg8 harg8 arg9 harg9 arg10 harg10 arg11 harg11 arg12 harg12)
      (fun _ => (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7)
        ∗ (arg10.view.loc (c : Thread nD τ) ↦[arg10.view.set]{fullShare} arg10.view.writes (Elt F) arg10.view.junk L.1) ∗ (arg11.view.loc (c : Thread nD τ) ↦[arg11.view.set]{fullShare} arg11.view.writes (Elt F) arg11.view.junk L.2)
        ∗ (∃ g, ⌜arg9.view.read (Elt F) g = cntN (i 0).val (cnt0 i (arg9.view.read (Elt F) f9)) (fun r => idOf (arg2.view.read (Elt F) f2) (i 0).val (128 * (i 1).val + r)) 128⌝ ∗ (arg9.view.loc (c : Thread nD τ) ↦[arg9.view.set]{fullShare} g))
        ∗ (∃ g, ⌜arg12.view.read (Elt F) g = vacN (vac0 i (arg12.view.read (Elt F) f12)) (rowOf (arg11.view.read (Elt F) (arg11.view.writes (Elt F) arg11.view.junk L.2))) (fun r => idOf (arg2.view.read (Elt F) f2) (i 0).val (128 * (i 1).val + r)) 128⌝ ∗ (arg12.view.loc (c : Thread nD τ) ↦[arg12.view.set]{fullShare} g))
        ∗ (∃ g, ⌜(i 1).val = 4 → arg8.view.read (Elt F) g = voxOf (vacN (vac0 i (arg12.view.read (Elt F) f12)) (rowOf (arg11.view.read (Elt F) (arg11.view.writes (Elt F) arg11.view.junk L.2))) (fun r => idOf (arg2.view.read (Elt F) f2) (i 0).val (128 * (i 1).val + r)) 128)⌝ ∗ (arg8.view.loc (c : Thread nD τ) ↦[arg8.view.set]{fullShare} g))) : sProp 𝕄G)) } := by
  refine ⟨(?_, ?_), fun f2 f8 f9 f10 f11 f12 hids => ?run⟩
  case run =>
    have hz := zeroN_zero (i 0).val (arg9.view.read (Elt F) f9)
    unfold cc0_pfn_scatter_max_skel
    by_cases hc1 : k0_cond1 i = 1#1
    · have hc10 : ¬ k0_cond10 i = 1#1 := by rw [cond10_iff]; have := (cond1_iff i).mp hc1; omega
      let L1 := loop1 (F := F) 𝒱 c bd E i arg2 harg2 arg3 harg3 arg4 harg4 arg5 harg5 arg6 harg6 arg7 harg7 arg8 harg8 arg9 harg9 arg10 harg10 arg11 harg11 arg12 harg12 hc1 f9
      have h0 := (cond1_iff i).mp hc1
      iintro ⟨H2, H3, H4, H5, H6, H7, H8, H9, H10, H11, H12⟩
      sl_exec
      sl_step
      isplitl [H2]; · iexact H2
      isplitl [H3]; · iexact H3
      isplitl [H4]; · iexact H4
      isplitl [H5]; · iexact H5
      isplitl [H6]; · iexact H6
      isplitl [H7]; · iexact H7
      isplitl [H10]; · iexact H10
      isplitl [H11]; · iexact H11
      isplitl [H9]
      · iexists fL1; isplitr; swap; · iexact H9
        ipureintro
        exact by
            have e2 := ‹arg9.view.read (Elt F) fL1 = cntN _ _ _ _›
            have e1 := ‹arg9.view.read (Elt F) fL0 = zeroN _ _ _›
            rw [trips2, e1, trips1] at e2
            rw [e2, cnt0, if_pos h0]
      isplitl [H12]
      · iexists fL2; isplitr; swap; · iexact H12
        ipureintro
        exact by
            have e2 := ‹arg12.view.read (Elt F) fL2 = vacN _ _ _ _›
            rw [trips2] at e2
            refine e2.trans ?_
            rw [vac0, if_pos h0]
            exact congrArg (fun V => vacN V _ _ 128) (View.read_writes_full arg12.view _ _ _ _)
      · iexists _; isplitr; swap; · iexact H8
        ipureintro
        exact fun h => absurd h (by omega)
    · have h0 : ¬ (i 1).val = 0 := fun h => hc1 ((cond1_iff i).mpr h)
      by_cases hc10 : k0_cond10 i = 1#1
      · iintro ⟨H2, H3, H4, H5, H6, H7, H8, H9, H10, H11, H12⟩
        sl_exec
        sl_step
        isplitl [H2]; · iexact H2
        isplitl [H3]; · iexact H3
        isplitl [H4]; · iexact H4
        isplitl [H5]; · iexact H5
        isplitl [H6]; · iexact H6
        isplitl [H7]; · iexact H7
        isplitl [H10]; · iexact H10
        isplitl [H11]; · iexact H11
        isplitl [H9]
        · iexists fL0; isplitr; swap; · iexact H9
          ipureintro
          exact by
              have e2 := ‹arg9.view.read (Elt F) fL0 = cntN _ _ _ _›
              rw [trips2] at e2
              rw [e2, cnt0, if_neg h0]
        have e2 := hL5
        rw [trips2] at e2
        have ev : vac0 i (arg12.view.read (Elt F) f12) = arg12.view.read (Elt F) f12 := by rw [vac0, if_neg h0]
        isplitl [H12]
        · iexists fL1; isplitr; swap; · iexact H12
          ipureintro
          rw [ev]
          exact e2
        · iexists _; isplitr; swap; · iexact H8
          ipureintro
          intro _
          rw [ev]
          exact (View.read_writes_full arg8.view _ _ _ _).trans ((vox_read arg12.view fL1 _ _ _ _ _ _ _ _).trans (congrArg voxOf e2))
      · have h4 : ¬ (i 1).val = 4 := fun h => hc10 ((cond10_iff i).mpr h)
        iintro ⟨H2, H3, H4, H5, H6, H7, H8, H9, H10, H11, H12⟩
        sl_exec
        sl_step
        isplitl [H2]; · iexact H2
        isplitl [H3]; · iexact H3
        isplitl [H4]; · iexact H4
        isplitl [H5]; · iexact H5
        isplitl [H6]; · iexact H6
        isplitl [H7]; · iexact H7
        isplitl [H10]; · iexact H10
        isplitl [H11]; · iexact H11
        isplitl [H9]
        · iexists fL0; isplitr; swap; · iexact H9
          ipureintro
          exact by
              have e2 := ‹arg9.view.read (Elt F) fL0 = cntN _ _ _ _›
              rw [trips2] at e2
              rw [e2, cnt0, if_neg h0]
        isplitl [H12]
        · iexists fL1; isplitr; swap; · iexact H12
          ipureintro
          exact by
              have e2 := ‹arg12.view.read (Elt F) fL1 = vacN _ _ _ _›
              rw [trips2] at e2
              refine e2.trans ?_
              rw [vac0, if_neg h0]
              rfl
        · iexists _; isplitr; swap; · iexact H8
          ipureintro
          exact fun h => absurd h h4

end Cert.Kernel.Hand
-- ==== Proof.KernelTile.lean ====
/- The features of one tile of points, as the kernel body computes them: blocks of 128 dequantized columns, five chunks of
   sixteen blocks, each chunk multiplied with its rows of the weights. -/
module

public import proofs.«01_k».proof.Proof.Gen.Kernel.Loops
public import proofs.«01_k».proof.Proof.Gen.Kernel.Frame
public import proofs.«01_k».proof.Proof.KernelBody

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄G" => MT nD τ sig Unit (Elt F) ℕ (UR sig nD τ) ℕ

/-- A load of 128 columns of the tile's quantized features. -/
def ldX (X : Vec F S1x128x10240 .fp8e4m3) (off : Fin 3 → ℕ) (inb : ∀ a, off a + S1x128x128.size a ≤ S1x128x10240.size a) : Vec F S1x128x128 .fp8e4m3 :=
  fun x => X ((Rect.unit (s := S1x128x10240) off S1x128x128.size inb).toLoadRect.idx x)

/-- A load of 2048 rows of the weights. -/
def ldW (W : Vec F S10240x384 .fp8e4m3) (off : Fin 2 → ℕ) (inb : ∀ a, off a + S2048x384.size a ≤ S10240x384.size a) : Vec F S2048x384 .fp8e4m3 :=
  fun x => W ((Rect.unit (s := S10240x384) off S2048x384.size inb).toLoadRect.idx x)

/-- The first 128 scales of each point. -/
def sTile0 (XS : Vec F S1x128x320 .f32) : FVec F S128x128 .bf16 :=
  truncf .bf16 (shapeCast S128x128 (fun x => XS ((Rect.unit (s := S1x128x320) ![0, 0, 0] S1x128x128.size inb_S1x128x320_S1x128x128_0_0_0).toLoadRect.idx x) : Vec F S1x128x128 .f32) shapeCasts_S1x128x128_S128x128) bitsLt_bf16_f32

/-- The next 128. -/
def sTile1 (XS : Vec F S1x128x320 .f32) : FVec F S128x128 .bf16 :=
  truncf .bf16 (shapeCast S128x128 (fun x => XS ((Rect.unit (s := S1x128x320) ![0, 0, 128] S1x128x128.size inb_S1x128x320_S1x128x128_0_0_128).toLoadRect.idx x) : Vec F S1x128x128 .f32) shapeCasts_S1x128x128_S128x128) bitsLt_bf16_f32

/-- The last 64, with zeros after them. -/
def sTile2 (XS : Vec F S1x128x320 .f32) : FVec F S128x128 .bf16 :=
  concatenate S128x128 1 [⟨S128x64, truncf .bf16 (shapeCast S128x64 (fun x => XS ((Rect.unit (s := S1x128x320) ![0, 0, 256] S1x128x64.size inb_S1x128x320_S1x128x64_0_0_256).toLoadRect.idx x) : Vec F S1x128x64 .f32) shapeCasts_S1x128x64_S128x64) bitsLt_bf16_f32⟩,
    ⟨S128x64, broadcast S128x64 (Scalar.ofBits .bf16 0x0000#16 : F .bf16)⟩] concatenates_S128x64_S128x64_S128x128_d1

/-- The lane of the scales that scales a lane, the first of them at `o`. -/
def laneOf (o : BitVec 32) : IVec S128x128 32 :=
  select (cmpi .slt (addi k0_pay15 (broadcast S128x128 o)) (broadcast S128x128 0#32))
    (addi (addi k0_pay15 (broadcast S128x128 o)) (broadcast S128x128 128#32)) (addi k0_pay15 (broadcast S128x128 o))

/-- One block of 128 dequantized columns. -/
def blkOf (Xb : Vec F S1x128x128 .fp8e4m3) (Sb : FVec F S128x128 .bf16) (o : BitVec 32) : FVec F S128x128 .bf16 :=
  mulf (extf .bf16 (shapeCast S128x128 Xb shapeCasts_S1x128x128_S128x128) bitsLt_fp8e4m3_bf16)
    (truncf .bf16 (dynamicGather 1 (extf .f32 Sb bitsLt_bf16_f32)
      (shapeCast S128x128 (shapeCast S128x128x1 (laneOf o) shapeCasts_S128x128_S128x128x1) shapeCasts_S128x128x1_S128x128)) bitsLt_bf16_f32)

/-- Columns 0 … 2047 of the dequantized tile. -/
def cols0 (X : Vec F S1x128x10240 .fp8e4m3) (XS : Vec F S1x128x320 .f32) : FVec F S128x2048 .bf16 :=
  concatenate S128x2048 1 [⟨S128x128, blkOf (ldX X ![0, 0, 0] inb_S1x128x10240_S1x128x128_0_0_0) (sTile0 XS) 0#32⟩, ⟨S128x128, blkOf (ldX X ![0, 0, 128] inb_S1x128x10240_S1x128x128_0_0_128) (sTile0 XS) 4#32⟩, ⟨S128x128, blkOf (ldX X ![0, 0, 256] inb_S1x128x10240_S1x128x128_0_0_256) (sTile0 XS) 8#32⟩, ⟨S128x128, blkOf (ldX X ![0, 0, 384] inb_S1x128x10240_S1x128x128_0_0_384) (sTile0 XS) 12#32⟩, ⟨S128x128, blkOf (ldX X ![0, 0, 512] inb_S1x128x10240_S1x128x128_0_0_512) (sTile0 XS) 16#32⟩, ⟨S128x128, blkOf (ldX X ![0, 0, 640] inb_S1x128x10240_S1x128x128_0_0_640) (sTile0 XS) 20#32⟩, ⟨S128x128, blkOf (ldX X ![0, 0, 768] inb_S1x128x10240_S1x128x128_0_0_768) (sTile0 XS) 24#32⟩, ⟨S128x128, blkOf (ldX X ![0, 0, 896] inb_S1x128x10240_S1x128x128_0_0_896) (sTile0 XS) 28#32⟩, ⟨S128x128, blkOf (ldX X ![0, 0, 1024] inb_S1x128x10240_S1x128x128_0_0_1024) (sTile0 XS) 32#32⟩, ⟨S128x128, blkOf (ldX X ![0, 0, 1152] inb_S1x128x10240_S1x128x128_0_0_1152) (sTile0 XS) 36#32⟩, ⟨S128x128, blkOf (ldX X ![0, 0, 1280] inb_S1x128x10240_S1x128x128_0_0_1280) (sTile0 XS) 40#32⟩, ⟨S128x128, blkOf (ldX X ![0, 0, 1408] inb_S1x128x10240_S1x128x128_0_0_1408) (sTile0 XS) 44#32⟩, ⟨S128x128, blkOf (ldX X ![0, 0, 1536] inb_S1x128x10240_S1x128x128_0_0_1536) (sTile0 XS) 48#32⟩, ⟨S128x128, blkOf (ldX X ![0, 0, 1664] inb_S1x128x10240_S1x128x128_0_0_1664) (sTile0 XS) 52#32⟩, ⟨S128x128, blkOf (ldX X ![0, 0, 1792] inb_S1x128x10240_S1x128x128_0_0_1792) (sTile0 XS) 56#32⟩, ⟨S128x128, blkOf (ldX X ![0, 0, 1920] inb_S1x128x10240_S1x128x128_0_0_1920) (sTile0 XS) 60#32⟩] concatenates_S128x128_S128x128_S128x128_S128x128_S128x128_S128x128_S128x128_S128x128_S128x128_S128x128_S128x128_S128x128_S128x128_S128x128_S128x128_S128x128_S128x2048_d1

/-- Columns 2048 … 4095 of the dequantized tile. -/
def cols1 (X : Vec F S1x128x10240 .fp8e4m3) (XS : Vec F S1x128x320 .f32) : FVec F S128x2048 .bf16 :=
  concatenate S128x2048 1 [⟨S128x128, blkOf (ldX X ![0, 0, 2048] inb_S1x128x10240_S1x128x128_0_0_2048) (sTile0 XS) 64#32⟩, ⟨S128x128, blkOf (ldX X ![0, 0, 2176] inb_S1x128x10240_S1x128x128_0_0_2176) (sTile0 XS) 68#32⟩, ⟨S128x128, blkOf (ldX X ![0, 0, 2304] inb_S1x128x10240_S1x128x128_0_0_2304) (sTile0 XS) 72#32⟩, ⟨S128x128, blkOf (ldX X ![0, 0, 2432] inb_S1x128x10240_S1x128x128_0_0_2432) (sTile0 XS) 76#32⟩, ⟨S128x128, blkOf (ldX X ![0, 0, 2560] inb_S1x128x10240_S1x128x128_0_0_2560) (sTile0 XS) 80#32⟩, ⟨S128x128, blkOf (ldX X ![0, 0, 2688] inb_S1x128x10240_S1x128x128_0_0_2688) (sTile0 XS) 84#32⟩, ⟨S128x128, blkOf (ldX X ![0, 0, 2816] inb_S1x128x10240_S1x128x128_0_0_2816) (sTile0 XS) 88#32⟩, ⟨S128x128, blkOf (ldX X ![0, 0, 2944] inb_S1x128x10240_S1x128x128_0_0_2944) (sTile0 XS) 92#32⟩, ⟨S128x128, blkOf (ldX X ![0, 0, 3072] inb_S1x128x10240_S1x128x128_0_0_3072) (sTile0 XS) 96#32⟩, ⟨S128x128, blkOf (ldX X ![0, 0, 3200] inb_S1x128x10240_S1x128x128_0_0_3200) (sTile0 XS) 100#32⟩, ⟨S128x128, blkOf (ldX X ![0, 0, 3328] inb_S1x128x10240_S1x128x128_0_0_3328) (sTile0 XS) 104#32⟩, ⟨S128x128, blkOf (ldX X ![0, 0, 3456] inb_S1x128x10240_S1x128x128_0_0_3456) (sTile0 XS) 108#32⟩, ⟨S128x128, blkOf (ldX X ![0, 0, 3584] inb_S1x128x10240_S1x128x128_0_0_3584) (sTile0 XS) 112#32⟩, ⟨S128x128, blkOf (ldX X ![0, 0, 3712] inb_S1x128x10240_S1x128x128_0_0_3712) (sTile0 XS) 116#32⟩, ⟨S128x128, blkOf (ldX X ![0, 0, 3840] inb_S1x128x10240_S1x128x128_0_0_3840) (sTile0 XS) 120#32⟩, ⟨S128x128, blkOf (ldX X ![0, 0, 3968] inb_S1x128x10240_S1x128x128_0_0_3968) (sTile0 XS) 124#32⟩] concatenates_S128x128_S128x128_S128x128_S128x128_S128x128_S128x128_S128x128_S128x128_S128x128_S128x128_S128x128_S128x128_S128x128_S128x128_S128x128_S128x128_S128x2048_d1

/-- Columns 4096 … 6143 of the dequantized tile. -/
def cols2 (X : Vec F S1x128x10240 .fp8e4m3) (XS : Vec F S1x128x320 .f32) : FVec F S128x2048 .bf16 :=
  concatenate S128x2048 1 [⟨S128x128, blkOf (ldX X ![0, 0, 4096] inb_S1x128x10240_S1x128x128_0_0_4096) (sTile1 XS) 0#32⟩, ⟨S128x128, blkOf (ldX X ![0, 0, 4224] inb_S1x128x10240_S1x128x128_0_0_4224) (sTile1 XS) 4#32⟩, ⟨S128x128, blkOf (ldX X ![0, 0, 4352] inb_S1x128x10240_S1x128x128_0_0_4352) (sTile1 XS) 8#32⟩, ⟨S128x128, blkOf (ldX X ![0, 0, 4480] inb_S1x128x10240_S1x128x128_0_0_4480) (sTile1 XS) 12#32⟩, ⟨S128x128, blkOf (ldX X ![0, 0, 4608] inb_S1x128x10240_S1x128x128_0_0_4608) (sTile1 XS) 16#32⟩, ⟨S128x128, blkOf (ldX X ![0, 0, 4736] inb_S1x128x10240_S1x128x128_0_0_4736) (sTile1 XS) 20#32⟩, ⟨S128x128, blkOf (ldX X ![0, 0, 4864] inb_S1x128x10240_S1x128x128_0_0_4864) (sTile1 XS) 24#32⟩, ⟨S128x128, blkOf (ldX X ![0, 0, 4992] inb_S1x128x10240_S1x128x128_0_0_4992) (sTile1 XS) 28#32⟩, ⟨S128x128, blkOf (ldX X ![0, 0, 5120] inb_S1x128x10240_S1x128x128_0_0_5120) (sTile1 XS) 32#32⟩, ⟨S128x128, blkOf (ldX X ![0, 0, 5248] inb_S1x128x10240_S1x128x128_0_0_5248) (sTile1 XS) 36#32⟩, ⟨S128x128, blkOf (ldX X ![0, 0, 5376] inb_S1x128x10240_S1x128x128_0_0_5376) (sTile1 XS) 40#32⟩, ⟨S128x128, blkOf (ldX X ![0, 0, 5504] inb_S1x128x10240_S1x128x128_0_0_5504) (sTile1 XS) 44#32⟩, ⟨S128x128, blkOf (ldX X ![0, 0, 5632] inb_S1x128x10240_S1x128x128_0_0_5632) (sTile1 XS) 48#32⟩, ⟨S128x128, blkOf (ldX X ![0, 0, 5760] inb_S1x128x10240_S1x128x128_0_0_5760) (sTile1 XS) 52#32⟩, ⟨S128x128, blkOf (ldX X ![0, 0, 5888] inb_S1x128x10240_S1x128x128_0_0_5888) (sTile1 XS) 56#32⟩, ⟨S128x128, blkOf (ldX X ![0, 0, 6016] inb_S1x128x10240_S1x128x128_0_0_6016) (sTile1 XS) 60#32⟩] concatenates_S128x128_S128x128_S128x128_S128x128_S128x128_S128x128_S128x128_S128x128_S128x128_S128x128_S128x128_S128x128_S128x128_S128x128_S128x128_S128x128_S128x2048_d1

/-- Columns 6144 … 8191 of the dequantized tile. -/
def cols3 (X : Vec F S1x128x10240 .fp8e4m3) (XS : Vec F S1x128x320 .f32) : FVec F S128x2048 .bf16 :=
  concatenate S128x2048 1 [⟨S128x128, blkOf (ldX X ![0, 0, 6144] inb_S1x128x10240_S1x128x128_0_0_6144) (sTile1 XS) 64#32⟩, ⟨S128x128, blkOf (ldX X ![0, 0, 6272] inb_S1x128x10240_S1x128x128_0_0_6272) (sTile1 XS) 68#32⟩, ⟨S128x128, blkOf (ldX X ![0, 0, 6400] inb_S1x128x10240_S1x128x128_0_0_6400) (sTile1 XS) 72#32⟩, ⟨S128x128, blkOf (ldX X ![0, 0, 6528] inb_S1x128x10240_S1x128x128_0_0_6528) (sTile1 XS) 76#32⟩, ⟨S128x128, blkOf (ldX X ![0, 0, 6656] inb_S1x128x10240_S1x128x128_0_0_6656) (sTile1 XS) 80#32⟩, ⟨S128x128, blkOf (ldX X ![0, 0, 6784] inb_S1x128x10240_S1x128x128_0_0_6784) (sTile1 XS) 84#32⟩, ⟨S128x128, blkOf (ldX X ![0, 0, 6912] inb_S1x128x10240_S1x128x128_0_0_6912) (sTile1 XS) 88#32⟩, ⟨S128x128, blkOf (ldX X ![0, 0, 7040] inb_S1x128x10240_S1x128x128_0_0_7040) (sTile1 XS) 92#32⟩, ⟨S128x128, blkOf (ldX X ![0, 0, 7168] inb_S1x128x10240_S1x128x128_0_0_7168) (sTile1 XS) 96#32⟩, ⟨S128x128, blkOf (ldX X ![0, 0, 7296] inb_S1x128x10240_S1x128x128_0_0_7296) (sTile1 XS) 100#32⟩, ⟨S128x128, blkOf (ldX X ![0, 0, 7424] inb_S1x128x10240_S1x128x128_0_0_7424) (sTile1 XS) 104#32⟩, ⟨S128x128, blkOf (ldX X ![0, 0, 7552] inb_S1x128x10240_S1x128x128_0_0_7552) (sTile1 XS) 108#32⟩, ⟨S128x128, blkOf (ldX X ![0, 0, 7680] inb_S1x128x10240_S1x128x128_0_0_7680) (sTile1 XS) 112#32⟩, ⟨S128x128, blkOf (ldX X ![0, 0, 7808] inb_S1x128x10240_S1x128x128_0_0_7808) (sTile1 XS) 116#32⟩, ⟨S128x128, blkOf (ldX X ![0, 0, 7936] inb_S1x128x10240_S1x128x128_0_0_7936) (sTile1 XS) 120#32⟩, ⟨S128x128, blkOf (ldX X ![0, 0, 8064] inb_S1x128x10240_S1x128x128_0_0_8064) (sTile1 XS) 124#32⟩] concatenates_S128x128_S128x128_S128x128_S128x128_S128x128_S128x128_S128x128_S128x128_S128x128_S128x128_S128x128_S128x128_S128x128_S128x128_S128x128_S128x128_S128x2048_d1

/-- Columns 8192 … 10239 of the dequantized tile. -/
def cols4 (X : Vec F S1x128x10240 .fp8e4m3) (XS : Vec F S1x128x320 .f32) : FVec F S128x2048 .bf16 :=
  concatenate S128x2048 1 [⟨S128x128, blkOf (ldX X ![0, 0, 8192] inb_S1x128x10240_S1x128x128_0_0_8192) (sTile2 XS) 0#32⟩, ⟨S128x128, blkOf (ldX X ![0, 0, 8320] inb_S1x128x10240_S1x128x128_0_0_8320) (sTile2 XS) 4#32⟩, ⟨S128x128, blkOf (ldX X ![0, 0, 8448] inb_S1x128x10240_S1x128x128_0_0_8448) (sTile2 XS) 8#32⟩, ⟨S128x128, blkOf (ldX X ![0, 0, 8576] inb_S1x128x10240_S1x128x128_0_0_8576) (sTile2 XS) 12#32⟩, ⟨S128x128, blkOf (ldX X ![0, 0, 8704] inb_S1x128x10240_S1x128x128_0_0_8704) (sTile2 XS) 16#32⟩, ⟨S128x128, blkOf (ldX X ![0, 0, 8832] inb_S1x128x10240_S1x128x128_0_0_8832) (sTile2 XS) 20#32⟩, ⟨S128x128, blkOf (ldX X ![0, 0, 8960] inb_S1x128x10240_S1x128x128_0_0_8960) (sTile2 XS) 24#32⟩, ⟨S128x128, blkOf (ldX X ![0, 0, 9088] inb_S1x128x10240_S1x128x128_0_0_9088) (sTile2 XS) 28#32⟩, ⟨S128x128, blkOf (ldX X ![0, 0, 9216] inb_S1x128x10240_S1x128x128_0_0_9216) (sTile2 XS) 32#32⟩, ⟨S128x128, blkOf (ldX X ![0, 0, 9344] inb_S1x128x10240_S1x128x128_0_0_9344) (sTile2 XS) 36#32⟩, ⟨S128x128, blkOf (ldX X ![0, 0, 9472] inb_S1x128x10240_S1x128x128_0_0_9472) (sTile2 XS) 40#32⟩, ⟨S128x128, blkOf (ldX X ![0, 0, 9600] inb_S1x128x10240_S1x128x128_0_0_9600) (sTile2 XS) 44#32⟩, ⟨S128x128, blkOf (ldX X ![0, 0, 9728] inb_S1x128x10240_S1x128x128_0_0_9728) (sTile2 XS) 48#32⟩, ⟨S128x128, blkOf (ldX X ![0, 0, 9856] inb_S1x128x10240_S1x128x128_0_0_9856) (sTile2 XS) 52#32⟩, ⟨S128x128, blkOf (ldX X ![0, 0, 9984] inb_S1x128x10240_S1x128x128_0_0_9984) (sTile2 XS) 56#32⟩, ⟨S128x128, blkOf (ldX X ![0, 0, 10112] inb_S1x128x10240_S1x128x128_0_0_10112) (sTile2 XS) 60#32⟩] concatenates_S128x128_S128x128_S128x128_S128x128_S128x128_S128x128_S128x128_S128x128_S128x128_S128x128_S128x128_S128x128_S128x128_S128x128_S128x128_S128x128_S128x2048_d1

/-- The load of a whole row of per-column factors. -/
def ldS (WS : Vec F S1x384 .f32) : Vec F S1x384 .f32 :=
  fun x => WS ((Rect.unit (s := S1x384) ![0, 0] S1x384.size inb_S1x384_S1x384_0_0).toLoadRect.idx x)

/-- One chunk multiplied with its rows of the weights and added. -/
def chunkOf (acc : FVec F S128x384 .f32) (D : FVec F S128x2048 .bf16) (W : Vec F S2048x384 .fp8e4m3) : FVec F S128x384 .f32 :=
  addf acc (matmul dot_S128x2048_S2048x384_S128x384_1_0_0_1_n_n none D W (constant S128x384 .f32 0x00000000#32))

/-- The tile's sums of products. -/
def accOf (X : Vec F S1x128x10240 .fp8e4m3) (XS : Vec F S1x128x320 .f32) (W : Vec F S10240x384 .fp8e4m3) : FVec F S128x384 .f32 :=
  chunkOf (chunkOf (chunkOf (chunkOf (chunkOf (k0_pay14 (F := F)) (cols0 X XS) (ldW W ![0, 0] inb_S10240x384_S2048x384_0_0))
    (cols1 X XS) (ldW W ![2048, 0] inb_S10240x384_S2048x384_2048_0)) (cols2 X XS) (ldW W ![4096, 0] inb_S10240x384_S2048x384_4096_0))
    (cols3 X XS) (ldW W ![6144, 0] inb_S10240x384_S2048x384_6144_0)) (cols4 X XS) (ldW W ![8192, 0] inb_S10240x384_S2048x384_8192_0)

/-- The tile's features before the casts of the two stores. -/
def rawOf (X : Vec F S1x128x10240 .fp8e4m3) (XS : Vec F S1x128x320 .f32) (W : Vec F S10240x384 .fp8e4m3) (WS BS : Vec F S1x384 .f32) : FVec F S128x384 .f32 :=
  maximumf (addf (mulf (accOf X XS W) (broadcastTo S128x384 (shapeCast S1x384 (ldS WS) shapeCasts_S1x384_S1x384) broadcasts_S1x384_S128x384))
    (broadcastTo S128x384 (shapeCast S1x384 (ldS BS) shapeCasts_S1x384_S1x384) broadcasts_S1x384_S128x384))
    (broadcast S128x384 (Scalar.ofBits .f32 0x00000000#32 : F .f32))

/-- What the body leaves in the tile buffer. -/
def hOf (X : Vec F S1x128x10240 .fp8e4m3) (XS : Vec F S1x128x320 .f32) (W : Vec F S10240x384 .fp8e4m3) (WS BS : Vec F S1x384 .f32) : FVec F S128x384 .f32 :=
  k0_pay1 (rawOf X XS W WS BS)

/-- What the body leaves in the point-features window. -/
def pfOf (X : Vec F S1x128x10240 .fp8e4m3) (XS : Vec F S1x128x320 .f32) (W : Vec F S10240x384 .fp8e4m3) (WS BS : Vec F S1x384 .f32) : FVec F S1x128x384 .bf16 :=
  shapeCast S1x128x384 (truncf .bf16 (rawOf X XS W WS BS) bitsLt_bf16_f32) shapeCasts_S128x384_S1x128x384

theorem run_h (𝒱 : Variants) (c : Dev nD) (bd : Option 𝒱.V) (E : Set ℕ) (i : grid0.Coords) (arg2 : Memref sig .tc .smem S3x640 .i32) (harg2 : arg2.IsWhole) (arg3 : Memref sig .tc .vmem S1x128x10240 .fp8e4m3) (harg3 : arg3.IsWhole) (arg4 : Memref sig .tc .vmem S1x128x320 .f32) (harg4 : arg4.IsWhole) (arg5 : Memref sig .tc .vmem S10240x384 .fp8e4m3) (harg5 : arg5.IsWhole) (arg6 : Memref sig .tc .vmem S1x384 .f32) (harg6 : arg6.IsWhole) (arg7 : Memref sig .tc .vmem S1x384 .f32) (harg7 : arg7.IsWhole) (arg8 : Memref sig .tc .vmem S1x200x384 .bf16) (harg8 : arg8.IsWhole) (arg9 : Memref sig .tc .smem S3x200 .i32) (harg9 : arg9.IsWhole) (arg10 : Memref sig .tc .vmem S1x128x384 .bf16) (harg10 : arg10.IsWhole) (arg11 : Memref sig .tc .vmem S128x384 .f32) (harg11 : arg11.IsWhole) (arg12 : Memref sig .tc .vmem S8x208x384 .f32) (harg12 : arg12.IsWhole) (f3 f4 f5 f6 f7) :
    (bodyRun (F := F) 𝒱 c bd E i arg2 harg2 arg3 harg3 arg4 harg4 arg5 harg5 arg6 harg6 arg7 harg7 arg8 harg8 arg9 harg9 arg10 harg10 arg11 harg11 arg12 harg12 f3 f4 f5 f6 f7).1.2
      = [⟨Rect.unit (s := S128x384) ![0, 0] S128x384.size inb_S128x384_S128x384_0_0, hOf (arg3.view.read (Elt F) f3) (arg4.view.read (Elt F) f4) (arg5.view.read (Elt F) f5) (arg6.view.read (Elt F) f6) (arg7.view.read (Elt F) f7)⟩] := by
  unfold bodyRun
  rfl

theorem run_pf (𝒱 : Variants) (c : Dev nD) (bd : Option 𝒱.V) (E : Set ℕ) (i : grid0.Coords) (arg2 : Memref sig .tc .smem S3x640 .i32) (harg2 : arg2.IsWhole) (arg3 : Memref sig .tc .vmem S1x128x10240 .fp8e4m3) (harg3 : arg3.IsWhole) (arg4 : Memref sig .tc .vmem S1x128x320 .f32) (harg4 : arg4.IsWhole) (arg5 : Memref sig .tc .vmem S10240x384 .fp8e4m3) (harg5 : arg5.IsWhole) (arg6 : Memref sig .tc .vmem S1x384 .f32) (harg6 : arg6.IsWhole) (arg7 : Memref sig .tc .vmem S1x384 .f32) (harg7 : arg7.IsWhole) (arg8 : Memref sig .tc .vmem S1x200x384 .bf16) (harg8 : arg8.IsWhole) (arg9 : Memref sig .tc .smem S3x200 .i32) (harg9 : arg9.IsWhole) (arg10 : Memref sig .tc .vmem S1x128x384 .bf16) (harg10 : arg10.IsWhole) (arg11 : Memref sig .tc .vmem S128x384 .f32) (harg11 : arg11.IsWhole) (arg12 : Memref sig .tc .vmem S8x208x384 .f32) (harg12 : arg12.IsWhole) (f3 f4 f5 f6 f7) :
    (bodyRun (F := F) 𝒱 c bd E i arg2 harg2 arg3 harg3 arg4 harg4 arg5 harg5 arg6 harg6 arg7 harg7 arg8 harg8 arg9 harg9 arg10 harg10 arg11 harg11 arg12 harg12 f3 f4 f5 f6 f7).1.1
      = [⟨Rect.unit (s := S1x128x384) ![0, 0, 0] S1x128x384.size inb_S1x128x384_S1x128x384_0_0_0, pfOf (arg3.view.read (Elt F) f3) (arg4.view.read (Elt F) f4) (arg5.view.read (Elt F) f5) (arg6.view.read (Elt F) f6) (arg7.view.read (Elt F) f7)⟩] := by
  unfold bodyRun
  rfl

end Cert.Kernel.Hand
-- ==== Proof.KernelFold.lean ====
/- The folds over the points of a batch, tile by tile: a batch's running maxima and counts after one more tile. -/
module

public import proofs.«01_k».proof.Proof.Gen.Kernel.Loops
public import proofs.«01_k».proof.Proof.Gen.Kernel.Frame
public import proofs.«01_k».proof.Proof.KernelTile

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Points folded in two parts, the first a whole number of groups of eight. -/
theorem vacN_add (V : Vec F S8x208x384 .f32) (hh : ℕ → Fin 384 → F .f32) (idr : ℕ → BitVec 32) (a n : ℕ) (ha : a % 8 = 0) :
    vacN V hh idr (a + n) = vacN (vacN V hh idr a) (fun r => hh (a + r)) (fun r => idr (a + r)) n := by
  induction n with
  | zero => rfl
  | succ n ih =>
    show updV ((a + n) % 8) (slotOf (idr (a + n))) (hh (a + n)) (vacN V hh idr (a + n)) = updV (n % 8) (slotOf (idr (a + n))) (hh (a + n)) _
    rw [ih, show (a + n) % 8 = n % 8 by omega]

theorem vacN_congr (V : Vec F S8x208x384 .f32) {hh hh' : ℕ → Fin 384 → F .f32} (idr : ℕ → BitVec 32) (n : ℕ) (h : ∀ r, r < n → hh r = hh' r) :
    vacN V hh idr n = vacN V hh' idr n := by
  induction n with
  | zero => rfl
  | succ n ih =>
    show updV (n % 8) (slotOf (idr n)) (hh n) (vacN V hh idr n) = updV (n % 8) (slotOf (idr n)) (hh' n) (vacN V hh' idr n)
    rw [ih fun r hr => h r (by omega), h n (by omega)]

theorem cntN_add (b : ℕ) (C : Vec F S3x200 .i32) (idr : ℕ → BitVec 32) (a n : ℕ) :
    cntN b C idr (a + n) = cntN b (cntN b C idr a) (fun r => idr (a + r)) n := by
  induction n with
  | zero => rfl
  | succ n ih =>
    show updC b (idr (a + n)) (cntN b C idr (a + n)) = updC b (idr (a + n)) _
    rw [ih]

/-- An entry's count depends on that entry alone. -/
theorem cntN_at (b : ℕ) {C C' : Vec F S3x200 .i32} (idr : ℕ → BitVec 32) (n : ℕ) (y : S3x200.Idx) (h : C y = C' y) :
    cntN b C idr n y = cntN b C' idr n y := by
  induction n with
  | zero => exact h
  | succ n ih =>
    show updC b (idr n) (cntN b C idr n) y = updC b (idr n) (cntN b C' idr n) y
    unfold updC
    rw [ih]

/-- Another batch's counts stay. -/
theorem cntN_other (b : ℕ) (C : Vec F S3x200 .i32) (idr : ℕ → BitVec 32) (n : ℕ) (y : S3x200.Idx) (h : (y 0).val ≠ b) :
    cntN b C idr n y = C y := by
  induction n with
  | zero => rfl
  | succ n ih =>
    show updC b (idr n) (cntN b C idr n) y = _
    unfold updC
    rw [if_neg (fun h' => h h'.2.1), ih]

/-- The counts of a batch's first `n` points. -/
def cntV (I : Vec F S3x640 .i32) (b n : ℕ) : Vec F S3x200 .i32 := cntN b (fun _ => 0#32) (idOf I b) n

/-- What the counts' buffer holds after grid point `t`: the batches before at their counts, the batch at hand at the counts of the
    tiles so far. -/
def cntOK (I : Vec F S3x640 .i32) (t : ℕ) (X : Vec F S3x200 .i32) : Prop :=
  ∀ y : S3x200.Idx, ((y 0).val < t / 5 → X y = cntV I (y 0).val 640 y) ∧ ((y 0).val = t / 5 → X y = cntV I (y 0).val (128 * (t % 5 + 1)) y)

/-- One tile more. -/
theorem cntOK_step (I : Vec F S3x640 .i32) (t : ℕ) (i : grid0.Coords) (h0 : (i 0).val = t / 5) (h1 : (i 1).val = t % 5) (C : Vec F S3x200 .i32)
    (hC : t ≠ 0 → cntOK I (t - 1) C) :
    cntOK I t (cntN (i 0).val (cnt0 i C) (fun r => idOf I (i 0).val (128 * (i 1).val + r)) 128) := by
  intro y
  rw [h0, h1]
  refine ⟨fun hy => ?_, fun hy => ?_⟩
  · rw [cntN_other _ _ _ _ _ (by omega)]
    have hc := hC (by omega) y
    have e : cnt0 i C y = C y := by
      unfold cnt0
      split
      · unfold zeroN; rw [if_neg (fun h => by have := h.1; omega)]
      · rfl
    rw [e]
    by_cases hj : t % 5 = 0
    · by_cases hb : (y 0).val < (t - 1) / 5
      · exact hc.1 hb
      · have := hc.2 (by omega)
        rwa [show 128 * ((t - 1) % 5 + 1) = 640 by omega] at this
    · exact hc.1 (by omega)
  · rw [hy, show 128 * (t % 5 + 1) = 128 * (t % 5) + 128 by omega]
    unfold cntV
    rw [cntN_add]
    refine cntN_at _ _ _ y ?_
    unfold cnt0
    by_cases hj : t % 5 = 0
    · rw [if_pos (by omega), hj]
      unfold zeroN
      rw [if_pos ⟨by omega, (y 1).isLt⟩]
      rfl
    · rw [if_neg (by omega)]
      have hc := (hC (by omega) y).2 (by omega)
      rw [hc, hy, show 128 * ((t - 1) % 5 + 1) = 128 * (t % 5) by omega]
      rfl

end Cert.Kernel.Hand
-- ==== Proof.KernelTriple.lean ====
/- The body's triple on staging buffers owned at their contents. -/
module

public import proofs.«01_k».proof.Proof.Gen.Kernel.Loops
public import proofs.«01_k».proof.Proof.Gen.Kernel.Frame
public import proofs.«01_k».proof.Proof.KernelFold
public import Idealize.ShloMosaic.Lib.Pipeline.DatRel

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄G" => MT nD τ sig Unit (Elt F) ℕ (UR sig nD τ) ℕ

set_option maxHeartbeats 1000000 in
/-- The kernel body on whole staging buffers: the inputs stay, and each output and scratch buffer ends as the folds say. -/
theorem sound_kernel (c : Dev nD) (E : Set ℕ) (i : grid0.Coords) (arg2 : Memref sig .tc .smem S3x640 .i32) (harg2 : arg2.IsWhole) (arg3 : Memref sig .tc .vmem S1x128x10240 .fp8e4m3) (harg3 : arg3.IsWhole) (arg4 : Memref sig .tc .vmem S1x128x320 .f32) (harg4 : arg4.IsWhole) (arg5 : Memref sig .tc .vmem S10240x384 .fp8e4m3) (harg5 : arg5.IsWhole) (arg6 : Memref sig .tc .vmem S1x384 .f32) (harg6 : arg6.IsWhole) (arg7 : Memref sig .tc .vmem S1x384 .f32) (harg7 : arg7.IsWhole) (arg8 : Memref sig .tc .vmem S1x200x384 .bf16) (harg8 : arg8.IsWhole) (arg9 : Memref sig .tc .smem S3x200 .i32) (harg9 : arg9.IsWhole) (arg10 : Memref sig .tc .vmem S1x128x384 .bf16) (harg10 : arg10.IsWhole) (arg11 : Memref sig .tc .vmem S128x384 .f32) (harg11 : arg11.IsWhole) (arg12 : Memref sig .tc .vmem S8x208x384 .f32) (harg12 : arg12.IsWhole)
    (x2 : Vec F S3x640 .i32) (x3 : Vec F S1x128x10240 .fp8e4m3) (x4 : Vec F S1x128x320 .f32) (x5 : Vec F S10240x384 .fp8e4m3) (x6 x7 : Vec F S1x384 .f32)
    (C : Vec F S3x200 .i32) (V : Vec F S8x208x384 .f32) (hid : ∀ j, idOK (x2 j)) (K : PUnit → sProp 𝕄G) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ owns (c : Thread nD τ) arg9 fullShare C ∗ (∃ d, owns (c : Thread nD τ) arg10 fullShare d) ∗ (∃ d, owns (c : Thread nD τ) arg11 fullShare d) ∗ owns (c : Thread nD τ) arg12 fullShare V
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ X, ⌜(i 1).val = 4 → X = voxOf (vacN (vac0 i V) (rowOf (hOf x3 x4 x5 x6 x7)) (fun r => idOf x2 (i 0).val (128 * (i 1).val + r)) 128)⌝ ∗ owns (c : Thread nD τ) arg8 fullShare X) ∗ owns (c : Thread nD τ) arg9 fullShare (cntN (i 0).val (cnt0 i C) (fun r => idOf x2 (i 0).val (128 * (i 1).val + r)) 128) ∗ owns (c : Thread nD τ) arg10 fullShare (pfOf x3 x4 x5 x6 x7) ∗ (∃ d, owns (c : Thread nD τ) arg11 fullShare d) ∗ owns (c : Thread nD τ) arg12 fullShare (vacN (vac0 i V) (rowOf (hOf x3 x4 x5 x6 x7)) (fun r => idOf x2 (i 0).val (128 * (i 1).val + r)) 128)) -∗ K ⟨⟩))
      ⊢ wp frame (wpE (defs₀ (F := F)) Variants.none c none) E (cc0_pfn_scatter_max i arg2 harg2 arg3 harg3 arg4 harg4 arg5 harg5 arg6 harg6 arg7 harg7 arg8 harg8 arg9 harg9 arg10 harg10 arg11 harg11 arg12 harg12) K := by
  simp only [cc0_pfn_scatter_max_eq_skeleton]
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%d8, %f8, -, H8⟩, ⟨%f9, %h9, H9⟩, ⟨%d10, %f10, -, H10⟩, ⟨%d11, %f11, -, H11⟩, ⟨%f12, %h12, H12⟩, Hk⟩
  subst h2 h3 h4 h5 h6 h7 h9 h12
  have hh := run_h (F := F) Variants.none c none E i arg2 harg2 arg3 harg3 arg4 harg4 arg5 harg5 arg6 harg6 arg7 harg7 arg8 harg8 arg9 harg9 arg10 harg10 arg11 harg11 arg12 harg12 f3 f4 f5 f6 f7
  have hp := run_pf (F := F) Variants.none c none E i arg2 harg2 arg3 harg3 arg4 harg4 arg5 harg5 arg6 harg6 arg7 harg7 arg8 harg8 arg9 harg9 arg10 harg10 arg11 harg11 arg12 harg12 f3 f4 f5 f6 f7
  have hrd : arg11.view.read (Elt F) (arg11.view.writes (Elt F) arg11.view.junk (bodyRun (F := F) Variants.none c none E i arg2 harg2 arg3 harg3 arg4 harg4 arg5 harg5 arg6 harg6 arg7 harg7 arg8 harg8 arg9 harg9 arg10 harg10 arg11 harg11 arg12 harg12 f3 f4 f5 f6 f7).1.2) = hOf (arg3.view.read (Elt F) f3) (arg4.view.read (Elt F) f4) (arg5.view.read (Elt F) f5) (arg6.view.read (Elt F) f6) (arg7.view.read (Elt F) f7) := by
    rw [hh]; exact View.read_writes_full arg11.view _ _ _ _
  have hrp : arg10.view.read (Elt F) (arg10.view.writes (Elt F) arg10.view.junk (bodyRun (F := F) Variants.none c none E i arg2 harg2 arg3 harg3 arg4 harg4 arg5 harg5 arg6 harg6 arg7 harg7 arg8 harg8 arg9 harg9 arg10 harg10 arg11 harg11 arg12 harg12 f3 f4 f5 f6 f7).1.1) = pfOf (arg3.view.read (Elt F) f3) (arg4.view.read (Elt F) f4) (arg5.view.read (Elt F) f5) (arg6.view.read (Elt F) f6) (arg7.view.read (Elt F) f7) := by
    rw [hp]; exact View.read_writes_full arg10.view _ _ _ _
  have hrun := (bodyRun (F := F) Variants.none c none E i arg2 harg2 arg3 harg3 arg4 harg4 arg5 harg5 arg6 harg6 arg7 harg7 arg8 harg8 arg9 harg9 arg10 harg10 arg11 harg11 arg12 harg12 f3 f4 f5 f6 f7).2 f2 f8 f9 f10 f11 f12 hid
  rw [hrd] at hrun
  generalize (bodyRun (F := F) Variants.none c none E i arg2 harg2 arg3 harg3 arg4 harg4 arg5 harg5 arg6 harg6 arg7 harg7 arg8 harg8 arg9 harg9 arg10 harg10 arg11 harg11 arg12 harg12 f3 f4 f5 f6 f7).1 = L at hrun hrp hrd
  iapply (wp_wand_r frame _ E)
  isplitr [Hk]
  · iapply hrun
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  iintro %_ ⟨H2, H3, H4, H5, H6, H7, H10, H11, ⟨%g9, %e9, H9⟩, ⟨%g12, %e12, H12⟩, ⟨%g8, %e8, H8⟩⟩
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]
  · iexists (arg8.view.read (Elt F) g8)
    isplitr; · ipureintro; exact e8
    iexists g8; isplitr; · ipureintro; rfl
    iexact H8
  isplitl [H9]; · iexists g9; isplitr; · ipureintro; exact e9
                  iexact H9
  isplitl [H10]; · iexists _; isplitr; swap; · iexact H10
                   ipureintro; exact hrp
  isplitl [H11]; · iexists _, _; isplitr; swap; · iexact H11
                   ipureintro; rfl
  iexists g12; isplitr; · ipureintro; exact e12
  iexact H12

end Cert.Kernel.Hand
-- ==== Proof.KernelRun.lean ====
/- The run of the kernel's grid: what the scratch holds from point to point, what the body leaves in each output's staging buffer, and
   the launch. -/
module

public import proofs.«01_k».proof.Proof.Gen.Kernel.Loops
public import proofs.«01_k».proof.Proof.Gen.Kernel.Frame
public import proofs.«01_k».proof.Proof.KernelTriple
public import Idealize.ShloMosaic.Lib.Pipeline.DatRel
public import Idealize.ShloMosaic.Lib.Pipeline.ArrRel

@[expose] public section

set_option maxRecDepth 16384

noncomputable section

namespace Cert.Kernel.Hand

open Cert.Kernel Cert.Kernel.Gen
open Idealize.ShloMosaic Idealize.ShloMosaic.TcCoe Idealize.ShloMosaic.Tactic
open Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [FloatOps F]
variable (m : (ℓ : Loc nD τ sig) → Buf (Elt F) ℓ) (ρ : Dev nD → PrngReg)
local notation "𝕄G" => MT nD τ sig Unit (Elt F) ℕ (UR sig nD τ) ℕ

/-- The grid point of a number. -/
def pt (k : ℕ) : Fin cfg0.N := ⟨k % 15, by rw [show cfg0.N = 15 from N_0]; exact Nat.mod_lt _ (by decide)⟩

theorem coords_eq (t : Fin cfg0.N) : (grid0.coords t 0).val = t.val / 5 ∧ (grid0.coords t 1).val = t.val % 5 := by
  have h : ∀ t : Fin 15, (grid0.coords t 0).val = t.val / 5 ∧ (grid0.coords t 1).val = t.val % 5 := by decide
  exact h t

/-- The voxel ids. -/
def IDS (c : Dev nD) : Vec F S3x640 .i32 := m ((c : Thread nD τ).loc main_arg5)

theorem iblk0_eq (c : Dev nD) (t : Fin cfg0.N) : iblk m c 0 t = IDS m c := by
  funext j
  show V m c main_arg5 (((cfg0.win 0).blk t).view.emb j) = m ((c : Thread nD τ).loc main_arg5) j
  rw [V_main_arg5]
  congr 1
  funext a
  refine Fin.ext ?_
  match a with
  | ⟨0, _⟩ => show 0 * 3 + 1 * (j 0).val = (j 0).val; omega
  | ⟨1, _⟩ => show 0 * 640 + 1 * (j 1).val = (j 1).val; omega

/-- The tile buffer's contents at a point. -/
def hT (c : Dev nD) (t : Fin cfg0.N) : Vec F S128x384 .f32 := hOf (iblk m c 1 t) (iblk m c 2 t) (iblk m c 3 t) (iblk m c 4 t) (iblk m c 5 t)

/-- The point features' block at a point. -/
def pfT (c : Dev nD) (t : Fin cfg0.N) : Vec F S1x128x384 .bf16 := pfOf (iblk m c 1 t) (iblk m c 2 t) (iblk m c 3 t) (iblk m c 4 t) (iblk m c 5 t)

/-- The features of point `n` of batch `b`. -/
def hB (c : Dev nD) (b n : ℕ) : Fin 384 → F .f32 := rowOf (hT m c (pt (5 * b + n / 128))) (n % 128)

/-- A batch's running maxima after `n` points. -/
def vacB (c : Dev nD) (b n : ℕ) : Vec F S8x208x384 .f32 := vacN k0_pay13 (hB m c b) (idOf (IDS m c) b) n

theorem rowOf_mod (H : Vec F S128x384 .f32) (r : ℕ) (hr : r < 128) (k : ℕ) : rowOf H r = rowOf H ((128 * k + r) % 128) := by
  rw [show (128 * k + r) % 128 = r by omega]

/-- A tile's fold is the batch's, one tile on. -/
theorem vac_step (c : Dev nD) (t : Fin cfg0.N) (U : Vec F S8x208x384 .f32) (hU : t.val % 5 ≠ 0 → U = vacB m c (t.val / 5) (128 * (t.val % 5))) :
    vacN (vac0 (grid0.coords t) U) (rowOf (hT m c t)) (fun r => idOf (IDS m c) (grid0.coords t 0).val (128 * (grid0.coords t 1).val + r)) 128
      = vacB m c (t.val / 5) (128 * (t.val % 5 + 1)) := by
  have ht : t.val < 15 := t.isLt
  obtain ⟨h0, h1⟩ := coords_eq t
  unfold vac0
  rw [h0, h1, show 128 * (t.val % 5 + 1) = 128 * (t.val % 5) + 128 by omega]
  unfold vacB
  rw [vacN_add _ _ _ _ _ (by omega)]
  have e : (if t.val % 5 = 0 then k0_pay13 else U) = vacN k0_pay13 (hB m c (t.val / 5)) (idOf (IDS m c) (t.val / 5)) (128 * (t.val % 5)) := by
    by_cases hj : t.val % 5 = 0
    · rw [if_pos hj, hj]; rfl
    · rw [if_neg hj]; exact hU hj
  rw [e]
  refine vacN_congr _ _ _ fun r hr => ?_
  unfold hB
  rw [rowOf_mod _ r hr (t.val % 5)]
  congr 2
  refine Fin.ext ?_
  show t.val = (5 * (t.val / 5) + (128 * (t.val % 5) + r) / 128) % 15
  omega

/-- The scratch before a point: the tile buffer at anything, the running maxima at the batch's so far, and the generator register. -/
def ΦB (c : Dev nD) (k : ℕ) : sProp 𝕄G :=
  iprop((∃ d, owns (c : Thread nD τ) (Memref.whole cc0_scratch0) fullShare d)
    ∗ (∃ d, ⌜k % 5 ≠ 0 → d = vacB m c (k / 5) (128 * (k % 5))⌝ ∗ owns (c : Thread nD τ) (Memref.whole cc0_scratch1) fullShare d)
    ∗ ∃ r, prngReg c r)

/-- The outputs are held to what the folds say of them. -/
def marks : Fin 9 → Bool := fun w => decide (6 ≤ w.val)

/-- What the body leaves in each output. -/
def Rl (c : Dev nD) (w : Fin cfg0.W) (t : Fin cfg0.N) : ((cfg0.win w).block.Idx → Elt F (cfg0.win w).elt) → Prop :=
  match w with
  | ⟨6, _⟩ => fun X => t.val % 5 = 4 → X = voxOf (vacB m c (t.val / 5) 640)
  | ⟨7, _⟩ => fun X => cntOK (IDS m c) t.val X
  | ⟨8, _⟩ => fun X => X = pfT m c t
  | _ => fun _ => True

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨n + 6, h⟩ => Pipeline.Dat.unnamed (cfg := cfg0) ⟨n + 6, h⟩ t
  Φ t := ΦB m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the counts' buffer holds when the body runs. -/
theorem finds7 (c : Dev nD) (t : Fin cfg0.N) (Y) (h : ((dats m 0 c).toRRel marks (Rl m c)).Finds 7 t Y) (ht : t.val ≠ 0) :
    cntOK (IDS m c) (t.val - 1) Y := by
  have hN : t.val < 15 := t.isLt
  rcases (RDat.finds_of_pos _ (w := (7 : Fin cfg0.W)) (t := t) rfl ht Y).mp h with hf | hl
  · exact absurd ((flush0_7 _).mp hf) (by show ¬ (t.val - 1) % 15 = 14; omega)
  · exact (dats m 0 c).toRRel_leaves (w := (7 : Fin cfg0.W)) (by rfl) hl

/-- What the body is called with at a point, -/
def bodyPre (c : Dev nD) (t : Fin cfg0.N) : sProp 𝕄G :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ Y, ⌜((dats m 0 c).toRRel marks (Rl m c)).Finds 6 t Y⌝ ∗ owns (c : Thread nD τ) (st0_6 t) fullShare Y)
    ∗ (∃ Y, ⌜((dats m 0 c).toRRel marks (Rl m c)).Finds 7 t Y⌝ ∗ owns (c : Thread nD τ) (st0_7 t) fullShare Y)
    ∗ (∃ Y, ⌜((dats m 0 c).toRRel marks (Rl m c)).Finds 8 t Y⌝ ∗ owns (c : Thread nD τ) (st0_8 t) fullShare Y))

/-- and what it returns. -/
def bodyPost (c : Dev nD) (t : Fin cfg0.N) : sProp 𝕄G :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ X, ⌜Rl m c 6 t X⌝ ∗ owns (c : Thread nD τ) (st0_6 t) fullShare X)
    ∗ (∃ X, ⌜Rl m c 7 t X⌝ ∗ owns (c : Thread nD τ) (st0_7 t) fullShare X)
    ∗ (∃ X, ⌜Rl m c 8 t X⌝ ∗ owns (c : Thread nD τ) (st0_8 t) fullShare X))

/-- The body at a point. -/
theorem sound_body (hid : ∀ c j, idOK (IDS m c j)) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = ΦB m c (t.val + 1) from rfl, show (dats m 0 c).Φ t.castSucc = ΦB m c t.val from rfl,
    show (dats m 0 c).owesAt () t.succ = (dats m 0 c).owesAt () t.castSucc from rfl,
    after0_0, after0_1, after0_2, after0_3, after0_4, after0_5]
  have hN : t.val < 15 := t.isLt
  obtain ⟨h0, h1⟩ := coords_eq t
  unfold ΦB
  iintro ⟨⟨⟨%d11, H11⟩, ⟨%d12, %h12, H12⟩, Hg⟩, Ho, ⟨%d0, H0⟩, ⟨%d1, H1⟩, ⟨%d2, H2⟩, ⟨%d3, H3⟩, ⟨%d4, H4⟩, ⟨%d5, H5⟩, ⟨%Y6, -, H6⟩, ⟨%Y7, %hY7, H7⟩, ⟨%Y8, -, H8⟩⟩
  have hv := vac_step m c t d12 h12
  have hc := cntOK_step (F := F) (IDS m c) t.val (grid0.coords t) h0 h1 Y7 (finds7 m c t Y7 hY7)
  iapply (sound_kernel c Set.univ (grid0.coords t) _ _ _ _ _ _ _ _ _ _ _ _ _ _ _ _ _ _ _ _ _ _ (iblk m c 0 t) (iblk m c 1 t) (iblk m c 2 t) (iblk m c 3 t) (iblk m c 4 t) (iblk m c 5 t) Y7 d12
    (by rw [iblk0_eq]; exact hid c) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexists _; iexact H8
  isplitl [H11]; · iexists _; iexact H11
  isplitl [H12]; · iexact H12
  rw [iblk0_eq, show hOf (iblk m c 1 t) (iblk m c 2 t) (iblk m c 3 t) (iblk m c 4 t) (iblk m c 5 t) = hT m c t from rfl, hv]
  iintro ⟨H0, H1, H2, H3, H4, H5, ⟨%X6, %h6, H6⟩, H7, H8, H11, H12⟩
  isplitl [H11 H12 Hg]
  · isplitl [H11]; · iexact H11
    isplitl [H12]
    · iexists _; isplitr; swap; · iexact H12
      ipureintro
      intro hk
      rw [show (t.val + 1) / 5 = t.val / 5 by omega, show (t.val + 1) % 5 = t.val % 5 + 1 by omega]
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr; swap; · iexact H6
    ipureintro
    show t.val % 5 = 4 → X6 = voxOf (vacB m c (t.val / 5) 640)
    intro hk
    have := h6 (h1.trans hk)
    rwa [hk] at this
  isplitl [H7]
  · iexists _; isplitr; swap; · iexact H7
    ipureintro
    exact hc
  iexists _; isplitr; swap; · iexact H8
  ipureintro
  rfl

theorem defs₀_row (t : Fin cfg0.N) :
    defs₀ (F := F) .tc cfg0.body (cfg0.bodyArgs t (cfg0.slots t)) = bodyAt0 t := by
  unfold defs₀; rw [Defs.onTc_tc]

theorem body_obligation (hid : ∀ c j, idOK (IDS m c j)) (c : Dev nD) :
    BodyObligationRel (dats (F := F) m 0 c) (defs₀ (F := F)) Variants.none () Set.univ marks (Rl m c) := fun t => by
  rw [bigSep_W0, bigSep_W0, defs₀_row]
  exact triple_restated (sound_body m hid c t) rfl .rfl fun _ => .rfl

theorem hin (c : Dev nD) : (Pipeline.ΦA (Val := Elt F) (U := UR sig nD τ) spec0 c : sProp 𝕄G) ⊢ ΦB m c 0 := by
  unfold Pipeline.ΦA ΦB
  rw [scopedRest0_eq]
  iintro ⟨⟨⟨%f0, H0⟩, ⟨%f1, H1⟩⟩, Hg⟩
  isplitl [H0]; · iexists f0; rw [owns_whole]; iexact H0
  isplitl [H1]
  · iexists f1; isplitr; · ipureintro; exact fun h => absurd rfl h
    rw [owns_whole]; iexact H1
  iexact Hg

theorem hout (c : Dev nD) (k : ℕ) : ΦB m c k ⊢ (Pipeline.ΦA (Val := Elt F) (U := UR sig nD τ) spec0 c : sProp 𝕄G) := by
  unfold Pipeline.ΦA ΦB
  rw [scopedRest0_eq]
  iintro ⟨⟨%f0, H0⟩, ⟨%f1, -, H1⟩, Hg⟩
  isplitl [H0 H1]
  · isplitl [H0]
    · iexists f0; rw [← owns_whole]; iexact H0
    · iexists f1; rw [← owns_whole]; iexact H1
  iexact Hg

set_option backward.isDefEq.respectTransparency.types false in
set_option maxHeartbeats 800000 in
/-- THE LAUNCH: from ids below the number of voxels, every weakly fair execution ends, every output array at write-backs of what `Rl`
    says, every other buffer as the region found it, every semaphore counter at zero. -/
theorem run_main (hid : ∀ c j, idOK (IDS m c j)) :
    θ_run defs (onTc (τ := τ) (main (F := F))) (s₀ m ρ)
      (fun r => RDat.FramePost (cfgs 0) (fun c => (dats m 0 c).toRRel marks (Rl m c)) (V m) r ∧ r.2.sem = fun _ => 0) :=
  RDat.θ_run_frame_track (Q' := _) cfgs (0 : Fin 1) launch0 defs₀ Variants.none (fun c => (dats m 0 c).toRRel marks (Rl m c)) m ρ main
    (fun c => (body_obligation m hid c).toRRel) (fun c => (dats m 0 c).share_full fun _ => rfl)
    (fun _ _ => rfl) (V m) (hmain m Variants.none) (A_eq m) (hin m) (fun c => hout m c _) (hQ' := fun _ h => h)

/-- The argument arrays end unchanged and every counter at zero. -/
theorem frame (hid : ∀ c j, idOK (IDS m c j)) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => ⟨(h.1.arr_in c 1 rfl).trans ((A_eq m c 1).trans (V_main_arg0 m c)),
      (h.1.arr_in c 2 rfl).trans ((A_eq m c 2).trans (V_main_arg1 m c)),
      (h.1.arr_in c 3 rfl).trans ((A_eq m c 3).trans (V_main_arg2 m c)),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      (h.1.arr_in c 0 rfl).trans ((A_eq m c 0).trans (V_main_arg5 m c))⟩, h.2⟩) (run_main m ρ hid)

end Cert.Kernel.Hand
-- ==== Proof.KernelIdealModel.lean ====
/- What the scatter loop computes, as functions of tensors: the per-copy running maxima (`vacN`) and the voxel counts
   (`cntN`) after `n` rows, and the two lemmas that read one store of the loop as one step of them. -/
module

public import proofs.«01_k».proof.Proof.Gen.KernelIdeal.Skeleton
public import Idealize.ShloMosaic.Lib.Exec
public import Idealize.ShloMosaic.Lib.Tactic
public import Idealize.ShloMosaic.Lib.WritesUnit
public import Idealize.ShloMosaic.Lib.PointwiseCore
public import Idealize.ShloMosaic.Lib.WordCmp

@[expose] public section

set_option maxRecDepth 16384

noncomputable section

namespace Cert.KernelIdeal.Hand

open Cert.KernelIdeal Cert.KernelIdeal.Gen
open Idealize.ShloMosaic

variable {F : FTy → Type} [FloatOps F]

/-- The row of the accumulator that a point with voxel id `v` is kept in: the id, or row 200 if it is negative. -/
def slotOf (v : BitVec 32) : ℕ := (Scalar.select (Scalar.cmpi .sge v 0#32) v 200#32).toNat

/-- The point with voxel id `v` counts. -/
def counted (v : BitVec 32) : Bool := Scalar.cmpi .sge v 0#32 == 1#1

/-- One point folded into copy `u` of the running maxima: row `s` takes the maximum with `row`. -/
def updV (u s : ℕ) (row : Fin 384 → F .f32) (V : Vec F S8x208x384 .f32) : Vec F S8x208x384 .f32 :=
  fun y => if (y 0).val = u ∧ (y 1).val = s then FloatOps.maximumf (V y) (row (y 2)) else V y

/-- One point of batch `b` with voxel id `v` counted. -/
def updC (b : ℕ) (v : BitVec 32) (C : Vec F S3x200 .i32) : Vec F S3x200 .i32 :=
  fun y => if counted v = true ∧ (y 0).val = b ∧ (y 1).val = v.toNat then Scalar.addi (C y) 1#32 else C y

/-- The running maxima after `n` points: point `r` has features `hh r` and voxel id `idr r`, and goes to copy `r % 8`. -/
def vacN (V : Vec F S8x208x384 .f32) (hh : ℕ → Fin 384 → F .f32) (idr : ℕ → BitVec 32) : ℕ → Vec F S8x208x384 .f32
  | 0 => V
  | n + 1 => updV (n % 8) (slotOf (idr n)) (hh n) (vacN V hh idr n)

/-- The counts after `n` points of batch `b`. -/
def cntN (b : ℕ) (C : Vec F S3x200 .i32) (idr : ℕ → BitVec 32) : ℕ → Vec F S3x200 .i32
  | 0 => C
  | n + 1 => updC b (idr n) (cntN b C idr n)

/-- One step of the running maxima, at point `u` of a group of eight. -/
theorem vacN_succ (V : Vec F S8x208x384 .f32) (hh : ℕ → Fin 384 → F .f32) (idr : ℕ → BitVec 32) (k u : ℕ) (hu : u < 8) :
    vacN V hh idr (8 * k + u + 1) = updV u (slotOf (idr (8 * k + u))) (hh (8 * k + u)) (vacN V hh idr (8 * k + u)) := by
  show updV ((8 * k + u) % 8) _ _ _ = _
  rw [show (8 * k + u) % 8 = u by omega]

theorem updV_congr {u : ℕ} {v v' : BitVec 32} {row : Fin 384 → F .f32} {V V' : Vec F S8x208x384 .f32} (hv : v = v') (hV : V = V') :
    updV u (slotOf v) row V = updV u (slotOf v') row V' := by subst hv; subst hV; rfl

theorem updC_congr {b : ℕ} {v v' : BitVec 32} {C C' : Vec F S3x200 .i32} (hv : v = v') (hC : C = C') :
    updC b v C = updC b v' C' := by subst hv; subst hC; rfl

/-- One trip's eight steps of the running maxima. -/
theorem vacN_eight (V : Vec F S8x208x384 .f32) (hh : ℕ → Fin 384 → F .f32) (idr : ℕ → BitVec 32) (k : ℕ) :
    vacN V hh idr (8 * (k + 1)) = updV 7 (slotOf (idr (8 * k + 7))) (hh (8 * k + 7)) (updV 6 (slotOf (idr (8 * k + 6))) (hh (8 * k + 6)) (updV 5 (slotOf (idr (8 * k + 5))) (hh (8 * k + 5)) (updV 4 (slotOf (idr (8 * k + 4))) (hh (8 * k + 4)) (updV 3 (slotOf (idr (8 * k + 3))) (hh (8 * k + 3)) (updV 2 (slotOf (idr (8 * k + 2))) (hh (8 * k + 2)) (updV 1 (slotOf (idr (8 * k + 1))) (hh (8 * k + 1)) (updV 0 (slotOf (idr (8 * k + 0))) (hh (8 * k + 0)) (vacN V hh idr (8 * k))))))))) := by
  show vacN V hh idr (8 * k + 7 + 1) = _
  exact (vacN_succ V hh idr k 7 (by decide)).trans (updV_congr rfl ((vacN_succ V hh idr k 6 (by decide)).trans (updV_congr rfl ((vacN_succ V hh idr k 5 (by decide)).trans (updV_congr rfl ((vacN_succ V hh idr k 4 (by decide)).trans (updV_congr rfl ((vacN_succ V hh idr k 3 (by decide)).trans (updV_congr rfl ((vacN_succ V hh idr k 2 (by decide)).trans (updV_congr rfl ((vacN_succ V hh idr k 1 (by decide)).trans (updV_congr rfl ((vacN_succ V hh idr k 0 (by decide)).trans (updV_congr rfl (rfl))))))))))))))))

/-- One trip's eight steps of the counts. -/
theorem cntN_eight (b : ℕ) (C : Vec F S3x200 .i32) (idr : ℕ → BitVec 32) (k : ℕ) :
    cntN b C idr (8 * (k + 1)) = updC b (idr (8 * k + 7)) (updC b (idr (8 * k + 6)) (updC b (idr (8 * k + 5)) (updC b (idr (8 * k + 4)) (updC b (idr (8 * k + 3)) (updC b (idr (8 * k + 2)) (updC b (idr (8 * k + 1)) (updC b (idr (8 * k + 0)) (cntN b C idr (8 * k))))))))) := rfl

/-- Row `r` of a tile of point features. -/
def rowOf (H : Vec F S128x384 .f32) (r : ℕ) (c : Fin 384) : F .f32 := H (ix2 ⟨r % 128, Nat.mod_lt _ (by decide)⟩ c)

/-- The voxel id of point `n` of batch `b`. -/
def idOf (I : Vec F S3x640 .i32) (b n : ℕ) : BitVec 32 :=
  I (ix2 ⟨b % 3, Nat.mod_lt _ (by decide)⟩ ⟨n % 640, Nat.mod_lt _ (by decide)⟩)

/-- One store of the loop into the running maxima is one point folded in. -/
theorem read_vstep {κ κ' : Kind} {sp sp' : Space} (m12 : View sig κ sp S8x208x384 .f32) (m11 : View sig κ' sp' S128x384 .f32)
    (f : m12.ty.Contents (Elt F)) (L : List (View.Piece (Elt F) S8x208x384 .f32)) (f11 : m11.ty.Contents (Elt F))
    {off : Fin 3 → ℕ} (inb : ∀ a, off a + S1x1x384.size a ≤ S8x208x384.size a)
    {off11 : Fin 2 → ℕ} (inb11 : ∀ a, off11 a + S1x384.size a ≤ S128x384.size a)
    (u s r : ℕ) (hoff : off = ![u, s, 0]) (hoff11 : off11 = ![r, 0]) :
    m12.read (Elt F) (m12.writes (Elt F) f ((⟨Rect.unit (s := S8x208x384) off S1x1x384.size inb,
        k0_pay3 (m12.readAt (Elt F) (Rect.unit (s := S8x208x384) off S1x1x384.size inb).toLoadRect (m12.writes (Elt F) f L))
          (m11.readAt (Elt F) (Rect.unit (s := S128x384) off11 S1x384.size inb11).toLoadRect f11)⟩ : View.Piece (Elt F) S8x208x384 .f32) :: L))
      = updV u s (rowOf (m11.read (Elt F) f11) r) (m12.read (Elt F) (m12.writes (Elt F) f L)) := by
  subst hoff; subst hoff11
  have hr : r < 128 := by have := inb11 0; simp at this; omega
  funext y
  idx_vars y
  by_cases h : y0.val = u ∧ y1.val = s
  · obtain ⟨rfl, rfl⟩ := h
    rw [View.read_writes_cons_unit_of_mem m12 f inb _ L (ix3 y0 y1 y2) (ix3 (0 : Fin 1) (0 : Fin 1) y2) rfl (by
      intro a; fin_cases a <;> simp [ix3])]
    unfold k0_pay3 updV rowOf
    pointwise
    simp only [View.readAt_apply]
    have e1 : (Rect.unit (s := S8x208x384) ![y0.val, y1.val, 0] S1x1x384.size inb).toLoadRect.idx (ix3 (0 : Fin 1) (0 : Fin 1) y2) = ix3 y0 y1 y2 := by
      funext a; fin_cases a <;> apply Fin.ext <;> simp [ix3, LoadRect.idx]
    have e2 : (Rect.unit (s := S128x384) ![r, 0] S1x384.size inb11).toLoadRect.idx (ix2 (0 : Fin 1) y2) = ix2 ⟨r % 128, Nat.mod_lt _ (by decide)⟩ y2 := by
      funext a; fin_cases a <;> apply Fin.ext <;> simp [ix2, LoadRect.idx]; omega
    rw [e1, e2]
  · have hn : m12.read (Elt F) (m12.writes (Elt F) f ((⟨Rect.unit (s := S8x208x384) ![u, s, 0] S1x1x384.size inb,
        k0_pay3 (m12.readAt (Elt F) (Rect.unit (s := S8x208x384) ![u, s, 0] S1x1x384.size inb).toLoadRect (m12.writes (Elt F) f L))
          (m11.readAt (Elt F) (Rect.unit (s := S128x384) ![r, 0] S1x384.size inb11).toLoadRect f11)⟩ : View.Piece (Elt F) S8x208x384 .f32) :: L)) (ix3 y0 y1 y2)
        = m12.read (Elt F) (m12.writes (Elt F) f L) (ix3 y0 y1 y2) := by
      rcases not_and_or.mp h with h | h
      · exact View.read_writes_cons_unit_of_not_mem m12 f inb _ L (ix3 y0 y1 y2) rfl 0 (by simp [ix3]; omega)
      · exact View.read_writes_cons_unit_of_not_mem m12 f inb _ L (ix3 y0 y1 y2) rfl 1 (by simp [ix3]; omega)
    rw [hn]
    unfold updV
    exact (if_neg h).symm

/-- One counted point of the loop, or one that is not, is one step of the counts. -/
theorem read_cstep {κ : Kind} {sp : Space} (m9 : View sig κ sp S3x200 .i32)
    (f : m9.ty.Contents (Elt F)) {C : Prop} [Decidable C] {off : Fin 2 → ℕ} (inb : C → ∀ a, off a + S1x1.size a ≤ S3x200.size a)
    (h1 : 0 < S1x1.numel) (w : C → Elt F .i32) (b : ℕ) (v : BitVec 32) (hC : C ↔ counted v = true) (hoff : off = ![b, v.toNat])
    (hw : ∀ hc, w hc = Scalar.addi (m9.readAt (Elt F) (Rect.unit (s := S3x200) off S1x1.size (inb hc)).toLoadRect f (Shape.Idx.first h1)) 1#32) :
    m9.read (Elt F) (if hc : C then m9.writes (Elt F) f [⟨Rect.unit (s := S3x200) off S1x1.size (inb hc), fun _ => w hc⟩] else f)
      = updC b v (m9.read (Elt F) f) := by
  subst hoff
  funext y
  idx_vars y
  by_cases hc : C
  · rw [dif_pos hc]
    have hcv := hC.mp hc
    by_cases h : y0.val = b ∧ y1.val = v.toNat
    · obtain ⟨rfl, h2⟩ := h
      rw [View.read_writes_cons_unit_of_mem m9 f (inb hc) _ [] (ix2 y0 y1) (ix2 (0 : Fin 1) (0 : Fin 1)) rfl (by
        intro a; fin_cases a <;> simp [ix2, h2])]
      unfold updC
      rw [hw, View.readAt_apply]
      have e1 : (Rect.unit (s := S3x200) ![y0.val, v.toNat] S1x1.size (inb hc)).toLoadRect.idx (Shape.Idx.first h1) = ix2 y0 y1 := by
        funext a; fin_cases a <;> apply Fin.ext <;> simp [ix2, LoadRect.idx, Shape.Idx.first, h2]
      rw [e1]
      exact (if_pos ⟨hcv, rfl, h2⟩).symm
    · have hn : m9.read (Elt F) (m9.writes (Elt F) f [⟨Rect.unit (s := S3x200) ![b, v.toNat] S1x1.size (inb hc), fun _ => w hc⟩]) (ix2 y0 y1)
          = m9.read (Elt F) f (ix2 y0 y1) := by
        rcases not_and_or.mp h with h | h
        · exact View.read_writes_cons_unit_of_not_mem m9 f (inb hc) _ [] (ix2 y0 y1) rfl 0 (by simp [ix2]; omega)
        · exact View.read_writes_cons_unit_of_not_mem m9 f (inb hc) _ [] (ix2 y0 y1) rfl 1 (by simp [ix2]; omega)
      rw [hn]
      unfold updC
      exact (if_neg fun h' => h h'.2).symm
  · rw [dif_neg hc]
    unfold updC
    exact (if_neg fun h' => hc (hC.mpr h'.1)).symm

/-- The precondition on one voxel id: below the number of voxels (a negative id is dropped). -/
def idOK (v : BitVec 32) : Prop := v.slt 200#32 = true

theorem counted_iff (v : BitVec 32) : counted v = true ↔ 0 ≤ v.toInt := by
  have h : Scalar.cmpi .sge v 0#32 = BitVec.ofBool (decide (0 ≤ v.toInt)) := rfl
  unfold counted
  rw [h]
  by_cases h0 : 0 ≤ v.toInt <;> simp [h0]

theorem slotOf_of_counted {v : BitVec 32} (h : counted v = true) : slotOf v = v.toNat := by
  unfold counted at h
  unfold slotOf Scalar.select
  rw [if_pos (by simpa using h)]

theorem slotOf_of_not_counted {v : BitVec 32} (h : ¬ counted v = true) : slotOf v = 200 := by
  unfold counted at h
  unfold slotOf Scalar.select
  rw [if_neg (by simpa using h)]; rfl

theorem toNat_lt {v : BitVec 32} (hv : idOK v) (h : counted v = true) : v.toNat < 200 := by
  rw [counted_iff] at h
  have h2 : v.toInt < 200 := by
    have := hv; unfold idOK BitVec.slt at this; simpa using this
  have h3 := BitVec.toInt_eq_toNat_of_msb (x := v) (by
    rw [BitVec.msb_eq_toInt]; simp; omega)
  omega

theorem slotOf_le {v : BitVec 32} (hv : idOK v) : slotOf v ≤ 200 := by
  by_cases h : counted v = true
  · rw [slotOf_of_counted h]; exact (toNat_lt hv h).le
  · rw [slotOf_of_not_counted h]

theorem cond_iff (v : BitVec 32) : Scalar.cmpi .ne (Scalar.extui (Scalar.cmpi .sge v 0#32) : BitVec 32) 0#32 = 1#1 ↔ counted v = true := by
  unfold counted
  generalize Scalar.cmpi .sge v 0#32 = b
  revert b; decide

theorem inb_slot (u : ℕ) (hu : u < 8) {v : BitVec 32} (hv : idOK v) : ∀ a : Fin 3, (![u, slotOf v, 0] : Fin 3 → ℕ) a + S1x1x384.size a ≤ S8x208x384.size a := by
  have := slotOf_le hv
  intro a; fin_cases a <;> simp <;> omega

theorem inb_cell (i : grid0.Coords) {v : BitVec 32} (hv : idOK v) (hc : counted v = true) :
    ∀ a : Fin 2, (![(i 0).val, v.toNat] : Fin 2 → ℕ) a + S1x1.size a ≤ S3x200.size a := by
  have h1 := toNat_lt hv hc
  have h : (i 0).val < 3 := (i 0).isLt
  intro a; fin_cases a <;> simp <;> omega

theorem off3_eq (v : BitVec 32) : k0_off3 v = ![0, slotOf v, 0] := rfl
theorem off5_eq (i : grid0.Coords) (v : BitVec 32) : k0_off5 i v = ![(i 0).val, v.toNat] := by
  have h : (i 0).val < 3 := (i 0).isLt
  show ![(BitVec.ofNat 32 (i 0).val).toNat, v.toNat] = _
  rw [BitVec.toNat_ofNat, Nat.mod_eq_of_lt (by omega)]
theorem cond2_iff (v : BitVec 32) : k0_cond2 v = 1#1 ↔ counted v = true := cond_iff v
theorem off7_eq (v : BitVec 32) : k0_off7 v = ![1, slotOf v, 0] := rfl
theorem off9_eq (i : grid0.Coords) (v : BitVec 32) : k0_off9 i v = ![(i 0).val, v.toNat] := by
  have h : (i 0).val < 3 := (i 0).isLt
  show ![(BitVec.ofNat 32 (i 0).val).toNat, v.toNat] = _
  rw [BitVec.toNat_ofNat, Nat.mod_eq_of_lt (by omega)]
theorem cond3_iff (v : BitVec 32) : k0_cond3 v = 1#1 ↔ counted v = true := cond_iff v
theorem off11_eq (v : BitVec 32) : k0_off11 v = ![2, slotOf v, 0] := rfl
theorem off13_eq (i : grid0.Coords) (v : BitVec 32) : k0_off13 i v = ![(i 0).val, v.toNat] := by
  have h : (i 0).val < 3 := (i 0).isLt
  show ![(BitVec.ofNat 32 (i 0).val).toNat, v.toNat] = _
  rw [BitVec.toNat_ofNat, Nat.mod_eq_of_lt (by omega)]
theorem cond4_iff (v : BitVec 32) : k0_cond4 v = 1#1 ↔ counted v = true := cond_iff v
theorem off15_eq (v : BitVec 32) : k0_off15 v = ![3, slotOf v, 0] := rfl
theorem off17_eq (i : grid0.Coords) (v : BitVec 32) : k0_off17 i v = ![(i 0).val, v.toNat] := by
  have h : (i 0).val < 3 := (i 0).isLt
  show ![(BitVec.ofNat 32 (i 0).val).toNat, v.toNat] = _
  rw [BitVec.toNat_ofNat, Nat.mod_eq_of_lt (by omega)]
theorem cond5_iff (v : BitVec 32) : k0_cond5 v = 1#1 ↔ counted v = true := cond_iff v
theorem off19_eq (v : BitVec 32) : k0_off19 v = ![4, slotOf v, 0] := rfl
theorem off21_eq (i : grid0.Coords) (v : BitVec 32) : k0_off21 i v = ![(i 0).val, v.toNat] := by
  have h : (i 0).val < 3 := (i 0).isLt
  show ![(BitVec.ofNat 32 (i 0).val).toNat, v.toNat] = _
  rw [BitVec.toNat_ofNat, Nat.mod_eq_of_lt (by omega)]
theorem cond6_iff (v : BitVec 32) : k0_cond6 v = 1#1 ↔ counted v = true := cond_iff v
theorem off23_eq (v : BitVec 32) : k0_off23 v = ![5, slotOf v, 0] := rfl
theorem off25_eq (i : grid0.Coords) (v : BitVec 32) : k0_off25 i v = ![(i 0).val, v.toNat] := by
  have h : (i 0).val < 3 := (i 0).isLt
  show ![(BitVec.ofNat 32 (i 0).val).toNat, v.toNat] = _
  rw [BitVec.toNat_ofNat, Nat.mod_eq_of_lt (by omega)]
theorem cond7_iff (v : BitVec 32) : k0_cond7 v = 1#1 ↔ counted v = true := cond_iff v
theorem off27_eq (v : BitVec 32) : k0_off27 v = ![6, slotOf v, 0] := rfl
theorem off29_eq (i : grid0.Coords) (v : BitVec 32) : k0_off29 i v = ![(i 0).val, v.toNat] := by
  have h : (i 0).val < 3 := (i 0).isLt
  show ![(BitVec.ofNat 32 (i 0).val).toNat, v.toNat] = _
  rw [BitVec.toNat_ofNat, Nat.mod_eq_of_lt (by omega)]
theorem cond8_iff (v : BitVec 32) : k0_cond8 v = 1#1 ↔ counted v = true := cond_iff v
theorem off31_eq (v : BitVec 32) : k0_off31 v = ![7, slotOf v, 0] := rfl
theorem off33_eq (i : grid0.Coords) (v : BitVec 32) : k0_off33 i v = ![(i 0).val, v.toNat] := by
  have h : (i 0).val < 3 := (i 0).isLt
  show ![(BitVec.ofNat 32 (i 0).val).toNat, v.toNat] = _
  rw [BitVec.toNat_ofNat, Nat.mod_eq_of_lt (by omega)]
theorem cond9_iff (v : BitVec 32) : k0_cond9 v = 1#1 ↔ counted v = true := cond_iff v

theorem chk1 (i : grid0.Coords) {v : BitVec 32} (hv : idOK v) : k0_chk1 i v := by
  refine ⟨?_, fun hc => ?_⟩
  · rw [off3_eq]; exact inb_slot 0 (by decide) hv
  · rw [off5_eq]; exact inb_cell i hv ((cond2_iff v).mp hc)
theorem chk2 (i : grid0.Coords) {v : BitVec 32} (hv : idOK v) : k0_chk2 i v := by
  refine ⟨?_, fun hc => ?_⟩
  · rw [off7_eq]; exact inb_slot 1 (by decide) hv
  · rw [off9_eq]; exact inb_cell i hv ((cond3_iff v).mp hc)
theorem chk3 (i : grid0.Coords) {v : BitVec 32} (hv : idOK v) : k0_chk3 i v := by
  refine ⟨?_, fun hc => ?_⟩
  · rw [off11_eq]; exact inb_slot 2 (by decide) hv
  · rw [off13_eq]; exact inb_cell i hv ((cond4_iff v).mp hc)
theorem chk4 (i : grid0.Coords) {v : BitVec 32} (hv : idOK v) : k0_chk4 i v := by
  refine ⟨?_, fun hc => ?_⟩
  · rw [off15_eq]; exact inb_slot 3 (by decide) hv
  · rw [off17_eq]; exact inb_cell i hv ((cond5_iff v).mp hc)
theorem chk5 (i : grid0.Coords) {v : BitVec 32} (hv : idOK v) : k0_chk5 i v := by
  refine ⟨?_, fun hc => ?_⟩
  · rw [off19_eq]; exact inb_slot 4 (by decide) hv
  · rw [off21_eq]; exact inb_cell i hv ((cond6_iff v).mp hc)
theorem chk6 (i : grid0.Coords) {v : BitVec 32} (hv : idOK v) : k0_chk6 i v := by
  refine ⟨?_, fun hc => ?_⟩
  · rw [off23_eq]; exact inb_slot 5 (by decide) hv
  · rw [off25_eq]; exact inb_cell i hv ((cond7_iff v).mp hc)
theorem chk7 (i : grid0.Coords) {v : BitVec 32} (hv : idOK v) : k0_chk7 i v := by
  refine ⟨?_, fun hc => ?_⟩
  · rw [off27_eq]; exact inb_slot 6 (by decide) hv
  · rw [off29_eq]; exact inb_cell i hv ((cond8_iff v).mp hc)
theorem chk8 (i : grid0.Coords) {v : BitVec 32} (hv : idOK v) : k0_chk8 i v := by
  refine ⟨?_, fun hc => ?_⟩
  · rw [off31_eq]; exact inb_slot 7 (by decide) hv
  · rw [off33_eq]; exact inb_cell i hv ((cond9_iff v).mp hc)

end Cert.KernelIdeal.Hand
-- ==== Proof.KernelIdealTrip.lean ====
/- One trip of the scatter loop of the kernel, and the loop's invariant: eight points are folded into the running maxima and
   counted per trip. -/
module

public import proofs.«01_k».proof.Proof.Gen.KernelIdeal.Loops
public import proofs.«01_k».proof.Proof.Gen.KernelIdeal.Frame
public import proofs.«01_k».proof.Proof.KernelIdealModel

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄G" => MT nD τ sig Unit (Elt F) ℕ (UR sig nD τ) ℕ

/-- The word the loop reads at a point's place is that point's voxel id. -/
theorem read_id {κ : Kind} {sp : Space} (m2 : View sig κ sp S3x640 .i32) (f2 : m2.ty.Contents (Elt F))
    {off : Fin 2 → ℕ} (inb : ∀ a, off a + S1x1.size a ≤ S3x640.size a) (h1 : 0 < S1x1.numel) (b n : ℕ) (hoff : off = ![b, n]) :
    m2.readAt (Elt F) (Rect.unit (s := S3x640) off S1x1.size inb).toLoadRect f2 (Shape.Idx.first h1) = idOf (m2.read (Elt F) f2) b n := by
  subst hoff
  have hb : b < 3 := by have := inb 0; simp at this; omega
  have hn : n < 640 := by have := inb 1; simp at this; omega
  rw [View.readAt_apply]
  unfold idOf
  congr 1
  funext a; fin_cases a <;> apply Fin.ext <;> simp [ix2, LoadRect.idx, Shape.Idx.first] <;> omega

/-- ONE TRIP at a symbolic `k`: points `8 k … 8 k + 7` of the tile. -/
theorem trip (𝒱 : Variants) (c : Dev nD) (bd : Option 𝒱.V) (E : Set ℕ) (i : grid0.Coords) (arg2 : Memref sig .tc .smem S3x640 .i32) (harg2 : arg2.IsWhole) (arg3 : Memref sig .tc .vmem S1x128x10240 .fp8e4m3) (harg3 : arg3.IsWhole) (arg4 : Memref sig .tc .vmem S1x128x320 .f32) (harg4 : arg4.IsWhole) (arg5 : Memref sig .tc .vmem S10240x384 .fp8e4m3) (harg5 : arg5.IsWhole) (arg6 : Memref sig .tc .vmem S1x384 .f32) (harg6 : arg6.IsWhole) (arg7 : Memref sig .tc .vmem S1x384 .f32) (harg7 : arg7.IsWhole) (arg8 : Memref sig .tc .vmem S1x200x384 .bf16) (harg8 : arg8.IsWhole) (arg9 : Memref sig .tc .smem S3x200 .i32) (harg9 : arg9.IsWhole) (arg10 : Memref sig .tc .vmem S1x128x384 .bf16) (harg10 : arg10.IsWhole) (arg11 : Memref sig .tc .vmem S128x384 .f32) (harg11 : arg11.IsWhole) (arg12 : Memref sig .tc .vmem S8x208x384 .f32) (harg12 : arg12.IsWhole) (arg0 : BitVec 32) (arg1 : BitVec 32)
    (k : Fin k0_t2_loop.trips) (f2 f9 f11 f12) (hids : ∀ j, idOK (arg2.view.read (Elt F) f2 j))
    (C : Vec F S3x200 .i32) (V : Vec F S8x208x384 .f32)
    (h9 : arg9.view.read (Elt F) f9 = cntN (i 0).val C (fun r => idOf (arg2.view.read (Elt F) f2) (i 0).val (128 * (i 1).val + r)) (8 * k.val))
    (h12 : arg12.view.read (Elt F) f12 = vacN V (rowOf (arg11.view.read (Elt F) f11)) (fun r => idOf (arg2.view.read (Elt F) f2) (i 0).val (128 * (i 1).val + r)) (8 * k.val)) :
    iprop((arg2.view.loc (c : Thread nD τ) ↦[arg2.view.set]{fullShare} f2) ∗ (arg9.view.loc (c : Thread nD τ) ↦[arg9.view.set]{fullShare} f9)
      ∗ (arg11.view.loc (c : Thread nD τ) ↦[arg11.view.set]{fullShare} f11) ∗ (arg12.view.loc (c : Thread nD τ) ↦[arg12.view.set]{fullShare} f12))
    ⊢ wp frame (wpE (defs₀ (F := F)) 𝒱 (c : Thread nD τ) bd) E (k0_t2_body i arg2 harg2 arg3 harg3 arg4 harg4 arg5 harg5 arg6 harg6 arg7 harg7 arg8 harg8 arg9 harg9 arg10 harg10 arg11 harg11 arg12 harg12 arg0 arg1 k ())
      (fun _ => (iprop((arg2.view.loc (c : Thread nD τ) ↦[arg2.view.set]{fullShare} f2) ∗ (arg11.view.loc (c : Thread nD τ) ↦[arg11.view.set]{fullShare} f11)
        ∗ (∃ f, ⌜arg9.view.read (Elt F) f = cntN (i 0).val C (fun r => idOf (arg2.view.read (Elt F) f2) (i 0).val (128 * (i 1).val + r)) (8 * (k.val + 1))⌝
            ∗ (arg9.view.loc (c : Thread nD τ) ↦[arg9.view.set]{fullShare} f))
        ∗ (∃ f, ⌜arg12.view.read (Elt F) f = vacN V (rowOf (arg11.view.read (Elt F) f11)) (fun r => idOf (arg2.view.read (Elt F) f2) (i 0).val (128 * (i 1).val + r)) (8 * (k.val + 1))⌝
            ∗ (arg12.view.loc (c : Thread nD τ) ↦[arg12.view.set]{fullShare} f))) : sProp 𝕄G)) := by
  have h1 : k0_chk1 i (View.readAt (Elt F) arg2.view (Rect.unit (s := S3x640) (k0_off2 i k) S1x1.size (k0_off2_inb i k)).toLoadRect f2 (Shape.Idx.first (numel1_S1x1.symm ▸ Nat.one_pos))) := chk1 i (hids _)
  have h2 : k0_chk2 i (View.readAt (Elt F) arg2.view (Rect.unit (s := S3x640) (k0_off6 i k) S1x1.size (k0_off6_inb i k)).toLoadRect f2 (Shape.Idx.first (numel1_S1x1.symm ▸ Nat.one_pos))) := chk2 i (hids _)
  have h3 : k0_chk3 i (View.readAt (Elt F) arg2.view (Rect.unit (s := S3x640) (k0_off10 i k) S1x1.size (k0_off10_inb i k)).toLoadRect f2 (Shape.Idx.first (numel1_S1x1.symm ▸ Nat.one_pos))) := chk3 i (hids _)
  have h4 : k0_chk4 i (View.readAt (Elt F) arg2.view (Rect.unit (s := S3x640) (k0_off14 i k) S1x1.size (k0_off14_inb i k)).toLoadRect f2 (Shape.Idx.first (numel1_S1x1.symm ▸ Nat.one_pos))) := chk4 i (hids _)
  have h5 : k0_chk5 i (View.readAt (Elt F) arg2.view (Rect.unit (s := S3x640) (k0_off18 i k) S1x1.size (k0_off18_inb i k)).toLoadRect f2 (Shape.Idx.first (numel1_S1x1.symm ▸ Nat.one_pos))) := chk5 i (hids _)
  have h6 : k0_chk6 i (View.readAt (Elt F) arg2.view (Rect.unit (s := S3x640) (k0_off22 i k) S1x1.size (k0_off22_inb i k)).toLoadRect f2 (Shape.Idx.first (numel1_S1x1.symm ▸ Nat.one_pos))) := chk6 i (hids _)
  have h7 : k0_chk7 i (View.readAt (Elt F) arg2.view (Rect.unit (s := S3x640) (k0_off26 i k) S1x1.size (k0_off26_inb i k)).toLoadRect f2 (Shape.Idx.first (numel1_S1x1.symm ▸ Nat.one_pos))) := chk7 i (hids _)
  have h8 : k0_chk8 i (View.readAt (Elt F) arg2.view (Rect.unit (s := S3x640) (k0_off30 i k) S1x1.size (k0_off30_inb i k)).toLoadRect f2 (Shape.Idx.first (numel1_S1x1.symm ▸ Nat.one_pos))) := chk8 i (hids _)
  unfold k0_t2_body
  iintro ⟨H2, H9, H11, H12⟩
  sl_exec
  sl_step
  isplitl [H2]; · iexact H2
  isplitl [H11]; · iexact H11
  isplitl [H9]
  · iexists _; isplitr; swap; · iexact H9
    ipureintro
    refine Eq.trans ?_ (cntN_eight _ _ _ _).symm
    refine (read_cstep arg9.view _ _ (numel1_S1x1.symm ▸ Nat.one_pos) _ (i 0).val _ (cond9_iff _) (off33_eq i _) (fun hc => rfl)).trans ?_
    refine updC_congr (read_id arg2.view f2 (k0_off30_inb i k) (numel1_S1x1.symm ▸ Nat.one_pos) (i 0).val (128 * (i 1).val + (8 * k.val + 7)) (k0_off30_eq i k)) ?_
    refine (read_cstep arg9.view _ _ (numel1_S1x1.symm ▸ Nat.one_pos) _ (i 0).val _ (cond8_iff _) (off29_eq i _) (fun hc => rfl)).trans ?_
    refine updC_congr (read_id arg2.view f2 (k0_off26_inb i k) (numel1_S1x1.symm ▸ Nat.one_pos) (i 0).val (128 * (i 1).val + (8 * k.val + 6)) (k0_off26_eq i k)) ?_
    refine (read_cstep arg9.view _ _ (numel1_S1x1.symm ▸ Nat.one_pos) _ (i 0).val _ (cond7_iff _) (off25_eq i _) (fun hc => rfl)).trans ?_
    refine updC_congr (read_id arg2.view f2 (k0_off22_inb i k) (numel1_S1x1.symm ▸ Nat.one_pos) (i 0).val (128 * (i 1).val + (8 * k.val + 5)) (k0_off22_eq i k)) ?_
    refine (read_cstep arg9.view _ _ (numel1_S1x1.symm ▸ Nat.one_pos) _ (i 0).val _ (cond6_iff _) (off21_eq i _) (fun hc => rfl)).trans ?_
    refine updC_congr (read_id arg2.view f2 (k0_off18_inb i k) (numel1_S1x1.symm ▸ Nat.one_pos) (i 0).val (128 * (i 1).val + (8 * k.val + 4)) (k0_off18_eq i k)) ?_
    refine (read_cstep arg9.view _ _ (numel1_S1x1.symm ▸ Nat.one_pos) _ (i 0).val _ (cond5_iff _) (off17_eq i _) (fun hc => rfl)).trans ?_
    refine updC_congr (read_id arg2.view f2 (k0_off14_inb i k) (numel1_S1x1.symm ▸ Nat.one_pos) (i 0).val (128 * (i 1).val + (8 * k.val + 3)) (k0_off14_eq i k)) ?_
    refine (read_cstep arg9.view _ _ (numel1_S1x1.symm ▸ Nat.one_pos) _ (i 0).val _ (cond4_iff _) (off13_eq i _) (fun hc => rfl)).trans ?_
    refine updC_congr (read_id arg2.view f2 (k0_off10_inb i k) (numel1_S1x1.symm ▸ Nat.one_pos) (i 0).val (128 * (i 1).val + (8 * k.val + 2)) (k0_off10_eq i k)) ?_
    refine (read_cstep arg9.view _ _ (numel1_S1x1.symm ▸ Nat.one_pos) _ (i 0).val _ (cond3_iff _) (off9_eq i _) (fun hc => rfl)).trans ?_
    refine updC_congr (read_id arg2.view f2 (k0_off6_inb i k) (numel1_S1x1.symm ▸ Nat.one_pos) (i 0).val (128 * (i 1).val + (8 * k.val + 1)) (k0_off6_eq i k)) ?_
    refine (read_cstep arg9.view _ _ (numel1_S1x1.symm ▸ Nat.one_pos) _ (i 0).val _ (cond2_iff _) (off5_eq i _) (fun hc => rfl)).trans ?_
    refine updC_congr (read_id arg2.view f2 (k0_off2_inb i k) (numel1_S1x1.symm ▸ Nat.one_pos) (i 0).val (128 * (i 1).val + (8 * k.val + 0)) (k0_off2_eq i k)) ?_
    exact h9
  · iexists _; isplitr; swap; · iexact H12
    ipureintro
    refine Eq.trans ?_ (vacN_eight _ _ _ _).symm
    refine (read_vstep arg12.view arg11.view f12 _ f11 _ _ 7 _ (8 * k.val + 7) (off31_eq _) (k0_off32_eq k)).trans ?_
    refine updV_congr (read_id arg2.view f2 (k0_off30_inb i k) (numel1_S1x1.symm ▸ Nat.one_pos) (i 0).val (128 * (i 1).val + (8 * k.val + 7)) (k0_off30_eq i k)) ?_
    refine (read_vstep arg12.view arg11.view f12 _ f11 _ _ 6 _ (8 * k.val + 6) (off27_eq _) (k0_off28_eq k)).trans ?_
    refine updV_congr (read_id arg2.view f2 (k0_off26_inb i k) (numel1_S1x1.symm ▸ Nat.one_pos) (i 0).val (128 * (i 1).val + (8 * k.val + 6)) (k0_off26_eq i k)) ?_
    refine (read_vstep arg12.view arg11.view f12 _ f11 _ _ 5 _ (8 * k.val + 5) (off23_eq _) (k0_off24_eq k)).trans ?_
    refine updV_congr (read_id arg2.view f2 (k0_off22_inb i k) (numel1_S1x1.symm ▸ Nat.one_pos) (i 0).val (128 * (i 1).val + (8 * k.val + 5)) (k0_off22_eq i k)) ?_
    refine (read_vstep arg12.view arg11.view f12 _ f11 _ _ 4 _ (8 * k.val + 4) (off19_eq _) (k0_off20_eq k)).trans ?_
    refine updV_congr (read_id arg2.view f2 (k0_off18_inb i k) (numel1_S1x1.symm ▸ Nat.one_pos) (i 0).val (128 * (i 1).val + (8 * k.val + 4)) (k0_off18_eq i k)) ?_
    refine (read_vstep arg12.view arg11.view f12 _ f11 _ _ 3 _ (8 * k.val + 3) (off15_eq _) (k0_off16_eq k)).trans ?_
    refine updV_congr (read_id arg2.view f2 (k0_off14_inb i k) (numel1_S1x1.symm ▸ Nat.one_pos) (i 0).val (128 * (i 1).val + (8 * k.val + 3)) (k0_off14_eq i k)) ?_
    refine (read_vstep arg12.view arg11.view f12 _ f11 _ _ 2 _ (8 * k.val + 2) (off11_eq _) (k0_off12_eq k)).trans ?_
    refine updV_congr (read_id arg2.view f2 (k0_off10_inb i k) (numel1_S1x1.symm ▸ Nat.one_pos) (i 0).val (128 * (i 1).val + (8 * k.val + 2)) (k0_off10_eq i k)) ?_
    refine (read_vstep arg12.view arg11.view f12 _ f11 _ _ 1 _ (8 * k.val + 1) (off7_eq _) (k0_off8_eq k)).trans ?_
    refine updV_congr (read_id arg2.view f2 (k0_off6_inb i k) (numel1_S1x1.symm ▸ Nat.one_pos) (i 0).val (128 * (i 1).val + (8 * k.val + 1)) (k0_off6_eq i k)) ?_
    refine (read_vstep arg12.view arg11.view f12 _ f11 _ _ 0 _ (8 * k.val + 0) (off3_eq _) (k0_off4_eq k)).trans ?_
    refine updV_congr (read_id arg2.view f2 (k0_off2_inb i k) (numel1_S1x1.symm ▸ Nat.one_pos) (i 0).val (128 * (i 1).val + (8 * k.val + 0)) (k0_off2_eq i k)) ?_
    exact h12

end Cert.KernelIdeal.Hand
-- ==== Proof.KernelIdealLoops.lean ====
/- The kernel body's two loops by their invariants: the counts of a batch's row set to zero, and the points of a tile folded
   into the running maxima and the counts. -/
module

public import proofs.«01_k».proof.Proof.Gen.KernelIdeal.Loops
public import proofs.«01_k».proof.Proof.Gen.KernelIdeal.Frame
public import proofs.«01_k».proof.Proof.KernelIdealTrip

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄G" => MT nD τ sig Unit (Elt F) ℕ (UR sig nD τ) ℕ

/-- Row `b` of the counts after its first `n` cells are set to zero. -/
def zeroN (b : ℕ) (C : Vec F S3x200 .i32) (n : ℕ) : Vec F S3x200 .i32 :=
  fun y => if (y 0).val = b ∧ (y 1).val < n then 0#32 else C y

theorem zeroN_zero (b : ℕ) (C : Vec F S3x200 .i32) : C = zeroN b C 0 := by
  funext y
  exact (if_neg fun h => Nat.not_lt_zero _ h.2).symm

/-- One store of the zeroing loop. -/
theorem read_zstep {κ : Kind} {sp : Space} (m9 : View sig κ sp S3x200 .i32) (f : m9.ty.Contents (Elt F)) {off : Fin 2 → ℕ}
    (inb : ∀ a, off a + S1x1.size a ≤ S3x200.size a) (b n : ℕ) (hoff : off = ![b, n]) (C : Vec F S3x200 .i32)
    (hf : m9.read (Elt F) f = zeroN b C n) :
    m9.read (Elt F) (m9.writes (Elt F) f [⟨Rect.unit (s := S3x200) off S1x1.size inb, fun _ => (0#32 : Elt F .i32)⟩]) = zeroN b C (n + 1) := by
  subst hoff
  funext y
  idx_vars y
  by_cases h : y0.val = b ∧ y1.val = n
  · obtain ⟨rfl, rfl⟩ := h
    rw [View.read_writes_cons_unit_of_mem m9 f inb _ [] (ix2 y0 y1) (ix2 (0 : Fin 1) (0 : Fin 1)) rfl (by
      intro a; fin_cases a <;> simp [ix2])]
    simp [zeroN, ix2]
  · have hn : m9.read (Elt F) (m9.writes (Elt F) f [⟨Rect.unit (s := S3x200) ![b, n] S1x1.size inb, fun _ => (0#32 : Elt F .i32)⟩]) (ix2 y0 y1)
        = m9.read (Elt F) f (ix2 y0 y1) := by
      rcases not_and_or.mp h with h | h
      · exact View.read_writes_cons_unit_of_not_mem m9 f inb _ [] (ix2 y0 y1) rfl 0 (by simp [ix2]; omega)
      · exact View.read_writes_cons_unit_of_not_mem m9 f inb _ [] (ix2 y0 y1) rfl 1 (by simp [ix2]; omega)
    rw [hn, hf]
    simp only [zeroN, ix2]
    have e : (y0.val = b ∧ y1.val < n) ↔ (y0.val = b ∧ y1.val < n + 1) := by omega
    exact if_congr e rfl rfl

/-- ONE TRIP of the zeroing loop. -/
theorem trip1 (𝒱 : Variants) (c : Dev nD) (bd : Option 𝒱.V) (E : Set ℕ) (i : grid0.Coords) (arg2 : Memref sig .tc .smem S3x640 .i32) (harg2 : arg2.IsWhole) (arg3 : Memref sig .tc .vmem S1x128x10240 .fp8e4m3) (harg3 : arg3.IsWhole) (arg4 : Memref sig .tc .vmem S1x128x320 .f32) (harg4 : arg4.IsWhole) (arg5 : Memref sig .tc .vmem S10240x384 .fp8e4m3) (harg5 : arg5.IsWhole) (arg6 : Memref sig .tc .vmem S1x384 .f32) (harg6 : arg6.IsWhole) (arg7 : Memref sig .tc .vmem S1x384 .f32) (harg7 : arg7.IsWhole) (arg8 : Memref sig .tc .vmem S1x200x384 .bf16) (harg8 : arg8.IsWhole) (arg9 : Memref sig .tc .smem S3x200 .i32) (harg9 : arg9.IsWhole) (arg10 : Memref sig .tc .vmem S1x128x384 .bf16) (harg10 : arg10.IsWhole) (arg11 : Memref sig .tc .vmem S128x384 .f32) (harg11 : arg11.IsWhole) (arg12 : Memref sig .tc .vmem S8x208x384 .f32) (harg12 : arg12.IsWhole) (k0_h1 : k0_cond1 i = 1#1)
    (k : Fin k0_t1_loop.trips) (f9) (C : Vec F S3x200 .i32) (h9 : arg9.view.read (Elt F) f9 = zeroN (i 0).val C k.val) :
    iprop((arg9.view.loc (c : Thread nD τ) ↦[arg9.view.set]{fullShare} f9))
    ⊢ wp frame (wpE (defs₀ (F := F)) 𝒱 (c : Thread nD τ) bd) E (k0_t1_body i arg2 harg2 arg3 harg3 arg4 harg4 arg5 harg5 arg6 harg6 arg7 harg7 arg8 harg8 arg9 harg9 arg10 harg10 arg11 harg11 arg12 harg12 k0_h1 k ())
      (fun _ => (iprop(∃ f, (arg9.view.loc (c : Thread nD τ) ↦[arg9.view.set]{fullShare} f) ∗ ⌜arg9.view.read (Elt F) f = zeroN (i 0).val C (k.val + 1)⌝) : sProp 𝕄G)) := by
  have hk : k.val < 200 := Nat.lt_of_lt_of_le k.isLt k0_t1_abs.2.1
  unfold k0_t1_body
  iintro H9
  sl_exec
  sl_step
  iexists _; isplitl [H9]; · iexact H9
  ipureintro
  exact read_zstep arg9.view f9 _ (i 0).val k.val (k0_off1_eq i k) C h9

/-- The zeroing loop by its invariant. -/
@[reducible] def loop1 (𝒱 : Variants) (c : Dev nD) (bd : Option 𝒱.V) (E : Set ℕ) (i : grid0.Coords) (arg2 : Memref sig .tc .smem S3x640 .i32) (harg2 : arg2.IsWhole) (arg3 : Memref sig .tc .vmem S1x128x10240 .fp8e4m3) (harg3 : arg3.IsWhole) (arg4 : Memref sig .tc .vmem S1x128x320 .f32) (harg4 : arg4.IsWhole) (arg5 : Memref sig .tc .vmem S10240x384 .fp8e4m3) (harg5 : arg5.IsWhole) (arg6 : Memref sig .tc .vmem S1x384 .f32) (harg6 : arg6.IsWhole) (arg7 : Memref sig .tc .vmem S1x384 .f32) (harg7 : arg7.IsWhole) (arg8 : Memref sig .tc .vmem S1x200x384 .bf16) (harg8 : arg8.IsWhole) (arg9 : Memref sig .tc .smem S3x200 .i32) (harg9 : arg9.IsWhole) (arg10 : Memref sig .tc .vmem S1x128x384 .bf16) (harg10 : arg10.IsWhole) (arg11 : Memref sig .tc .vmem S128x384 .f32) (harg11 : arg11.IsWhole) (arg12 : Memref sig .tc .vmem S8x208x384 .f32) (harg12 : arg12.IsWhole) (k0_h1 : k0_cond1 i = 1#1) (G_arg9 : BufTy.Contents (Elt F) arg9.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 k0_h1 where
  inv k _ := iprop(∃ f, (arg9.view.loc (c : Thread nD τ) ↦[arg9.view.set]{fullShare} f) ∗ ⌜arg9.view.read (Elt F) f = zeroN (i 0).val (arg9.view.read (Elt F) G_arg9) k⌝)
  step k acc := by
    iintro ⟨%f9, H9, %h9⟩
    iapply (trip1 (F := F) 𝒱 c bd E i arg2 harg2 arg3 harg3 arg4 harg4 arg5 harg5 arg6 harg6 arg7 harg7 arg8 harg8 arg9 harg9 arg10 harg10 arg11 harg11 arg12 harg12 k0_h1 k f9 _ h9)
    iexact H9

set_option warn.classDefReducibility false in
/-- The scatter loop by its invariant. -/
@[sl_loop] def loop2 (𝒱 : Variants) (c : Dev nD) (bd : Option 𝒱.V) (E : Set ℕ) (i : grid0.Coords) (arg2 : Memref sig .tc .smem S3x640 .i32) (harg2 : arg2.IsWhole) (arg3 : Memref sig .tc .vmem S1x128x10240 .fp8e4m3) (harg3 : arg3.IsWhole) (arg4 : Memref sig .tc .vmem S1x128x320 .f32) (harg4 : arg4.IsWhole) (arg5 : Memref sig .tc .vmem S10240x384 .fp8e4m3) (harg5 : arg5.IsWhole) (arg6 : Memref sig .tc .vmem S1x384 .f32) (harg6 : arg6.IsWhole) (arg7 : Memref sig .tc .vmem S1x384 .f32) (harg7 : arg7.IsWhole) (arg8 : Memref sig .tc .vmem S1x200x384 .bf16) (harg8 : arg8.IsWhole) (arg9 : Memref sig .tc .smem S3x200 .i32) (harg9 : arg9.IsWhole) (arg10 : Memref sig .tc .vmem S1x128x384 .bf16) (harg10 : arg10.IsWhole) (arg11 : Memref sig .tc .vmem S128x384 .f32) (harg11 : arg11.IsWhole) (arg12 : Memref sig .tc .vmem S8x208x384 .f32) (harg12 : arg12.IsWhole) (arg0 : BitVec 32) (arg1 : BitVec 32)
    (X_arg2 : BufTy.Contents (Elt F) arg2.view.ty) (X_arg11 : BufTy.Contents (Elt F) arg11.view.ty) (G_arg9 : BufTy.Contents (Elt F) arg9.view.ty) (G_arg12 : BufTy.Contents (Elt F) arg12.view.ty)
    (hids : ∀ j, idOK (arg2.view.read (Elt F) X_arg2 j)) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg0 arg1 where
  inv k _ := iprop((arg2.view.loc (c : Thread nD τ) ↦[arg2.view.set]{fullShare} X_arg2) ∗ (arg11.view.loc (c : Thread nD τ) ↦[arg11.view.set]{fullShare} X_arg11)
    ∗ (∃ f, (arg9.view.loc (c : Thread nD τ) ↦[arg9.view.set]{fullShare} f) ∗ ⌜arg9.view.read (Elt F) f = cntN (i 0).val (arg9.view.read (Elt F) G_arg9) (fun r => idOf (arg2.view.read (Elt F) X_arg2) (i 0).val (128 * (i 1).val + r)) (8 * k)⌝)
    ∗ (∃ f, (arg12.view.loc (c : Thread nD τ) ↦[arg12.view.set]{fullShare} f) ∗ ⌜arg12.view.read (Elt F) f = vacN (arg12.view.read (Elt F) G_arg12) (rowOf (arg11.view.read (Elt F) X_arg11)) (fun r => idOf (arg2.view.read (Elt F) X_arg2) (i 0).val (128 * (i 1).val + r)) (8 * k)⌝))
  step k acc := by
    iintro ⟨H2, H11, ⟨%f9, H9, %h9⟩, ⟨%f12, H12, %h12⟩⟩
    iapply (wp_wand_r Idealize.ShloMosaic.frame (wpE (defs₀ (F := F)) 𝒱 (c : Thread nD τ) bd) E)
    isplitl [H2 H9 H11 H12]
    · iapply (trip (F := F) 𝒱 c bd E i arg2 harg2 arg3 harg3 arg4 harg4 arg5 harg5 arg6 harg6 arg7 harg7 arg8 harg8 arg9 harg9 arg10 harg10 arg11 harg11 arg12 harg12 arg0 arg1 k X_arg2 f9 X_arg11 f12 hids _ _ h9 h12)
      isplitl [H2]; · iexact H2
      isplitl [H9]; · iexact H9
      isplitl [H11]; · iexact H11
      iexact H12
    · iintro %_ ⟨H2, H11, ⟨%f9', %h9', H9⟩, ⟨%f12', %h12', H12⟩⟩
      isplitl [H2]; · iexact H2
      isplitl [H11]; · iexact H11
      isplitl [H9]
      · iexists _; isplitl [H9]; · iexact H9
        ipureintro; exact h9'
      · iexists _; isplitl [H12]; · iexact H12
        ipureintro; exact h12'

end Cert.KernelIdeal.Hand
-- ==== Proof.KernelIdealBody.lean ====
/- The kernel body's run at one grid point, as a statement about what its windows and scratch buffers read afterwards. -/
module

public import proofs.«01_k».proof.Proof.Gen.KernelIdeal.Loops
public import proofs.«01_k».proof.Proof.Gen.KernelIdeal.Frame
public import proofs.«01_k».proof.Proof.KernelIdealLoops
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄G" => MT nD τ sig Unit (Elt F) ℕ (UR sig nD τ) ℕ

theorem cond1_iff (i : grid0.Coords) : k0_cond1 i = 1#1 ↔ (i 1).val = 0 := by
  have h : ∀ n : Fin 5, (Scalar.cmpi .ne (Scalar.extui (Scalar.cmpi .eq (BitVec.ofNat 32 n.val) 0#32) : BitVec 32) 0#32 = 1#1 ↔ n.val = 0) := by decide
  exact h (i 1)

theorem cond10_iff (i : grid0.Coords) : k0_cond10 i = 1#1 ↔ (i 1).val = 4 := by
  have h : ∀ n : Fin 5, (Scalar.cmpi .ne (Scalar.extui (Scalar.cmpi .eq (BitVec.ofNat 32 n.val) 4#32) : BitVec 32) 0#32 = 1#1 ↔ n.val = 4) := by decide
  exact h (i 1)

theorem trips1 : Scf.trips k0_t1_loop.lb k0_t1_loop.ub k0_t1_loop.st = 200 := by decide
theorem trips2 : Scf.trips k0_t2_loop.lb k0_t2_loop.ub k0_t2_loop.st = 16 := by decide

/-- Copy `u` of the running maxima. -/
def planeOf (u : ℕ) (V : Vec F S8x208x384 .f32) : Vec F S1x208x384 .f32 := fun x => V (ix3 ⟨u % 8, Nat.mod_lt _ (by decide)⟩ (x 1) (x 2))

/-- The voxel features of a batch, from the running maxima. -/
def voxOf (V : Vec F S8x208x384 .f32) : Vec F S1x200x384 .bf16 :=
  k0_pay4 (planeOf 0 V) (planeOf 1 V) (planeOf 2 V) (planeOf 3 V) (planeOf 4 V) (planeOf 5 V) (planeOf 6 V) (planeOf 7 V)

theorem plane_read {κ : Kind} {sp : Space} (m : View sig κ sp S8x208x384 .f32) (f : m.ty.Contents (Elt F)) (u : ℕ) (hu : u < 8)
    (b : ∀ a, ![u, 0, 0] a + S1x208x384.size a ≤ S8x208x384.size a) :
    m.readAt (Elt F) (Rect.unit (s := S8x208x384) ![u, 0, 0] S1x208x384.size b).toLoadRect f = planeOf u (m.read (Elt F) f) := by
  funext x
  idx_vars x
  rw [View.readAt_apply]
  unfold planeOf
  congr 1
  funext a; fin_cases a <;> apply Fin.ext <;> simp [ix3, LoadRect.idx] <;> omega

/-- The eight planes the last tile loads are the eight copies. -/
theorem vox_read {κ : Kind} {sp : Space} (m : View sig κ sp S8x208x384 .f32) (f : m.ty.Contents (Elt F))
    (b0 : ∀ a, ![0, 0, 0] a + S1x208x384.size a ≤ S8x208x384.size a) (b1 : ∀ a, ![1, 0, 0] a + S1x208x384.size a ≤ S8x208x384.size a) (b2 : ∀ a, ![2, 0, 0] a + S1x208x384.size a ≤ S8x208x384.size a) (b3 : ∀ a, ![3, 0, 0] a + S1x208x384.size a ≤ S8x208x384.size a) (b4 : ∀ a, ![4, 0, 0] a + S1x208x384.size a ≤ S8x208x384.size a) (b5 : ∀ a, ![5, 0, 0] a + S1x208x384.size a ≤ S8x208x384.size a) (b6 : ∀ a, ![6, 0, 0] a + S1x208x384.size a ≤ S8x208x384.size a) (b7 : ∀ a, ![7, 0, 0] a + S1x208x384.size a ≤ S8x208x384.size a) :
    k0_pay4 (m.readAt (Elt F) (Rect.unit (s := S8x208x384) ![0, 0, 0] S1x208x384.size b0).toLoadRect f) (m.readAt (Elt F) (Rect.unit (s := S8x208x384) ![1, 0, 0] S1x208x384.size b1).toLoadRect f) (m.readAt (Elt F) (Rect.unit (s := S8x208x384) ![2, 0, 0] S1x208x384.size b2).toLoadRect f) (m.readAt (Elt F) (Rect.unit (s := S8x208x384) ![3, 0, 0] S1x208x384.size b3).toLoadRect f) (m.readAt (Elt F) (Rect.unit (s := S8x208x384) ![4, 0, 0] S1x208x384.size b4).toLoadRect f) (m.readAt (Elt F) (Rect.unit (s := S8x208x384) ![5, 0, 0] S1x208x384.size b5).toLoadRect f) (m.readAt (Elt F) (Rect.unit (s := S8x208x384) ![6, 0, 0] S1x208x384.size b6).toLoadRect f) (m.readAt (Elt F) (Rect.unit (s := S8x208x384) ![7, 0, 0] S1x208x384.size b7).toLoadRect f) = voxOf (m.read (Elt F) f) := by
  rw [plane_read m f 0 (by decide) b0, plane_read m f 1 (by decide) b1, plane_read m f 2 (by decide) b2, plane_read m f 3 (by decide) b3, plane_read m f 4 (by decide) b4, plane_read m f 5 (by decide) b5, plane_read m f 6 (by decide) b6, plane_read m f 7 (by decide) b7]
  rfl

/-- The running maxima a tile starts from. -/
def vac0 (i : grid0.Coords) (V : Vec F S8x208x384 .f32) : Vec F S8x208x384 .f32 := if (i 1).val = 0 then k0_pay13 else V

/-- The counts a tile starts from. -/
def cnt0 (i : grid0.Coords) (C : Vec F S3x200 .i32) : Vec F S3x200 .i32 := if (i 1).val = 0 then zeroN (i 0).val C 200 else C

/-- THE BODY'S RUN at a grid point. The pieces it writes into the point-features window and the tile buffer are the run's own finds. -/
def bodyRun (𝒱 : Variants) (c : Dev nD) (bd : Option 𝒱.V) (E : Set ℕ) (i : grid0.Coords) (arg2 : Memref sig .tc .smem S3x640 .i32) (harg2 : arg2.IsWhole) (arg3 : Memref sig .tc .vmem S1x128x10240 .fp8e4m3) (harg3 : arg3.IsWhole) (arg4 : Memref sig .tc .vmem S1x128x320 .f32) (harg4 : arg4.IsWhole) (arg5 : Memref sig .tc .vmem S10240x384 .fp8e4m3) (harg5 : arg5.IsWhole) (arg6 : Memref sig .tc .vmem S1x384 .f32) (harg6 : arg6.IsWhole) (arg7 : Memref sig .tc .vmem S1x384 .f32) (harg7 : arg7.IsWhole) (arg8 : Memref sig .tc .vmem S1x200x384 .bf16) (harg8 : arg8.IsWhole) (arg9 : Memref sig .tc .smem S3x200 .i32) (harg9 : arg9.IsWhole) (arg10 : Memref sig .tc .vmem S1x128x384 .bf16) (harg10 : arg10.IsWhole) (arg11 : Memref sig .tc .vmem S128x384 .f32) (harg11 : arg11.IsWhole) (arg12 : Memref sig .tc .vmem S8x208x384 .f32) (harg12 : arg12.IsWhole)
    (f3 f4 f5 f6 f7) :
    { L : List (View.Piece (Elt F) S1x128x384 .bf16) × List (View.Piece (Elt F) S128x384 .f32) //
      ∀ (f2 f8 f9 f10 f11 f12) (_ : ∀ j, idOK (arg2.view.read (Elt F) f2 j)), iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12))
    ⊢ wp frame (wpE (defs₀ (F := F)) 𝒱 (c : Thread nD τ) bd) E (cc0_pfn_scatter_max_skel (F := F) i arg2 harg2 arg3 harg3 arg4 harg4 arg5 harg5 arg6 harg6 arg7 harg7 arg8 harg8 arg9 harg9 arg10 harg10 arg11 harg11 arg12 harg12)
      (fun _ => (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7)
        ∗ (arg10.view.loc (c : Thread nD τ) ↦[arg10.view.set]{fullShare} arg10.view.writes (Elt F) arg10.view.junk L.1) ∗ (arg11.view.loc (c : Thread nD τ) ↦[arg11.view.set]{fullShare} arg11.view.writes (Elt F) arg11.view.junk L.2)
        ∗ (∃ g, ⌜arg9.view.read (Elt F) g = cntN (i 0).val (cnt0 i (arg9.view.read (Elt F) f9)) (fun r => idOf (arg2.view.read (Elt F) f2) (i 0).val (128 * (i 1).val + r)) 128⌝ ∗ (arg9.view.loc (c : Thread nD τ) ↦[arg9.view.set]{fullShare} g))
        ∗ (∃ g, ⌜arg12.view.read (Elt F) g = vacN (vac0 i (arg12.view.read (Elt F) f12)) (rowOf (arg11.view.read (Elt F) (arg11.view.writes (Elt F) arg11.view.junk L.2))) (fun r => idOf (arg2.view.read (Elt F) f2) (i 0).val (128 * (i 1).val + r)) 128⌝ ∗ (arg12.view.loc (c : Thread nD τ) ↦[arg12.view.set]{fullShare} g))
        ∗ (∃ g, ⌜(i 1).val = 4 → arg8.view.read (Elt F) g = voxOf (vacN (vac0 i (arg12.view.read (Elt F) f12)) (rowOf (arg11.view.read (Elt F) (arg11.view.writes (Elt F) arg11.view.junk L.2))) (fun r => idOf (arg2.view.read (Elt F) f2) (i 0).val (128 * (i 1).val + r)) 128)⌝ ∗ (arg8.view.loc (c : Thread nD τ) ↦[arg8.view.set]{fullShare} g))) : sProp 𝕄G)) } := by
  refine ⟨(?_, ?_), fun f2 f8 f9 f10 f11 f12 hids => ?run⟩
  case run =>
    have hz := zeroN_zero (i 0).val (arg9.view.read (Elt F) f9)
    unfold cc0_pfn_scatter_max_skel
    by_cases hc1 : k0_cond1 i = 1#1
    · have hc10 : ¬ k0_cond10 i = 1#1 := by rw [cond10_iff]; have := (cond1_iff i).mp hc1; omega
      let L1 := loop1 (F := F) 𝒱 c bd E i arg2 harg2 arg3 harg3 arg4 harg4 arg5 harg5 arg6 harg6 arg7 harg7 arg8 harg8 arg9 harg9 arg10 harg10 arg11 harg11 arg12 harg12 hc1 f9
      have h0 := (cond1_iff i).mp hc1
      iintro ⟨H2, H3, H4, H5, H6, H7, H8, H9, H10, H11, H12⟩
      sl_exec
      sl_step
      isplitl [H2]; · iexact H2
      isplitl [H3]; · iexact H3
      isplitl [H4]; · iexact H4
      isplitl [H5]; · iexact H5
      isplitl [H6]; · iexact H6
      isplitl [H7]; · iexact H7
      isplitl [H10]; · iexact H10
      isplitl [H11]; · iexact H11
      isplitl [H9]
      · iexists fL1; isplitr; swap; · iexact H9
        ipureintro
        exact by
            have e2 := ‹arg9.view.read (Elt F) fL1 = cntN _ _ _ _›
            have e1 := ‹arg9.view.read (Elt F) fL0 = zeroN _ _ _›
            rw [trips2, e1, trips1] at e2
            rw [e2, cnt0, if_pos h0]
      isplitl [H12]
      · iexists fL2; isplitr; swap; · iexact H12
        ipureintro
        exact by
            have e2 := ‹arg12.view.read (Elt F) fL2 = vacN _ _ _ _›
            rw [trips2] at e2
            refine e2.trans ?_
            rw [vac0, if_pos h0]
            exact congrArg (fun V => vacN V _ _ 128) (View.read_writes_full arg12.view _ _ _ _)
      · iexists _; isplitr; swap; · iexact H8
        ipureintro
        exact fun h => absurd h (by omega)
    · have h0 : ¬ (i 1).val = 0 := fun h => hc1 ((cond1_iff i).mpr h)
      by_cases hc10 : k0_cond10 i = 1#1
      · iintro ⟨H2, H3, H4, H5, H6, H7, H8, H9, H10, H11, H12⟩
        sl_exec
        sl_step
        isplitl [H2]; · iexact H2
        isplitl [H3]; · iexact H3
        isplitl [H4]; · iexact H4
        isplitl [H5]; · iexact H5
        isplitl [H6]; · iexact H6
        isplitl [H7]; · iexact H7
        isplitl [H10]; · iexact H10
        isplitl [H11]; · iexact H11
        isplitl [H9]
        · iexists fL0; isplitr; swap; · iexact H9
          ipureintro
          exact by
              have e2 := ‹arg9.view.read (Elt F) fL0 = cntN _ _ _ _›
              rw [trips2] at e2
              rw [e2, cnt0, if_neg h0]
        have e2 := hL5
        rw [trips2] at e2
        have ev : vac0 i (arg12.view.read (Elt F) f12) = arg12.view.read (Elt F) f12 := by rw [vac0, if_neg h0]
        isplitl [H12]
        · iexists fL1; isplitr; swap; · iexact H12
          ipureintro
          rw [ev]
          exact e2
        · iexists _; isplitr; swap; · iexact H8
          ipureintro
          intro _
          rw [ev]
          exact (View.read_writes_full arg8.view _ _ _ _).trans ((vox_read arg12.view fL1 _ _ _ _ _ _ _ _).trans (congrArg voxOf e2))
      · have h4 : ¬ (i 1).val = 4 := fun h => hc10 ((cond10_iff i).mpr h)
        iintro ⟨H2, H3, H4, H5, H6, H7, H8, H9, H10, H11, H12⟩
        sl_exec
        sl_step
        isplitl [H2]; · iexact H2
        isplitl [H3]; · iexact H3
        isplitl [H4]; · iexact H4
        isplitl [H5]; · iexact H5
        isplitl [H6]; · iexact H6
        isplitl [H7]; · iexact H7
        isplitl [H10]; · iexact H10
        isplitl [H11]; · iexact H11
        isplitl [H9]
        · iexists fL0; isplitr; swap; · iexact H9
          ipureintro
          exact by
              have e2 := ‹arg9.view.read (Elt F) fL0 = cntN _ _ _ _›
              rw [trips2] at e2
              rw [e2, cnt0, if_neg h0]
        isplitl [H12]
        · iexists fL1; isplitr; swap; · iexact H12
          ipureintro
          exact by
              have e2 := ‹arg12.view.read (Elt F) fL1 = vacN _ _ _ _›
              rw [trips2] at e2
              refine e2.trans ?_
              rw [vac0, if_neg h0]
              rfl
        · iexists _; isplitr; swap; · iexact H8
          ipureintro
          exact fun h => absurd h h4

end Cert.KernelIdeal.Hand
-- ==== Proof.KernelIdealTile.lean ====
/- The features of one tile of points, as the kernel body computes them: blocks of 128 dequantized columns, five chunks of
   sixteen blocks, each chunk multiplied with its rows of the weights. -/
module

public import proofs.«01_k».proof.Proof.Gen.KernelIdeal.Loops
public import proofs.«01_k».proof.Proof.Gen.KernelIdeal.Frame
public import proofs.«01_k».proof.Proof.KernelIdealBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄G" => MT nD τ sig Unit (Elt F) ℕ (UR sig nD τ) ℕ

/-- A load of 128 columns of the tile's quantized features. -/
def ldX (X : Vec F S1x128x10240 .fp8e4m3) (off : Fin 3 → ℕ) (inb : ∀ a, off a + S1x128x128.size a ≤ S1x128x10240.size a) : Vec F S1x128x128 .fp8e4m3 :=
  fun x => X ((Rect.unit (s := S1x128x10240) off S1x128x128.size inb).toLoadRect.idx x)

/-- A load of 2048 rows of the weights. -/
def ldW (W : Vec F S10240x384 .fp8e4m3) (off : Fin 2 → ℕ) (inb : ∀ a, off a + S2048x384.size a ≤ S10240x384.size a) : Vec F S2048x384 .fp8e4m3 :=
  fun x => W ((Rect.unit (s := S10240x384) off S2048x384.size inb).toLoadRect.idx x)

/-- The first 128 scales of each point. -/
def sTile0 (XS : Vec F S1x128x320 .f32) : FVec F S128x128 .bf16 :=
  truncf .bf16 (shapeCast S128x128 (fun x => XS ((Rect.unit (s := S1x128x320) ![0, 0, 0] S1x128x128.size inb_S1x128x320_S1x128x128_0_0_0).toLoadRect.idx x) : Vec F S1x128x128 .f32) shapeCasts_S1x128x128_S128x128) bitsLt_bf16_f32

/-- The next 128. -/
def sTile1 (XS : Vec F S1x128x320 .f32) : FVec F S128x128 .bf16 :=
  truncf .bf16 (shapeCast S128x128 (fun x => XS ((Rect.unit (s := S1x128x320) ![0, 0, 128] S1x128x128.size inb_S1x128x320_S1x128x128_0_0_128).toLoadRect.idx x) : Vec F S1x128x128 .f32) shapeCasts_S1x128x128_S128x128) bitsLt_bf16_f32

/-- The last 64, with zeros after them. -/
def sTile2 (XS : Vec F S1x128x320 .f32) : FVec F S128x128 .bf16 :=
  concatenate S128x128 1 [⟨S128x64, truncf .bf16 (shapeCast S128x64 (fun x => XS ((Rect.unit (s := S1x128x320) ![0, 0, 256] S1x128x64.size inb_S1x128x320_S1x128x64_0_0_256).toLoadRect.idx x) : Vec F S1x128x64 .f32) shapeCasts_S1x128x64_S128x64) bitsLt_bf16_f32⟩,
    ⟨S128x64, broadcast S128x64 (Scalar.ofBits .bf16 0x0000#16 : F .bf16)⟩] concatenates_S128x64_S128x64_S128x128_d1

/-- The lane of the scales that scales a lane, the first of them at `o`. -/
def laneOf (o : BitVec 32) : IVec S128x128 32 :=
  select (cmpi .slt (addi k0_pay15 (broadcast S128x128 o)) (broadcast S128x128 0#32))
    (addi (addi k0_pay15 (broadcast S128x128 o)) (broadcast S128x128 128#32)) (addi k0_pay15 (broadcast S128x128 o))

/-- One block of 128 dequantized columns. -/
def blkOf (Xb : Vec F S1x128x128 .fp8e4m3) (Sb : FVec F S128x128 .bf16) (o : BitVec 32) : FVec F S128x128 .bf16 :=
  mulf (extf .bf16 (shapeCast S128x128 Xb shapeCasts_S1x128x128_S128x128) bitsLt_fp8e4m3_bf16)
    (truncf .bf16 (dynamicGather 1 (extf .f32 Sb bitsLt_bf16_f32)
      (shapeCast S128x128 (shapeCast S128x128x1 (laneOf o) shapeCasts_S128x128_S128x128x1) shapeCasts_S128x128x1_S128x128)) bitsLt_bf16_f32)

/-- Columns 0 … 2047 of the dequantized tile. -/
def cols0 (X : Vec F S1x128x10240 .fp8e4m3) (XS : Vec F S1x128x320 .f32) : FVec F S128x2048 .bf16 :=
  concatenate S128x2048 1 [⟨S128x128, blkOf (ldX X ![0, 0, 0] inb_S1x128x10240_S1x128x128_0_0_0) (sTile0 XS) 0#32⟩, ⟨S128x128, blkOf (ldX X ![0, 0, 128] inb_S1x128x10240_S1x128x128_0_0_128) (sTile0 XS) 4#32⟩, ⟨S128x128, blkOf (ldX X ![0, 0, 256] inb_S1x128x10240_S1x128x128_0_0_256) (sTile0 XS) 8#32⟩, ⟨S128x128, blkOf (ldX X ![0, 0, 384] inb_S1x128x10240_S1x128x128_0_0_384) (sTile0 XS) 12#32⟩, ⟨S128x128, blkOf (ldX X ![0, 0, 512] inb_S1x128x10240_S1x128x128_0_0_512) (sTile0 XS) 16#32⟩, ⟨S128x128, blkOf (ldX X ![0, 0, 640] inb_S1x128x10240_S1x128x128_0_0_640) (sTile0 XS) 20#32⟩, ⟨S128x128, blkOf (ldX X ![0, 0, 768] inb_S1x128x10240_S1x128x128_0_0_768) (sTile0 XS) 24#32⟩, ⟨S128x128, blkOf (ldX X ![0, 0, 896] inb_S1x128x10240_S1x128x128_0_0_896) (sTile0 XS) 28#32⟩, ⟨S128x128, blkOf (ldX X ![0, 0, 1024] inb_S1x128x10240_S1x128x128_0_0_1024) (sTile0 XS) 32#32⟩, ⟨S128x128, blkOf (ldX X ![0, 0, 1152] inb_S1x128x10240_S1x128x128_0_0_1152) (sTile0 XS) 36#32⟩, ⟨S128x128, blkOf (ldX X ![0, 0, 1280] inb_S1x128x10240_S1x128x128_0_0_1280) (sTile0 XS) 40#32⟩, ⟨S128x128, blkOf (ldX X ![0, 0, 1408] inb_S1x128x10240_S1x128x128_0_0_1408) (sTile0 XS) 44#32⟩, ⟨S128x128, blkOf (ldX X ![0, 0, 1536] inb_S1x128x10240_S1x128x128_0_0_1536) (sTile0 XS) 48#32⟩, ⟨S128x128, blkOf (ldX X ![0, 0, 1664] inb_S1x128x10240_S1x128x128_0_0_1664) (sTile0 XS) 52#32⟩, ⟨S128x128, blkOf (ldX X ![0, 0, 1792] inb_S1x128x10240_S1x128x128_0_0_1792) (sTile0 XS) 56#32⟩, ⟨S128x128, blkOf (ldX X ![0, 0, 1920] inb_S1x128x10240_S1x128x128_0_0_1920) (sTile0 XS) 60#32⟩] concatenates_S128x128_S128x128_S128x128_S128x128_S128x128_S128x128_S128x128_S128x128_S128x128_S128x128_S128x128_S128x128_S128x128_S128x128_S128x128_S128x128_S128x2048_d1

/-- Columns 2048 … 4095 of the dequantized tile. -/
def cols1 (X : Vec F S1x128x10240 .fp8e4m3) (XS : Vec F S1x128x320 .f32) : FVec F S128x2048 .bf16 :=
  concatenate S128x2048 1 [⟨S128x128, blkOf (ldX X ![0, 0, 2048] inb_S1x128x10240_S1x128x128_0_0_2048) (sTile0 XS) 64#32⟩, ⟨S128x128, blkOf (ldX X ![0, 0, 2176] inb_S1x128x10240_S1x128x128_0_0_2176) (sTile0 XS) 68#32⟩, ⟨S128x128, blkOf (ldX X ![0, 0, 2304] inb_S1x128x10240_S1x128x128_0_0_2304) (sTile0 XS) 72#32⟩, ⟨S128x128, blkOf (ldX X ![0, 0, 2432] inb_S1x128x10240_S1x128x128_0_0_2432) (sTile0 XS) 76#32⟩, ⟨S128x128, blkOf (ldX X ![0, 0, 2560] inb_S1x128x10240_S1x128x128_0_0_2560) (sTile0 XS) 80#32⟩, ⟨S128x128, blkOf (ldX X ![0, 0, 2688] inb_S1x128x10240_S1x128x128_0_0_2688) (sTile0 XS) 84#32⟩, ⟨S128x128, blkOf (ldX X ![0, 0, 2816] inb_S1x128x10240_S1x128x128_0_0_2816) (sTile0 XS) 88#32⟩, ⟨S128x128, blkOf (ldX X ![0, 0, 2944] inb_S1x128x10240_S1x128x128_0_0_2944) (sTile0 XS) 92#32⟩, ⟨S128x128, blkOf (ldX X ![0, 0, 3072] inb_S1x128x10240_S1x128x128_0_0_3072) (sTile0 XS) 96#32⟩, ⟨S128x128, blkOf (ldX X ![0, 0, 3200] inb_S1x128x10240_S1x128x128_0_0_3200) (sTile0 XS) 100#32⟩, ⟨S128x128, blkOf (ldX X ![0, 0, 3328] inb_S1x128x10240_S1x128x128_0_0_3328) (sTile0 XS) 104#32⟩, ⟨S128x128, blkOf (ldX X ![0, 0, 3456] inb_S1x128x10240_S1x128x128_0_0_3456) (sTile0 XS) 108#32⟩, ⟨S128x128, blkOf (ldX X ![0, 0, 3584] inb_S1x128x10240_S1x128x128_0_0_3584) (sTile0 XS) 112#32⟩, ⟨S128x128, blkOf (ldX X ![0, 0, 3712] inb_S1x128x10240_S1x128x128_0_0_3712) (sTile0 XS) 116#32⟩, ⟨S128x128, blkOf (ldX X ![0, 0, 3840] inb_S1x128x10240_S1x128x128_0_0_3840) (sTile0 XS) 120#32⟩, ⟨S128x128, blkOf (ldX X ![0, 0, 3968] inb_S1x128x10240_S1x128x128_0_0_3968) (sTile0 XS) 124#32⟩] concatenates_S128x128_S128x128_S128x128_S128x128_S128x128_S128x128_S128x128_S128x128_S128x128_S128x128_S128x128_S128x128_S128x128_S128x128_S128x128_S128x128_S128x2048_d1

/-- Columns 4096 … 6143 of the dequantized tile. -/
def cols2 (X : Vec F S1x128x10240 .fp8e4m3) (XS : Vec F S1x128x320 .f32) : FVec F S128x2048 .bf16 :=
  concatenate S128x2048 1 [⟨S128x128, blkOf (ldX X ![0, 0, 4096] inb_S1x128x10240_S1x128x128_0_0_4096) (sTile1 XS) 0#32⟩, ⟨S128x128, blkOf (ldX X ![0, 0, 4224] inb_S1x128x10240_S1x128x128_0_0_4224) (sTile1 XS) 4#32⟩, ⟨S128x128, blkOf (ldX X ![0, 0, 4352] inb_S1x128x10240_S1x128x128_0_0_4352) (sTile1 XS) 8#32⟩, ⟨S128x128, blkOf (ldX X ![0, 0, 4480] inb_S1x128x10240_S1x128x128_0_0_4480) (sTile1 XS) 12#32⟩, ⟨S128x128, blkOf (ldX X ![0, 0, 4608] inb_S1x128x10240_S1x128x128_0_0_4608) (sTile1 XS) 16#32⟩, ⟨S128x128, blkOf (ldX X ![0, 0, 4736] inb_S1x128x10240_S1x128x128_0_0_4736) (sTile1 XS) 20#32⟩, ⟨S128x128, blkOf (ldX X ![0, 0, 4864] inb_S1x128x10240_S1x128x128_0_0_4864) (sTile1 XS) 24#32⟩, ⟨S128x128, blkOf (ldX X ![0, 0, 4992] inb_S1x128x10240_S1x128x128_0_0_4992) (sTile1 XS) 28#32⟩, ⟨S128x128, blkOf (ldX X ![0, 0, 5120] inb_S1x128x10240_S1x128x128_0_0_5120) (sTile1 XS) 32#32⟩, ⟨S128x128, blkOf (ldX X ![0, 0, 5248] inb_S1x128x10240_S1x128x128_0_0_5248) (sTile1 XS) 36#32⟩, ⟨S128x128, blkOf (ldX X ![0, 0, 5376] inb_S1x128x10240_S1x128x128_0_0_5376) (sTile1 XS) 40#32⟩, ⟨S128x128, blkOf (ldX X ![0, 0, 5504] inb_S1x128x10240_S1x128x128_0_0_5504) (sTile1 XS) 44#32⟩, ⟨S128x128, blkOf (ldX X ![0, 0, 5632] inb_S1x128x10240_S1x128x128_0_0_5632) (sTile1 XS) 48#32⟩, ⟨S128x128, blkOf (ldX X ![0, 0, 5760] inb_S1x128x10240_S1x128x128_0_0_5760) (sTile1 XS) 52#32⟩, ⟨S128x128, blkOf (ldX X ![0, 0, 5888] inb_S1x128x10240_S1x128x128_0_0_5888) (sTile1 XS) 56#32⟩, ⟨S128x128, blkOf (ldX X ![0, 0, 6016] inb_S1x128x10240_S1x128x128_0_0_6016) (sTile1 XS) 60#32⟩] concatenates_S128x128_S128x128_S128x128_S128x128_S128x128_S128x128_S128x128_S128x128_S128x128_S128x128_S128x128_S128x128_S128x128_S128x128_S128x128_S128x128_S128x2048_d1

/-- Columns 6144 … 8191 of the dequantized tile. -/
def cols3 (X : Vec F S1x128x10240 .fp8e4m3) (XS : Vec F S1x128x320 .f32) : FVec F S128x2048 .bf16 :=
  concatenate S128x2048 1 [⟨S128x128, blkOf (ldX X ![0, 0, 6144] inb_S1x128x10240_S1x128x128_0_0_6144) (sTile1 XS) 64#32⟩, ⟨S128x128, blkOf (ldX X ![0, 0, 6272] inb_S1x128x10240_S1x128x128_0_0_6272) (sTile1 XS) 68#32⟩, ⟨S128x128, blkOf (ldX X ![0, 0, 6400] inb_S1x128x10240_S1x128x128_0_0_6400) (sTile1 XS) 72#32⟩, ⟨S128x128, blkOf (ldX X ![0, 0, 6528] inb_S1x128x10240_S1x128x128_0_0_6528) (sTile1 XS) 76#32⟩, ⟨S128x128, blkOf (ldX X ![0, 0, 6656] inb_S1x128x10240_S1x128x128_0_0_6656) (sTile1 XS) 80#32⟩, ⟨S128x128, blkOf (ldX X ![0, 0, 6784] inb_S1x128x10240_S1x128x128_0_0_6784) (sTile1 XS) 84#32⟩, ⟨S128x128, blkOf (ldX X ![0, 0, 6912] inb_S1x128x10240_S1x128x128_0_0_6912) (sTile1 XS) 88#32⟩, ⟨S128x128, blkOf (ldX X ![0, 0, 7040] inb_S1x128x10240_S1x128x128_0_0_7040) (sTile1 XS) 92#32⟩, ⟨S128x128, blkOf (ldX X ![0, 0, 7168] inb_S1x128x10240_S1x128x128_0_0_7168) (sTile1 XS) 96#32⟩, ⟨S128x128, blkOf (ldX X ![0, 0, 7296] inb_S1x128x10240_S1x128x128_0_0_7296) (sTile1 XS) 100#32⟩, ⟨S128x128, blkOf (ldX X ![0, 0, 7424] inb_S1x128x10240_S1x128x128_0_0_7424) (sTile1 XS) 104#32⟩, ⟨S128x128, blkOf (ldX X ![0, 0, 7552] inb_S1x128x10240_S1x128x128_0_0_7552) (sTile1 XS) 108#32⟩, ⟨S128x128, blkOf (ldX X ![0, 0, 7680] inb_S1x128x10240_S1x128x128_0_0_7680) (sTile1 XS) 112#32⟩, ⟨S128x128, blkOf (ldX X ![0, 0, 7808] inb_S1x128x10240_S1x128x128_0_0_7808) (sTile1 XS) 116#32⟩, ⟨S128x128, blkOf (ldX X ![0, 0, 7936] inb_S1x128x10240_S1x128x128_0_0_7936) (sTile1 XS) 120#32⟩, ⟨S128x128, blkOf (ldX X ![0, 0, 8064] inb_S1x128x10240_S1x128x128_0_0_8064) (sTile1 XS) 124#32⟩] concatenates_S128x128_S128x128_S128x128_S128x128_S128x128_S128x128_S128x128_S128x128_S128x128_S128x128_S128x128_S128x128_S128x128_S128x128_S128x128_S128x128_S128x2048_d1

/-- Columns 8192 … 10239 of the dequantized tile. -/
def cols4 (X : Vec F S1x128x10240 .fp8e4m3) (XS : Vec F S1x128x320 .f32) : FVec F S128x2048 .bf16 :=
  concatenate S128x2048 1 [⟨S128x128, blkOf (ldX X ![0, 0, 8192] inb_S1x128x10240_S1x128x128_0_0_8192) (sTile2 XS) 0#32⟩, ⟨S128x128, blkOf (ldX X ![0, 0, 8320] inb_S1x128x10240_S1x128x128_0_0_8320) (sTile2 XS) 4#32⟩, ⟨S128x128, blkOf (ldX X ![0, 0, 8448] inb_S1x128x10240_S1x128x128_0_0_8448) (sTile2 XS) 8#32⟩, ⟨S128x128, blkOf (ldX X ![0, 0, 8576] inb_S1x128x10240_S1x128x128_0_0_8576) (sTile2 XS) 12#32⟩, ⟨S128x128, blkOf (ldX X ![0, 0, 8704] inb_S1x128x10240_S1x128x128_0_0_8704) (sTile2 XS) 16#32⟩, ⟨S128x128, blkOf (ldX X ![0, 0, 8832] inb_S1x128x10240_S1x128x128_0_0_8832) (sTile2 XS) 20#32⟩, ⟨S128x128, blkOf (ldX X ![0, 0, 8960] inb_S1x128x10240_S1x128x128_0_0_8960) (sTile2 XS) 24#32⟩, ⟨S128x128, blkOf (ldX X ![0, 0, 9088] inb_S1x128x10240_S1x128x128_0_0_9088) (sTile2 XS) 28#32⟩, ⟨S128x128, blkOf (ldX X ![0, 0, 9216] inb_S1x128x10240_S1x128x128_0_0_9216) (sTile2 XS) 32#32⟩, ⟨S128x128, blkOf (ldX X ![0, 0, 9344] inb_S1x128x10240_S1x128x128_0_0_9344) (sTile2 XS) 36#32⟩, ⟨S128x128, blkOf (ldX X ![0, 0, 9472] inb_S1x128x10240_S1x128x128_0_0_9472) (sTile2 XS) 40#32⟩, ⟨S128x128, blkOf (ldX X ![0, 0, 9600] inb_S1x128x10240_S1x128x128_0_0_9600) (sTile2 XS) 44#32⟩, ⟨S128x128, blkOf (ldX X ![0, 0, 9728] inb_S1x128x10240_S1x128x128_0_0_9728) (sTile2 XS) 48#32⟩, ⟨S128x128, blkOf (ldX X ![0, 0, 9856] inb_S1x128x10240_S1x128x128_0_0_9856) (sTile2 XS) 52#32⟩, ⟨S128x128, blkOf (ldX X ![0, 0, 9984] inb_S1x128x10240_S1x128x128_0_0_9984) (sTile2 XS) 56#32⟩, ⟨S128x128, blkOf (ldX X ![0, 0, 10112] inb_S1x128x10240_S1x128x128_0_0_10112) (sTile2 XS) 60#32⟩] concatenates_S128x128_S128x128_S128x128_S128x128_S128x128_S128x128_S128x128_S128x128_S128x128_S128x128_S128x128_S128x128_S128x128_S128x128_S128x128_S128x128_S128x2048_d1

/-- The load of a whole row of per-column factors. -/
def ldS (WS : Vec F S1x384 .f32) : Vec F S1x384 .f32 :=
  fun x => WS ((Rect.unit (s := S1x384) ![0, 0] S1x384.size inb_S1x384_S1x384_0_0).toLoadRect.idx x)

/-- One chunk multiplied with its rows of the weights and added. -/
def chunkOf (acc : FVec F S128x384 .f32) (D : FVec F S128x2048 .bf16) (W : Vec F S2048x384 .fp8e4m3) : FVec F S128x384 .f32 :=
  addf acc (matmul dot_S128x2048_S2048x384_S128x384_1_0_0_1_n_n none D W (constant S128x384 .f32 0x00000000#32))

/-- The tile's sums of products. -/
def accOf (X : Vec F S1x128x10240 .fp8e4m3) (XS : Vec F S1x128x320 .f32) (W : Vec F S10240x384 .fp8e4m3) : FVec F S128x384 .f32 :=
  chunkOf (chunkOf (chunkOf (chunkOf (chunkOf (k0_pay14 (F := F)) (cols0 X XS) (ldW W ![0, 0] inb_S10240x384_S2048x384_0_0))
    (cols1 X XS) (ldW W ![2048, 0] inb_S10240x384_S2048x384_2048_0)) (cols2 X XS) (ldW W ![4096, 0] inb_S10240x384_S2048x384_4096_0))
    (cols3 X XS) (ldW W ![6144, 0] inb_S10240x384_S2048x384_6144_0)) (cols4 X XS) (ldW W ![8192, 0] inb_S10240x384_S2048x384_8192_0)

/-- The tile's features before the casts of the two stores. -/
def rawOf (X : Vec F S1x128x10240 .fp8e4m3) (XS : Vec F S1x128x320 .f32) (W : Vec F S10240x384 .fp8e4m3) (WS BS : Vec F S1x384 .f32) : FVec F S128x384 .f32 :=
  maximumf (addf (mulf (accOf X XS W) (broadcastTo S128x384 (shapeCast S1x384 (ldS WS) shapeCasts_S1x384_S1x384) broadcasts_S1x384_S128x384))
    (broadcastTo S128x384 (shapeCast S1x384 (ldS BS) shapeCasts_S1x384_S1x384) broadcasts_S1x384_S128x384))
    (broadcast S128x384 (Scalar.ofBits .f32 0x00000000#32 : F .f32))

/-- What the body leaves in the tile buffer. -/
def hOf (X : Vec F S1x128x10240 .fp8e4m3) (XS : Vec F S1x128x320 .f32) (W : Vec F S10240x384 .fp8e4m3) (WS BS : Vec F S1x384 .f32) : FVec F S128x384 .f32 :=
  k0_pay1 (rawOf X XS W WS BS)

/-- What the body leaves in the point-features window. -/
def pfOf (X : Vec F S1x128x10240 .fp8e4m3) (XS : Vec F S1x128x320 .f32) (W : Vec F S10240x384 .fp8e4m3) (WS BS : Vec F S1x384 .f32) : FVec F S1x128x384 .bf16 :=
  shapeCast S1x128x384 (truncf .bf16 (rawOf X XS W WS BS) bitsLt_bf16_f32) shapeCasts_S128x384_S1x128x384

theorem run_h (𝒱 : Variants) (c : Dev nD) (bd : Option 𝒱.V) (E : Set ℕ) (i : grid0.Coords) (arg2 : Memref sig .tc .smem S3x640 .i32) (harg2 : arg2.IsWhole) (arg3 : Memref sig .tc .vmem S1x128x10240 .fp8e4m3) (harg3 : arg3.IsWhole) (arg4 : Memref sig .tc .vmem S1x128x320 .f32) (harg4 : arg4.IsWhole) (arg5 : Memref sig .tc .vmem S10240x384 .fp8e4m3) (harg5 : arg5.IsWhole) (arg6 : Memref sig .tc .vmem S1x384 .f32) (harg6 : arg6.IsWhole) (arg7 : Memref sig .tc .vmem S1x384 .f32) (harg7 : arg7.IsWhole) (arg8 : Memref sig .tc .vmem S1x200x384 .bf16) (harg8 : arg8.IsWhole) (arg9 : Memref sig .tc .smem S3x200 .i32) (harg9 : arg9.IsWhole) (arg10 : Memref sig .tc .vmem S1x128x384 .bf16) (harg10 : arg10.IsWhole) (arg11 : Memref sig .tc .vmem S128x384 .f32) (harg11 : arg11.IsWhole) (arg12 : Memref sig .tc .vmem S8x208x384 .f32) (harg12 : arg12.IsWhole) (f3 f4 f5 f6 f7) :
    (bodyRun (F := F) 𝒱 c bd E i arg2 harg2 arg3 harg3 arg4 harg4 arg5 harg5 arg6 harg6 arg7 harg7 arg8 harg8 arg9 harg9 arg10 harg10 arg11 harg11 arg12 harg12 f3 f4 f5 f6 f7).1.2
      = [⟨Rect.unit (s := S128x384) ![0, 0] S128x384.size inb_S128x384_S128x384_0_0, hOf (arg3.view.read (Elt F) f3) (arg4.view.read (Elt F) f4) (arg5.view.read (Elt F) f5) (arg6.view.read (Elt F) f6) (arg7.view.read (Elt F) f7)⟩] := by
  unfold bodyRun
  rfl

theorem run_pf (𝒱 : Variants) (c : Dev nD) (bd : Option 𝒱.V) (E : Set ℕ) (i : grid0.Coords) (arg2 : Memref sig .tc .smem S3x640 .i32) (harg2 : arg2.IsWhole) (arg3 : Memref sig .tc .vmem S1x128x10240 .fp8e4m3) (harg3 : arg3.IsWhole) (arg4 : Memref sig .tc .vmem S1x128x320 .f32) (harg4 : arg4.IsWhole) (arg5 : Memref sig .tc .vmem S10240x384 .fp8e4m3) (harg5 : arg5.IsWhole) (arg6 : Memref sig .tc .vmem S1x384 .f32) (harg6 : arg6.IsWhole) (arg7 : Memref sig .tc .vmem S1x384 .f32) (harg7 : arg7.IsWhole) (arg8 : Memref sig .tc .vmem S1x200x384 .bf16) (harg8 : arg8.IsWhole) (arg9 : Memref sig .tc .smem S3x200 .i32) (harg9 : arg9.IsWhole) (arg10 : Memref sig .tc .vmem S1x128x384 .bf16) (harg10 : arg10.IsWhole) (arg11 : Memref sig .tc .vmem S128x384 .f32) (harg11 : arg11.IsWhole) (arg12 : Memref sig .tc .vmem S8x208x384 .f32) (harg12 : arg12.IsWhole) (f3 f4 f5 f6 f7) :
    (bodyRun (F := F) 𝒱 c bd E i arg2 harg2 arg3 harg3 arg4 harg4 arg5 harg5 arg6 harg6 arg7 harg7 arg8 harg8 arg9 harg9 arg10 harg10 arg11 harg11 arg12 harg12 f3 f4 f5 f6 f7).1.1
      = [⟨Rect.unit (s := S1x128x384) ![0, 0, 0] S1x128x384.size inb_S1x128x384_S1x128x384_0_0_0, pfOf (arg3.view.read (Elt F) f3) (arg4.view.read (Elt F) f4) (arg5.view.read (Elt F) f5) (arg6.view.read (Elt F) f6) (arg7.view.read (Elt F) f7)⟩] := by
  unfold bodyRun
  rfl

end Cert.KernelIdeal.Hand
-- ==== Proof.KernelIdealFold.lean ====
/- The folds over the points of a batch, tile by tile: a batch's running maxima and counts after one more tile. -/
module

public import proofs.«01_k».proof.Proof.Gen.KernelIdeal.Loops
public import proofs.«01_k».proof.Proof.Gen.KernelIdeal.Frame
public import proofs.«01_k».proof.Proof.KernelIdealTile

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Points folded in two parts, the first a whole number of groups of eight. -/
theorem vacN_add (V : Vec F S8x208x384 .f32) (hh : ℕ → Fin 384 → F .f32) (idr : ℕ → BitVec 32) (a n : ℕ) (ha : a % 8 = 0) :
    vacN V hh idr (a + n) = vacN (vacN V hh idr a) (fun r => hh (a + r)) (fun r => idr (a + r)) n := by
  induction n with
  | zero => rfl
  | succ n ih =>
    show updV ((a + n) % 8) (slotOf (idr (a + n))) (hh (a + n)) (vacN V hh idr (a + n)) = updV (n % 8) (slotOf (idr (a + n))) (hh (a + n)) _
    rw [ih, show (a + n) % 8 = n % 8 by omega]

theorem vacN_congr (V : Vec F S8x208x384 .f32) {hh hh' : ℕ → Fin 384 → F .f32} (idr : ℕ → BitVec 32) (n : ℕ) (h : ∀ r, r < n → hh r = hh' r) :
    vacN V hh idr n = vacN V hh' idr n := by
  induction n with
  | zero => rfl
  | succ n ih =>
    show updV (n % 8) (slotOf (idr n)) (hh n) (vacN V hh idr n) = updV (n % 8) (slotOf (idr n)) (hh' n) (vacN V hh' idr n)
    rw [ih fun r hr => h r (by omega), h n (by omega)]

theorem cntN_add (b : ℕ) (C : Vec F S3x200 .i32) (idr : ℕ → BitVec 32) (a n : ℕ) :
    cntN b C idr (a + n) = cntN b (cntN b C idr a) (fun r => idr (a + r)) n := by
  induction n with
  | zero => rfl
  | succ n ih =>
    show updC b (idr (a + n)) (cntN b C idr (a + n)) = updC b (idr (a + n)) _
    rw [ih]

/-- An entry's count depends on that entry alone. -/
theorem cntN_at (b : ℕ) {C C' : Vec F S3x200 .i32} (idr : ℕ → BitVec 32) (n : ℕ) (y : S3x200.Idx) (h : C y = C' y) :
    cntN b C idr n y = cntN b C' idr n y := by
  induction n with
  | zero => exact h
  | succ n ih =>
    show updC b (idr n) (cntN b C idr n) y = updC b (idr n) (cntN b C' idr n) y
    unfold updC
    rw [ih]

/-- Another batch's counts stay. -/
theorem cntN_other (b : ℕ) (C : Vec F S3x200 .i32) (idr : ℕ → BitVec 32) (n : ℕ) (y : S3x200.Idx) (h : (y 0).val ≠ b) :
    cntN b C idr n y = C y := by
  induction n with
  | zero => rfl
  | succ n ih =>
    show updC b (idr n) (cntN b C idr n) y = _
    unfold updC
    rw [if_neg (fun h' => h h'.2.1), ih]

/-- The counts of a batch's first `n` points. -/
def cntV (I : Vec F S3x640 .i32) (b n : ℕ) : Vec F S3x200 .i32 := cntN b (fun _ => 0#32) (idOf I b) n

/-- What the counts' buffer holds after grid point `t`: the batches before at their counts, the batch at hand at the counts of the
    tiles so far. -/
def cntOK (I : Vec F S3x640 .i32) (t : ℕ) (X : Vec F S3x200 .i32) : Prop :=
  ∀ y : S3x200.Idx, ((y 0).val < t / 5 → X y = cntV I (y 0).val 640 y) ∧ ((y 0).val = t / 5 → X y = cntV I (y 0).val (128 * (t % 5 + 1)) y)

/-- One tile more. -/
theorem cntOK_step (I : Vec F S3x640 .i32) (t : ℕ) (i : grid0.Coords) (h0 : (i 0).val = t / 5) (h1 : (i 1).val = t % 5) (C : Vec F S3x200 .i32)
    (hC : t ≠ 0 → cntOK I (t - 1) C) :
    cntOK I t (cntN (i 0).val (cnt0 i C) (fun r => idOf I (i 0).val (128 * (i 1).val + r)) 128) := by
  intro y
  rw [h0, h1]
  refine ⟨fun hy => ?_, fun hy => ?_⟩
  · rw [cntN_other _ _ _ _ _ (by omega)]
    have hc := hC (by omega) y
    have e : cnt0 i C y = C y := by
      unfold cnt0
      split
      · unfold zeroN; rw [if_neg (fun h => by have := h.1; omega)]
      · rfl
    rw [e]
    by_cases hj : t % 5 = 0
    · by_cases hb : (y 0).val < (t - 1) / 5
      · exact hc.1 hb
      · have := hc.2 (by omega)
        rwa [show 128 * ((t - 1) % 5 + 1) = 640 by omega] at this
    · exact hc.1 (by omega)
  · rw [hy, show 128 * (t % 5 + 1) = 128 * (t % 5) + 128 by omega]
    unfold cntV
    rw [cntN_add]
    refine cntN_at _ _ _ y ?_
    unfold cnt0
    by_cases hj : t % 5 = 0
    · rw [if_pos (by omega), hj]
      unfold zeroN
      rw [if_pos ⟨by omega, (y 1).isLt⟩]
      rfl
    · rw [if_neg (by omega)]
      have hc := (hC (by omega) y).2 (by omega)
      rw [hc, hy, show 128 * ((t - 1) % 5 + 1) = 128 * (t % 5) by omega]
      rfl

end Cert.KernelIdeal.Hand
-- ==== Proof.KernelIdealTriple.lean ====
/- The body's triple on staging buffers owned at their contents. -/
module

public import proofs.«01_k».proof.Proof.Gen.KernelIdeal.Loops
public import proofs.«01_k».proof.Proof.Gen.KernelIdeal.Frame
public import proofs.«01_k».proof.Proof.KernelIdealFold
public import Idealize.ShloMosaic.Lib.Pipeline.DatRel

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄G" => MT nD τ sig Unit (Elt F) ℕ (UR sig nD τ) ℕ

set_option maxHeartbeats 1000000 in
/-- The kernel body on whole staging buffers: the inputs stay, and each output and scratch buffer ends as the folds say. -/
theorem sound_kernel (c : Dev nD) (E : Set ℕ) (i : grid0.Coords) (arg2 : Memref sig .tc .smem S3x640 .i32) (harg2 : arg2.IsWhole) (arg3 : Memref sig .tc .vmem S1x128x10240 .fp8e4m3) (harg3 : arg3.IsWhole) (arg4 : Memref sig .tc .vmem S1x128x320 .f32) (harg4 : arg4.IsWhole) (arg5 : Memref sig .tc .vmem S10240x384 .fp8e4m3) (harg5 : arg5.IsWhole) (arg6 : Memref sig .tc .vmem S1x384 .f32) (harg6 : arg6.IsWhole) (arg7 : Memref sig .tc .vmem S1x384 .f32) (harg7 : arg7.IsWhole) (arg8 : Memref sig .tc .vmem S1x200x384 .bf16) (harg8 : arg8.IsWhole) (arg9 : Memref sig .tc .smem S3x200 .i32) (harg9 : arg9.IsWhole) (arg10 : Memref sig .tc .vmem S1x128x384 .bf16) (harg10 : arg10.IsWhole) (arg11 : Memref sig .tc .vmem S128x384 .f32) (harg11 : arg11.IsWhole) (arg12 : Memref sig .tc .vmem S8x208x384 .f32) (harg12 : arg12.IsWhole)
    (x2 : Vec F S3x640 .i32) (x3 : Vec F S1x128x10240 .fp8e4m3) (x4 : Vec F S1x128x320 .f32) (x5 : Vec F S10240x384 .fp8e4m3) (x6 x7 : Vec F S1x384 .f32)
    (C : Vec F S3x200 .i32) (V : Vec F S8x208x384 .f32) (hid : ∀ j, idOK (x2 j)) (K : PUnit → sProp 𝕄G) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ owns (c : Thread nD τ) arg9 fullShare C ∗ (∃ d, owns (c : Thread nD τ) arg10 fullShare d) ∗ (∃ d, owns (c : Thread nD τ) arg11 fullShare d) ∗ owns (c : Thread nD τ) arg12 fullShare V
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ X, ⌜(i 1).val = 4 → X = voxOf (vacN (vac0 i V) (rowOf (hOf x3 x4 x5 x6 x7)) (fun r => idOf x2 (i 0).val (128 * (i 1).val + r)) 128)⌝ ∗ owns (c : Thread nD τ) arg8 fullShare X) ∗ owns (c : Thread nD τ) arg9 fullShare (cntN (i 0).val (cnt0 i C) (fun r => idOf x2 (i 0).val (128 * (i 1).val + r)) 128) ∗ owns (c : Thread nD τ) arg10 fullShare (pfOf x3 x4 x5 x6 x7) ∗ (∃ d, owns (c : Thread nD τ) arg11 fullShare d) ∗ owns (c : Thread nD τ) arg12 fullShare (vacN (vac0 i V) (rowOf (hOf x3 x4 x5 x6 x7)) (fun r => idOf x2 (i 0).val (128 * (i 1).val + r)) 128)) -∗ K ⟨⟩))
      ⊢ wp frame (wpE (defs₀ (F := F)) Variants.none c none) E (cc0_pfn_scatter_max i arg2 harg2 arg3 harg3 arg4 harg4 arg5 harg5 arg6 harg6 arg7 harg7 arg8 harg8 arg9 harg9 arg10 harg10 arg11 harg11 arg12 harg12) K := by
  simp only [cc0_pfn_scatter_max_eq_skeleton]
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%d8, %f8, -, H8⟩, ⟨%f9, %h9, H9⟩, ⟨%d10, %f10, -, H10⟩, ⟨%d11, %f11, -, H11⟩, ⟨%f12, %h12, H12⟩, Hk⟩
  subst h2 h3 h4 h5 h6 h7 h9 h12
  have hh := run_h (F := F) Variants.none c none E i arg2 harg2 arg3 harg3 arg4 harg4 arg5 harg5 arg6 harg6 arg7 harg7 arg8 harg8 arg9 harg9 arg10 harg10 arg11 harg11 arg12 harg12 f3 f4 f5 f6 f7
  have hp := run_pf (F := F) Variants.none c none E i arg2 harg2 arg3 harg3 arg4 harg4 arg5 harg5 arg6 harg6 arg7 harg7 arg8 harg8 arg9 harg9 arg10 harg10 arg11 harg11 arg12 harg12 f3 f4 f5 f6 f7
  have hrd : arg11.view.read (Elt F) (arg11.view.writes (Elt F) arg11.view.junk (bodyRun (F := F) Variants.none c none E i arg2 harg2 arg3 harg3 arg4 harg4 arg5 harg5 arg6 harg6 arg7 harg7 arg8 harg8 arg9 harg9 arg10 harg10 arg11 harg11 arg12 harg12 f3 f4 f5 f6 f7).1.2) = hOf (arg3.view.read (Elt F) f3) (arg4.view.read (Elt F) f4) (arg5.view.read (Elt F) f5) (arg6.view.read (Elt F) f6) (arg7.view.read (Elt F) f7) := by
    rw [hh]; exact View.read_writes_full arg11.view _ _ _ _
  have hrp : arg10.view.read (Elt F) (arg10.view.writes (Elt F) arg10.view.junk (bodyRun (F := F) Variants.none c none E i arg2 harg2 arg3 harg3 arg4 harg4 arg5 harg5 arg6 harg6 arg7 harg7 arg8 harg8 arg9 harg9 arg10 harg10 arg11 harg11 arg12 harg12 f3 f4 f5 f6 f7).1.1) = pfOf (arg3.view.read (Elt F) f3) (arg4.view.read (Elt F) f4) (arg5.view.read (Elt F) f5) (arg6.view.read (Elt F) f6) (arg7.view.read (Elt F) f7) := by
    rw [hp]; exact View.read_writes_full arg10.view _ _ _ _
  have hrun := (bodyRun (F := F) Variants.none c none E i arg2 harg2 arg3 harg3 arg4 harg4 arg5 harg5 arg6 harg6 arg7 harg7 arg8 harg8 arg9 harg9 arg10 harg10 arg11 harg11 arg12 harg12 f3 f4 f5 f6 f7).2 f2 f8 f9 f10 f11 f12 hid
  rw [hrd] at hrun
  generalize (bodyRun (F := F) Variants.none c none E i arg2 harg2 arg3 harg3 arg4 harg4 arg5 harg5 arg6 harg6 arg7 harg7 arg8 harg8 arg9 harg9 arg10 harg10 arg11 harg11 arg12 harg12 f3 f4 f5 f6 f7).1 = L at hrun hrp hrd
  iapply (wp_wand_r frame _ E)
  isplitr [Hk]
  · iapply hrun
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  iintro %_ ⟨H2, H3, H4, H5, H6, H7, H10, H11, ⟨%g9, %e9, H9⟩, ⟨%g12, %e12, H12⟩, ⟨%g8, %e8, H8⟩⟩
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]
  · iexists (arg8.view.read (Elt F) g8)
    isplitr; · ipureintro; exact e8
    iexists g8; isplitr; · ipureintro; rfl
    iexact H8
  isplitl [H9]; · iexists g9; isplitr; · ipureintro; exact e9
                  iexact H9
  isplitl [H10]; · iexists _; isplitr; swap; · iexact H10
                   ipureintro; exact hrp
  isplitl [H11]; · iexists _, _; isplitr; swap; · iexact H11
                   ipureintro; rfl
  iexists g12; isplitr; · ipureintro; exact e12
  iexact H12

end Cert.KernelIdeal.Hand
-- ==== Proof.KernelIdealRun.lean ====
/- The run of the kernel's grid: what the scratch holds from point to point, what the body leaves in each output's staging buffer, and
   the launch. -/
module

public import proofs.«01_k».proof.Proof.Gen.KernelIdeal.Loops
public import proofs.«01_k».proof.Proof.Gen.KernelIdeal.Frame
public import proofs.«01_k».proof.Proof.KernelIdealTriple
public import Idealize.ShloMosaic.Lib.Pipeline.DatRel
public import Idealize.ShloMosaic.Lib.Pipeline.ArrRel

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [FloatOps F]
variable (m : (ℓ : Loc nD τ sig) → Buf (Elt F) ℓ) (ρ : Dev nD → PrngReg)
local notation "𝕄G" => MT nD τ sig Unit (Elt F) ℕ (UR sig nD τ) ℕ

/-- The grid point of a number. -/
def pt (k : ℕ) : Fin cfg0.N := ⟨k % 15, by rw [show cfg0.N = 15 from N_0]; exact Nat.mod_lt _ (by decide)⟩

theorem coords_eq (t : Fin cfg0.N) : (grid0.coords t 0).val = t.val / 5 ∧ (grid0.coords t 1).val = t.val % 5 := by
  have h : ∀ t : Fin 15, (grid0.coords t 0).val = t.val / 5 ∧ (grid0.coords t 1).val = t.val % 5 := by decide
  exact h t

/-- The voxel ids. -/
def IDS (c : Dev nD) : Vec F S3x640 .i32 := m ((c : Thread nD τ).loc main_arg5)

theorem iblk0_eq (c : Dev nD) (t : Fin cfg0.N) : iblk m c 0 t = IDS m c := by
  funext j
  show V m c main_arg5 (((cfg0.win 0).blk t).view.emb j) = m ((c : Thread nD τ).loc main_arg5) j
  rw [V_main_arg5]
  congr 1
  funext a
  refine Fin.ext ?_
  match a with
  | ⟨0, _⟩ => show 0 * 3 + 1 * (j 0).val = (j 0).val; omega
  | ⟨1, _⟩ => show 0 * 640 + 1 * (j 1).val = (j 1).val; omega

/-- The tile buffer's contents at a point. -/
def hT (c : Dev nD) (t : Fin cfg0.N) : Vec F S128x384 .f32 := hOf (iblk m c 1 t) (iblk m c 2 t) (iblk m c 3 t) (iblk m c 4 t) (iblk m c 5 t)

/-- The point features' block at a point. -/
def pfT (c : Dev nD) (t : Fin cfg0.N) : Vec F S1x128x384 .bf16 := pfOf (iblk m c 1 t) (iblk m c 2 t) (iblk m c 3 t) (iblk m c 4 t) (iblk m c 5 t)

/-- The features of point `n` of batch `b`. -/
def hB (c : Dev nD) (b n : ℕ) : Fin 384 → F .f32 := rowOf (hT m c (pt (5 * b + n / 128))) (n % 128)

/-- A batch's running maxima after `n` points. -/
def vacB (c : Dev nD) (b n : ℕ) : Vec F S8x208x384 .f32 := vacN k0_pay13 (hB m c b) (idOf (IDS m c) b) n

theorem rowOf_mod (H : Vec F S128x384 .f32) (r : ℕ) (hr : r < 128) (k : ℕ) : rowOf H r = rowOf H ((128 * k + r) % 128) := by
  rw [show (128 * k + r) % 128 = r by omega]

/-- A tile's fold is the batch's, one tile on. -/
theorem vac_step (c : Dev nD) (t : Fin cfg0.N) (U : Vec F S8x208x384 .f32) (hU : t.val % 5 ≠ 0 → U = vacB m c (t.val / 5) (128 * (t.val % 5))) :
    vacN (vac0 (grid0.coords t) U) (rowOf (hT m c t)) (fun r => idOf (IDS m c) (grid0.coords t 0).val (128 * (grid0.coords t 1).val + r)) 128
      = vacB m c (t.val / 5) (128 * (t.val % 5 + 1)) := by
  have ht : t.val < 15 := t.isLt
  obtain ⟨h0, h1⟩ := coords_eq t
  unfold vac0
  rw [h0, h1, show 128 * (t.val % 5 + 1) = 128 * (t.val % 5) + 128 by omega]
  unfold vacB
  rw [vacN_add _ _ _ _ _ (by omega)]
  have e : (if t.val % 5 = 0 then k0_pay13 else U) = vacN k0_pay13 (hB m c (t.val / 5)) (idOf (IDS m c) (t.val / 5)) (128 * (t.val % 5)) := by
    by_cases hj : t.val % 5 = 0
    · rw [if_pos hj, hj]; rfl
    · rw [if_neg hj]; exact hU hj
  rw [e]
  refine vacN_congr _ _ _ fun r hr => ?_
  unfold hB
  rw [rowOf_mod _ r hr (t.val % 5)]
  congr 2
  refine Fin.ext ?_
  show t.val = (5 * (t.val / 5) + (128 * (t.val % 5) + r) / 128) % 15
  omega

/-- The scratch before a point: the tile buffer at anything, the running maxima at the batch's so far, and the generator register. -/
def ΦB (c : Dev nD) (k : ℕ) : sProp 𝕄G :=
  iprop((∃ d, owns (c : Thread nD τ) (Memref.whole cc0_scratch0) fullShare d)
    ∗ (∃ d, ⌜k % 5 ≠ 0 → d = vacB m c (k / 5) (128 * (k % 5))⌝ ∗ owns (c : Thread nD τ) (Memref.whole cc0_scratch1) fullShare d)
    ∗ ∃ r, prngReg c r)

/-- The outputs are held to what the folds say of them. -/
def marks : Fin 9 → Bool := fun w => decide (6 ≤ w.val)

/-- What the body leaves in each output. -/
def Rl (c : Dev nD) (w : Fin cfg0.W) (t : Fin cfg0.N) : ((cfg0.win w).block.Idx → Elt F (cfg0.win w).elt) → Prop :=
  match w with
  | ⟨6, _⟩ => fun X => t.val % 5 = 4 → X = voxOf (vacB m c (t.val / 5) 640)
  | ⟨7, _⟩ => fun X => cntOK (IDS m c) t.val X
  | ⟨8, _⟩ => fun X => X = pfT m c t
  | _ => fun _ => True

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨n + 6, h⟩ => Pipeline.Dat.unnamed (cfg := cfg0) ⟨n + 6, h⟩ t
  Φ t := ΦB m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the counts' buffer holds when the body runs. -/
theorem finds7 (c : Dev nD) (t : Fin cfg0.N) (Y) (h : ((dats m 0 c).toRRel marks (Rl m c)).Finds 7 t Y) (ht : t.val ≠ 0) :
    cntOK (IDS m c) (t.val - 1) Y := by
  have hN : t.val < 15 := t.isLt
  rcases (RDat.finds_of_pos _ (w := (7 : Fin cfg0.W)) (t := t) rfl ht Y).mp h with hf | hl
  · exact absurd ((flush0_7 _).mp hf) (by show ¬ (t.val - 1) % 15 = 14; omega)
  · exact (dats m 0 c).toRRel_leaves (w := (7 : Fin cfg0.W)) (by rfl) hl

/-- What the body is called with at a point, -/
def bodyPre (c : Dev nD) (t : Fin cfg0.N) : sProp 𝕄G :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ Y, ⌜((dats m 0 c).toRRel marks (Rl m c)).Finds 6 t Y⌝ ∗ owns (c : Thread nD τ) (st0_6 t) fullShare Y)
    ∗ (∃ Y, ⌜((dats m 0 c).toRRel marks (Rl m c)).Finds 7 t Y⌝ ∗ owns (c : Thread nD τ) (st0_7 t) fullShare Y)
    ∗ (∃ Y, ⌜((dats m 0 c).toRRel marks (Rl m c)).Finds 8 t Y⌝ ∗ owns (c : Thread nD τ) (st0_8 t) fullShare Y))

/-- and what it returns. -/
def bodyPost (c : Dev nD) (t : Fin cfg0.N) : sProp 𝕄G :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ X, ⌜Rl m c 6 t X⌝ ∗ owns (c : Thread nD τ) (st0_6 t) fullShare X)
    ∗ (∃ X, ⌜Rl m c 7 t X⌝ ∗ owns (c : Thread nD τ) (st0_7 t) fullShare X)
    ∗ (∃ X, ⌜Rl m c 8 t X⌝ ∗ owns (c : Thread nD τ) (st0_8 t) fullShare X))

/-- The body at a point. -/
theorem sound_body (hid : ∀ c j, idOK (IDS m c j)) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = ΦB m c (t.val + 1) from rfl, show (dats m 0 c).Φ t.castSucc = ΦB m c t.val from rfl,
    show (dats m 0 c).owesAt () t.succ = (dats m 0 c).owesAt () t.castSucc from rfl,
    after0_0, after0_1, after0_2, after0_3, after0_4, after0_5]
  have hN : t.val < 15 := t.isLt
  obtain ⟨h0, h1⟩ := coords_eq t
  unfold ΦB
  iintro ⟨⟨⟨%d11, H11⟩, ⟨%d12, %h12, H12⟩, Hg⟩, Ho, ⟨%d0, H0⟩, ⟨%d1, H1⟩, ⟨%d2, H2⟩, ⟨%d3, H3⟩, ⟨%d4, H4⟩, ⟨%d5, H5⟩, ⟨%Y6, -, H6⟩, ⟨%Y7, %hY7, H7⟩, ⟨%Y8, -, H8⟩⟩
  have hv := vac_step m c t d12 h12
  have hc := cntOK_step (F := F) (IDS m c) t.val (grid0.coords t) h0 h1 Y7 (finds7 m c t Y7 hY7)
  iapply (sound_kernel c Set.univ (grid0.coords t) _ _ _ _ _ _ _ _ _ _ _ _ _ _ _ _ _ _ _ _ _ _ (iblk m c 0 t) (iblk m c 1 t) (iblk m c 2 t) (iblk m c 3 t) (iblk m c 4 t) (iblk m c 5 t) Y7 d12
    (by rw [iblk0_eq]; exact hid c) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexists _; iexact H8
  isplitl [H11]; · iexists _; iexact H11
  isplitl [H12]; · iexact H12
  rw [iblk0_eq, show hOf (iblk m c 1 t) (iblk m c 2 t) (iblk m c 3 t) (iblk m c 4 t) (iblk m c 5 t) = hT m c t from rfl, hv]
  iintro ⟨H0, H1, H2, H3, H4, H5, ⟨%X6, %h6, H6⟩, H7, H8, H11, H12⟩
  isplitl [H11 H12 Hg]
  · isplitl [H11]; · iexact H11
    isplitl [H12]
    · iexists _; isplitr; swap; · iexact H12
      ipureintro
      intro hk
      rw [show (t.val + 1) / 5 = t.val / 5 by omega, show (t.val + 1) % 5 = t.val % 5 + 1 by omega]
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr; swap; · iexact H6
    ipureintro
    show t.val % 5 = 4 → X6 = voxOf (vacB m c (t.val / 5) 640)
    intro hk
    have := h6 (h1.trans hk)
    rwa [hk] at this
  isplitl [H7]
  · iexists _; isplitr; swap; · iexact H7
    ipureintro
    exact hc
  iexists _; isplitr; swap; · iexact H8
  ipureintro
  rfl

theorem defs₀_row (t : Fin cfg0.N) :
    defs₀ (F := F) .tc cfg0.body (cfg0.bodyArgs t (cfg0.slots t)) = bodyAt0 t := by
  unfold defs₀; rw [Defs.onTc_tc]

theorem body_obligation (hid : ∀ c j, idOK (IDS m c j)) (c : Dev nD) :
    BodyObligationRel (dats (F := F) m 0 c) (defs₀ (F := F)) Variants.none () Set.univ marks (Rl m c) := fun t => by
  rw [bigSep_W0, bigSep_W0, defs₀_row]
  exact triple_restated (sound_body m hid c t) rfl .rfl fun _ => .rfl

theorem hin (c : Dev nD) : (Pipeline.ΦA (Val := Elt F) (U := UR sig nD τ) spec0 c : sProp 𝕄G) ⊢ ΦB m c 0 := by
  unfold Pipeline.ΦA ΦB
  rw [scopedRest0_eq]
  iintro ⟨⟨⟨%f0, H0⟩, ⟨%f1, H1⟩⟩, Hg⟩
  isplitl [H0]; · iexists f0; rw [owns_whole]; iexact H0
  isplitl [H1]
  · iexists f1; isplitr; · ipureintro; exact fun h => absurd rfl h
    rw [owns_whole]; iexact H1
  iexact Hg

theorem hout (c : Dev nD) (k : ℕ) : ΦB m c k ⊢ (Pipeline.ΦA (Val := Elt F) (U := UR sig nD τ) spec0 c : sProp 𝕄G) := by
  unfold Pipeline.ΦA ΦB
  rw [scopedRest0_eq]
  iintro ⟨⟨%f0, H0⟩, ⟨%f1, -, H1⟩, Hg⟩
  isplitl [H0 H1]
  · isplitl [H0]
    · iexists f0; rw [← owns_whole]; iexact H0
    · iexists f1; rw [← owns_whole]; iexact H1
  iexact Hg

set_option backward.isDefEq.respectTransparency.types false in
set_option maxHeartbeats 800000 in
/-- THE LAUNCH: from ids below the number of voxels, every weakly fair execution ends, every output array at write-backs of what `Rl`
    says, every other buffer as the region found it, every semaphore counter at zero. -/
theorem run_main (hid : ∀ c j, idOK (IDS m c j)) :
    θ_run defs (onTc (τ := τ) (main (F := F))) (s₀ m ρ)
      (fun r => RDat.FramePost (cfgs 0) (fun c => (dats m 0 c).toRRel marks (Rl m c)) (V m) r ∧ r.2.sem = fun _ => 0) :=
  RDat.θ_run_frame_track (Q' := _) cfgs (0 : Fin 1) launch0 defs₀ Variants.none (fun c => (dats m 0 c).toRRel marks (Rl m c)) m ρ main
    (fun c => (body_obligation m hid c).toRRel) (fun c => (dats m 0 c).share_full fun _ => rfl)
    (fun _ _ => rfl) (V m) (hmain m Variants.none) (A_eq m) (hin m) (fun c => hout m c _) (hQ' := fun _ h => h)

/-- The argument arrays end unchanged and every counter at zero. -/
theorem frame (hid : ∀ c j, idOK (IDS m c j)) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => ⟨(h.1.arr_in c 1 rfl).trans ((A_eq m c 1).trans (V_main_arg0 m c)),
      (h.1.arr_in c 2 rfl).trans ((A_eq m c 2).trans (V_main_arg1 m c)),
      (h.1.arr_in c 3 rfl).trans ((A_eq m c 3).trans (V_main_arg2 m c)),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      (h.1.arr_in c 0 rfl).trans ((A_eq m c 0).trans (V_main_arg5 m c))⟩, h.2⟩) (run_main m ρ hid)

end Cert.KernelIdeal.Hand
-- ==== Proof.Pre.lean ====
/- The precondition decoded: every voxel id is below the number of voxels. -/
module

public import proofs.«01_k».proof.Defs
public import proofs.«01_k».proof.Proof.Gen.Pre_ids_below_voxels
public import proofs.«01_k».proof.Proof.KernelRun
public import proofs.«01_k».proof.Proof.KernelIdealRun

@[expose] public section

noncomputable section

namespace Cert.Proof

open Idealize.ShloMosaic Idealize.SL.Sem

theorem ids_Kernel (m : (ℓ : Loc Cert.Kernel.nD Cert.Kernel.τ Cert.Kernel.sig) → Buf (Elt Bits) ℓ)
    (h : @Cert.Pre_Kernel Cert.Pre_ids_below_voxels.Gen.facts m) : ∀ c j, Cert.Kernel.Hand.idOK (Cert.Kernel.Hand.IDS m c j) := by
  intro c j
  have e := congrFun (h c) j
  unfold Cert.Kernel.Hand.idOK Cert.Kernel.Hand.IDS
  have e' : BitVec.ofBool (BitVec.slt (m ((c.tc : Thread Cert.Kernel.nD Cert.Kernel.τ).loc Cert.Kernel.main_arg5) j) 200#32) = 1#1 := e
  revert e'
  cases BitVec.slt (m ((c.tc : Thread Cert.Kernel.nD Cert.Kernel.τ).loc Cert.Kernel.main_arg5) j) 200#32 <;> simp

theorem ids_KernelIdeal (m : (ℓ : Loc Cert.KernelIdeal.nD Cert.KernelIdeal.τ Cert.KernelIdeal.sig) → Buf (Elt Ideal) ℓ)
    (h : @Cert.Pre_KernelIdeal Cert.Pre_ids_below_voxels.Gen.facts m) : ∀ c j, Cert.KernelIdeal.Hand.idOK (Cert.KernelIdeal.Hand.IDS m c j) := by
  intro c j
  have e := congrFun (h c) j
  unfold Cert.KernelIdeal.Hand.idOK Cert.KernelIdeal.Hand.IDS
  have e' : BitVec.ofBool (BitVec.slt (m ((c.tc : Thread Cert.KernelIdeal.nD Cert.KernelIdeal.τ).loc Cert.KernelIdeal.main_arg5) j) 200#32) = 1#1 := e
  revert e'
  cases BitVec.slt (m ((c.tc : Thread Cert.KernelIdeal.nD Cert.KernelIdeal.τ).loc Cert.KernelIdeal.main_arg5) j) 200#32 <;> simp

end Cert.Proof

end
-- ==== Proof.KernelIdealTileVal.lean ====
/- The features of one tile of points read element by element over the extended reals: sums of products of the dequantized
   columns with the weights, scaled, shifted and cut off at zero. -/
module

public import proofs.«01_k».proof.Proof.KernelIdealTile
public import Idealize.ShloMosaic.Lib.Pointwise

@[expose] public section

set_option maxRecDepth 16384

noncomputable section

namespace Cert.KernelIdeal.Hand

open Cert.KernelIdeal Cert.KernelIdeal.Gen
open Idealize.ShloMosaic

/-- The lane number divided by 32, as the kernel computes it. -/
theorem pay15_apply (r l : Fin 128) : k0_pay15 (ix2 r l) = BitVec.ofNat 32 (l.val / 32) := by
  have h : ∀ l : Fin 128, k0_pay15 (ix2 0 l) = BitVec.ofNat 32 (l.val / 32) := by
    decide +kernel
  exact h l

/-- The lane looked up for lane `l` of a block whose first scale is `o`. -/
theorem laneOf_apply (o : BitVec 32) (ho : o.toNat ≤ 124) (r l : Fin 128) : (laneOf o (ix2 r l)).toNat = o.toNat + l.val / 32 := by
  have hl := l.isLt
  unfold laneOf
  pointwise [pay15_apply]
  have e : (IntOp.addi (BitVec.ofNat 32 (↑l / 32)) o) = BitVec.ofNat 32 (o.toNat + l.val / 32) := by
    apply BitVec.eq_of_toNat_eq
    show (BitVec.ofNat 32 (↑l / 32) + o).toNat = _
    rw [BitVec.toNat_add, BitVec.toNat_ofNat, BitVec.toNat_ofNat]
    omega
  rw [e]
  have hn : o.toNat + l.val / 32 < 128 := by omega
  generalize o.toNat + l.val / 32 = n at hn
  have h : ∀ n : Fin 128, (Scalar.select (IntOp.cmpi CmpIPredicate.slt (BitVec.ofNat 32 n.val) 0#32)
    (IntOp.addi (BitVec.ofNat 32 n.val) 128#32) (BitVec.ofNat 32 n.val)).toNat = n.val := by decide +kernel
  exact h ⟨n, hn⟩

/-- A dequantized block element by element. -/
theorem blkOf_apply (Xb : Vec Ideal S1x128x128 .fp8e4m3) (Sb : FVec Ideal S128x128 .bf16) (o : BitVec 32) (ho : o.toNat ≤ 124) (r l : Fin 128) :
    blkOf Xb Sb o (ix2 r l) = Xb (ix3 0 r l) * Sb (ix2 r ⟨o.toNat + l.val / 32, by omega⟩) := by
  unfold blkOf
  pointwise
  have h := laneOf_apply o ho r l
  have hl := l.isLt
  congr 3
  apply Fin.ext
  show (laneOf o (ix2 r l)).toNat % 128 = _
  rw [h]
  exact Nat.mod_eq_of_lt (by omega)

/-- A load of 128 columns, element by element. -/
theorem ldX_apply (X : Vec Ideal S1x128x10240 .fp8e4m3) (o : ℕ) (inb) (r l : Fin 128) (h : o + l.val < 10240) :
    ldX X ![0, 0, o] inb (ix3 0 r l) = X (ix3 0 r ⟨o + l.val, h⟩) := by
  unfold ldX
  congr 1
  funext a
  apply Fin.ext
  match a with
  | ⟨0, _⟩ => rfl
  | ⟨1, _⟩ => show 0 + 1 * r.val = r.val; omega
  | ⟨2, _⟩ => show o + 1 * l.val = o + l.val; omega

theorem sTile0_apply (XS : Vec Ideal S1x128x320 .f32) (r l : Fin 128) : sTile0 XS (ix2 r l) = XS (ix3 0 r ⟨l.val, by omega⟩) := by
  unfold sTile0
  pointwise
theorem sTile1_apply (XS : Vec Ideal S1x128x320 .f32) (r l : Fin 128) : sTile1 XS (ix2 r l) = XS (ix3 0 r ⟨128 + l.val, by omega⟩) := by
  unfold sTile1
  pointwise
theorem sTile2_apply (XS : Vec Ideal S1x128x320 .f32) (r l : Fin 128) (hl : l.val < 64) : sTile2 XS (ix2 r l) = XS (ix3 0 r ⟨256 + l.val, by omega⟩) := by
  unfold sTile2
  pointwise
  rw [dif_pos hl]

/-- Dequantized column `k` of point `r` of a tile. -/
def dq (X : Vec Ideal S1x128x10240 .fp8e4m3) (XS : Vec Ideal S1x128x320 .f32) (r : Fin 128) (k : Fin 10240) : EReal :=
  X (ix3 0 r k) * XS (ix3 0 r ⟨k.val / 32, by omega⟩)

/-- A block whose first column is `xo`, its scales looked up in a piece of the scales that starts at `so`. -/
theorem blk_dq (X : Vec Ideal S1x128x10240 .fp8e4m3) (XS : Vec Ideal S1x128x320 .f32) (S : FVec Ideal S128x128 .bf16) (so xo : ℕ) (o : BitVec 32)
    (ho : o.toNat ≤ 124) (hxo : 32 * (so + o.toNat) = xo) (hx : xo + 128 ≤ 10240) (inb)
    (hS : ∀ (r l : Fin 128) (h : so + l.val < 320), S (ix2 r l) = XS (ix3 0 r ⟨so + l.val, h⟩)) (r l : Fin 128) :
    blkOf (ldX X ![0, 0, xo] inb) S o (ix2 r l) = dq X XS r ⟨xo + l.val, by omega⟩ := by
  rw [blkOf_apply _ _ _ ho, ldX_apply X xo inb r l (by omega), hS r _ (by show so + (o.toNat + l.val / 32) < 320; omega)]
  unfold dq
  congr 3
  apply Fin.ext
  show so + (o.toNat + l.val / 32) = (xo + l.val) / 32
  omega

/-- Sixteen blocks of 128 columns side by side. -/
theorem cat16_apply (p0 p1 p2 p3 p4 p5 p6 p7 p8 p9 p10 p11 p12 p13 p14 p15 : FVec Ideal S128x128 .bf16) (h) (r : Fin 128) (j : Fin 16) (l : Fin 128) :
    concatenate S128x2048 1 [⟨S128x128, p0⟩, ⟨S128x128, p1⟩, ⟨S128x128, p2⟩, ⟨S128x128, p3⟩, ⟨S128x128, p4⟩, ⟨S128x128, p5⟩, ⟨S128x128, p6⟩, ⟨S128x128, p7⟩, ⟨S128x128, p8⟩, ⟨S128x128, p9⟩, ⟨S128x128, p10⟩, ⟨S128x128, p11⟩, ⟨S128x128, p12⟩, ⟨S128x128, p13⟩, ⟨S128x128, p14⟩, ⟨S128x128, p15⟩] h (ix2 r ⟨128 * j.val + l.val, by omega⟩)
      = ![p0, p1, p2, p3, p4, p5, p6, p7, p8, p9, p10, p11, p12, p13, p14, p15] j (ix2 r l) :=
  concatenate_ofFn_apply (t := S128x2048) (s₁ := S128x128) 1 ![p0, p1, p2, p3, p4, p5, p6, p7, p8, p9, p10, p11, p12, p13, p14, p15] h rfl 128 rfl
    (ix2 r ⟨128 * j.val + l.val, by omega⟩) j (by show (128 * j.val + l.val) / 128 = j.val; omega) (ix2 r l)
    (by show l.val = (128 * j.val + l.val) % 128; omega)
    (by intro b hb; match b, hb with | ⟨0, _⟩, _ => rfl | ⟨1, _⟩, hb => exact absurd rfl hb)

theorem hS0 (XS : Vec Ideal S1x128x320 .f32) (r l : Fin 128) (h : 0 + l.val < 320) : sTile0 XS (ix2 r l) = XS (ix3 0 r ⟨0 + l.val, h⟩) := by
  rw [sTile0_apply]; congr 2; apply Fin.ext; show l.val = 0 + l.val; omega
theorem hS1 (XS : Vec Ideal S1x128x320 .f32) (r l : Fin 128) (h : 128 + l.val < 320) : sTile1 XS (ix2 r l) = XS (ix3 0 r ⟨128 + l.val, h⟩) :=
  sTile1_apply XS r l
theorem hS2 (XS : Vec Ideal S1x128x320 .f32) (r l : Fin 128) (h : 256 + l.val < 320) : sTile2 XS (ix2 r l) = XS (ix3 0 r ⟨256 + l.val, h⟩) :=
  sTile2_apply XS r l (by omega)

theorem cols0_apply (X : Vec Ideal S1x128x10240 .fp8e4m3) (XS : Vec Ideal S1x128x320 .f32) (r : Fin 128) (j : Fin 16) (l : Fin 128) :
    cols0 X XS (ix2 r ⟨128 * j.val + l.val, by omega⟩) = dq X XS r ⟨0 + (128 * j.val + l.val), by omega⟩ := by
  unfold cols0
  rw [cat16_apply]
  match j with
  | ⟨0, _⟩ => exact (blk_dq X XS (sTile0 XS) 0 0 0#32 (by decide) (by decide) (by decide) _ (hS0 XS) r l).trans (by congr 1; apply Fin.ext; show 0 + l.val = 0 + (128 * 0 + l.val); omega)
  | ⟨1, _⟩ => exact (blk_dq X XS (sTile0 XS) 0 128 4#32 (by decide) (by decide) (by decide) _ (hS0 XS) r l).trans (by congr 1; apply Fin.ext; show 128 + l.val = 0 + (128 * 1 + l.val); omega)
  | ⟨2, _⟩ => exact (blk_dq X XS (sTile0 XS) 0 256 8#32 (by decide) (by decide) (by decide) _ (hS0 XS) r l).trans (by congr 1; apply Fin.ext; show 256 + l.val = 0 + (128 * 2 + l.val); omega)
  | ⟨3, _⟩ => exact (blk_dq X XS (sTile0 XS) 0 384 12#32 (by decide) (by decide) (by decide) _ (hS0 XS) r l).trans (by congr 1; apply Fin.ext; show 384 + l.val = 0 + (128 * 3 + l.val); omega)
  | ⟨4, _⟩ => exact (blk_dq X XS (sTile0 XS) 0 512 16#32 (by decide) (by decide) (by decide) _ (hS0 XS) r l).trans (by congr 1; apply Fin.ext; show 512 + l.val = 0 + (128 * 4 + l.val); omega)
  | ⟨5, _⟩ => exact (blk_dq X XS (sTile0 XS) 0 640 20#32 (by decide) (by decide) (by decide) _ (hS0 XS) r l).trans (by congr 1; apply Fin.ext; show 640 + l.val = 0 + (128 * 5 + l.val); omega)
  | ⟨6, _⟩ => exact (blk_dq X XS (sTile0 XS) 0 768 24#32 (by decide) (by decide) (by decide) _ (hS0 XS) r l).trans (by congr 1; apply Fin.ext; show 768 + l.val = 0 + (128 * 6 + l.val); omega)
  | ⟨7, _⟩ => exact (blk_dq X XS (sTile0 XS) 0 896 28#32 (by decide) (by decide) (by decide) _ (hS0 XS) r l).trans (by congr 1; apply Fin.ext; show 896 + l.val = 0 + (128 * 7 + l.val); omega)
  | ⟨8, _⟩ => exact (blk_dq X XS (sTile0 XS) 0 1024 32#32 (by decide) (by decide) (by decide) _ (hS0 XS) r l).trans (by congr 1; apply Fin.ext; show 1024 + l.val = 0 + (128 * 8 + l.val); omega)
  | ⟨9, _⟩ => exact (blk_dq X XS (sTile0 XS) 0 1152 36#32 (by decide) (by decide) (by decide) _ (hS0 XS) r l).trans (by congr 1; apply Fin.ext; show 1152 + l.val = 0 + (128 * 9 + l.val); omega)
  | ⟨10, _⟩ => exact (blk_dq X XS (sTile0 XS) 0 1280 40#32 (by decide) (by decide) (by decide) _ (hS0 XS) r l).trans (by congr 1; apply Fin.ext; show 1280 + l.val = 0 + (128 * 10 + l.val); omega)
  | ⟨11, _⟩ => exact (blk_dq X XS (sTile0 XS) 0 1408 44#32 (by decide) (by decide) (by decide) _ (hS0 XS) r l).trans (by congr 1; apply Fin.ext; show 1408 + l.val = 0 + (128 * 11 + l.val); omega)
  | ⟨12, _⟩ => exact (blk_dq X XS (sTile0 XS) 0 1536 48#32 (by decide) (by decide) (by decide) _ (hS0 XS) r l).trans (by congr 1; apply Fin.ext; show 1536 + l.val = 0 + (128 * 12 + l.val); omega)
  | ⟨13, _⟩ => exact (blk_dq X XS (sTile0 XS) 0 1664 52#32 (by decide) (by decide) (by decide) _ (hS0 XS) r l).trans (by congr 1; apply Fin.ext; show 1664 + l.val = 0 + (128 * 13 + l.val); omega)
  | ⟨14, _⟩ => exact (blk_dq X XS (sTile0 XS) 0 1792 56#32 (by decide) (by decide) (by decide) _ (hS0 XS) r l).trans (by congr 1; apply Fin.ext; show 1792 + l.val = 0 + (128 * 14 + l.val); omega)
  | ⟨15, _⟩ => exact (blk_dq X XS (sTile0 XS) 0 1920 60#32 (by decide) (by decide) (by decide) _ (hS0 XS) r l).trans (by congr 1; apply Fin.ext; show 1920 + l.val = 0 + (128 * 15 + l.val); omega)
  | ⟨n + 16, h⟩ => omega

theorem cols1_apply (X : Vec Ideal S1x128x10240 .fp8e4m3) (XS : Vec Ideal S1x128x320 .f32) (r : Fin 128) (j : Fin 16) (l : Fin 128) :
    cols1 X XS (ix2 r ⟨128 * j.val + l.val, by omega⟩) = dq X XS r ⟨2048 + (128 * j.val + l.val), by omega⟩ := by
  unfold cols1
  rw [cat16_apply]
  match j with
  | ⟨0, _⟩ => exact (blk_dq X XS (sTile0 XS) 0 2048 64#32 (by decide) (by decide) (by decide) _ (hS0 XS) r l).trans (by congr 1; apply Fin.ext; show 2048 + l.val = 2048 + (128 * 0 + l.val); omega)
  | ⟨1, _⟩ => exact (blk_dq X XS (sTile0 XS) 0 2176 68#32 (by decide) (by decide) (by decide) _ (hS0 XS) r l).trans (by congr 1; apply Fin.ext; show 2176 + l.val = 2048 + (128 * 1 + l.val); omega)
  | ⟨2, _⟩ => exact (blk_dq X XS (sTile0 XS) 0 2304 72#32 (by decide) (by decide) (by decide) _ (hS0 XS) r l).trans (by congr 1; apply Fin.ext; show 2304 + l.val = 2048 + (128 * 2 + l.val); omega)
  | ⟨3, _⟩ => exact (blk_dq X XS (sTile0 XS) 0 2432 76#32 (by decide) (by decide) (by decide) _ (hS0 XS) r l).trans (by congr 1; apply Fin.ext; show 2432 + l.val = 2048 + (128 * 3 + l.val); omega)
  | ⟨4, _⟩ => exact (blk_dq X XS (sTile0 XS) 0 2560 80#32 (by decide) (by decide) (by decide) _ (hS0 XS) r l).trans (by congr 1; apply Fin.ext; show 2560 + l.val = 2048 + (128 * 4 + l.val); omega)
  | ⟨5, _⟩ => exact (blk_dq X XS (sTile0 XS) 0 2688 84#32 (by decide) (by decide) (by decide) _ (hS0 XS) r l).trans (by congr 1; apply Fin.ext; show 2688 + l.val = 2048 + (128 * 5 + l.val); omega)
  | ⟨6, _⟩ => exact (blk_dq X XS (sTile0 XS) 0 2816 88#32 (by decide) (by decide) (by decide) _ (hS0 XS) r l).trans (by congr 1; apply Fin.ext; show 2816 + l.val = 2048 + (128 * 6 + l.val); omega)
  | ⟨7, _⟩ => exact (blk_dq X XS (sTile0 XS) 0 2944 92#32 (by decide) (by decide) (by decide) _ (hS0 XS) r l).trans (by congr 1; apply Fin.ext; show 2944 + l.val = 2048 + (128 * 7 + l.val); omega)
  | ⟨8, _⟩ => exact (blk_dq X XS (sTile0 XS) 0 3072 96#32 (by decide) (by decide) (by decide) _ (hS0 XS) r l).trans (by congr 1; apply Fin.ext; show 3072 + l.val = 2048 + (128 * 8 + l.val); omega)
  | ⟨9, _⟩ => exact (blk_dq X XS (sTile0 XS) 0 3200 100#32 (by decide) (by decide) (by decide) _ (hS0 XS) r l).trans (by congr 1; apply Fin.ext; show 3200 + l.val = 2048 + (128 * 9 + l.val); omega)
  | ⟨10, _⟩ => exact (blk_dq X XS (sTile0 XS) 0 3328 104#32 (by decide) (by decide) (by decide) _ (hS0 XS) r l).trans (by congr 1; apply Fin.ext; show 3328 + l.val = 2048 + (128 * 10 + l.val); omega)
  | ⟨11, _⟩ => exact (blk_dq X XS (sTile0 XS) 0 3456 108#32 (by decide) (by decide) (by decide) _ (hS0 XS) r l).trans (by congr 1; apply Fin.ext; show 3456 + l.val = 2048 + (128 * 11 + l.val); omega)
  | ⟨12, _⟩ => exact (blk_dq X XS (sTile0 XS) 0 3584 112#32 (by decide) (by decide) (by decide) _ (hS0 XS) r l).trans (by congr 1; apply Fin.ext; show 3584 + l.val = 2048 + (128 * 12 + l.val); omega)
  | ⟨13, _⟩ => exact (blk_dq X XS (sTile0 XS) 0 3712 116#32 (by decide) (by decide) (by decide) _ (hS0 XS) r l).trans (by congr 1; apply Fin.ext; show 3712 + l.val = 2048 + (128 * 13 + l.val); omega)
  | ⟨14, _⟩ => exact (blk_dq X XS (sTile0 XS) 0 3840 120#32 (by decide) (by decide) (by decide) _ (hS0 XS) r l).trans (by congr 1; apply Fin.ext; show 3840 + l.val = 2048 + (128 * 14 + l.val); omega)
  | ⟨15, _⟩ => exact (blk_dq X XS (sTile0 XS) 0 3968 124#32 (by decide) (by decide) (by decide) _ (hS0 XS) r l).trans (by congr 1; apply Fin.ext; show 3968 + l.val = 2048 + (128 * 15 + l.val); omega)
  | ⟨n + 16, h⟩ => omega

theorem cols2_apply (X : Vec Ideal S1x128x10240 .fp8e4m3) (XS : Vec Ideal S1x128x320 .f32) (r : Fin 128) (j : Fin 16) (l : Fin 128) :
    cols2 X XS (ix2 r ⟨128 * j.val + l.val, by omega⟩) = dq X XS r ⟨4096 + (128 * j.val + l.val), by omega⟩ := by
  unfold cols2
  rw [cat16_apply]
  match j with
  | ⟨0, _⟩ => exact (blk_dq X XS (sTile1 XS) 128 4096 0#32 (by decide) (by decide) (by decide) _ (hS1 XS) r l).trans (by congr 1; apply Fin.ext; show 4096 + l.val = 4096 + (128 * 0 + l.val); omega)
  | ⟨1, _⟩ => exact (blk_dq X XS (sTile1 XS) 128 4224 4#32 (by decide) (by decide) (by decide) _ (hS1 XS) r l).trans (by congr 1; apply Fin.ext; show 4224 + l.val = 4096 + (128 * 1 + l.val); omega)
  | ⟨2, _⟩ => exact (blk_dq X XS (sTile1 XS) 128 4352 8#32 (by decide) (by decide) (by decide) _ (hS1 XS) r l).trans (by congr 1; apply Fin.ext; show 4352 + l.val = 4096 + (128 * 2 + l.val); omega)
  | ⟨3, _⟩ => exact (blk_dq X XS (sTile1 XS) 128 4480 12#32 (by decide) (by decide) (by decide) _ (hS1 XS) r l).trans (by congr 1; apply Fin.ext; show 4480 + l.val = 4096 + (128 * 3 + l.val); omega)
  | ⟨4, _⟩ => exact (blk_dq X XS (sTile1 XS) 128 4608 16#32 (by decide) (by decide) (by decide) _ (hS1 XS) r l).trans (by congr 1; apply Fin.ext; show 4608 + l.val = 4096 + (128 * 4 + l.val); omega)
  | ⟨5, _⟩ => exact (blk_dq X XS (sTile1 XS) 128 4736 20#32 (by decide) (by decide) (by decide) _ (hS1 XS) r l).trans (by congr 1; apply Fin.ext; show 4736 + l.val = 4096 + (128 * 5 + l.val); omega)
  | ⟨6, _⟩ => exact (blk_dq X XS (sTile1 XS) 128 4864 24#32 (by decide) (by decide) (by decide) _ (hS1 XS) r l).trans (by congr 1; apply Fin.ext; show 4864 + l.val = 4096 + (128 * 6 + l.val); omega)
  | ⟨7, _⟩ => exact (blk_dq X XS (sTile1 XS) 128 4992 28#32 (by decide) (by decide) (by decide) _ (hS1 XS) r l).trans (by congr 1; apply Fin.ext; show 4992 + l.val = 4096 + (128 * 7 + l.val); omega)
  | ⟨8, _⟩ => exact (blk_dq X XS (sTile1 XS) 128 5120 32#32 (by decide) (by decide) (by decide) _ (hS1 XS) r l).trans (by congr 1; apply Fin.ext; show 5120 + l.val = 4096 + (128 * 8 + l.val); omega)
  | ⟨9, _⟩ => exact (blk_dq X XS (sTile1 XS) 128 5248 36#32 (by decide) (by decide) (by decide) _ (hS1 XS) r l).trans (by congr 1; apply Fin.ext; show 5248 + l.val = 4096 + (128 * 9 + l.val); omega)
  | ⟨10, _⟩ => exact (blk_dq X XS (sTile1 XS) 128 5376 40#32 (by decide) (by decide) (by decide) _ (hS1 XS) r l).trans (by congr 1; apply Fin.ext; show 5376 + l.val = 4096 + (128 * 10 + l.val); omega)
  | ⟨11, _⟩ => exact (blk_dq X XS (sTile1 XS) 128 5504 44#32 (by decide) (by decide) (by decide) _ (hS1 XS) r l).trans (by congr 1; apply Fin.ext; show 5504 + l.val = 4096 + (128 * 11 + l.val); omega)
  | ⟨12, _⟩ => exact (blk_dq X XS (sTile1 XS) 128 5632 48#32 (by decide) (by decide) (by decide) _ (hS1 XS) r l).trans (by congr 1; apply Fin.ext; show 5632 + l.val = 4096 + (128 * 12 + l.val); omega)
  | ⟨13, _⟩ => exact (blk_dq X XS (sTile1 XS) 128 5760 52#32 (by decide) (by decide) (by decide) _ (hS1 XS) r l).trans (by congr 1; apply Fin.ext; show 5760 + l.val = 4096 + (128 * 13 + l.val); omega)
  | ⟨14, _⟩ => exact (blk_dq X XS (sTile1 XS) 128 5888 56#32 (by decide) (by decide) (by decide) _ (hS1 XS) r l).trans (by congr 1; apply Fin.ext; show 5888 + l.val = 4096 + (128 * 14 + l.val); omega)
  | ⟨15, _⟩ => exact (blk_dq X XS (sTile1 XS) 128 6016 60#32 (by decide) (by decide) (by decide) _ (hS1 XS) r l).trans (by congr 1; apply Fin.ext; show 6016 + l.val = 4096 + (128 * 15 + l.val); omega)
  | ⟨n + 16, h⟩ => omega

theorem cols3_apply (X : Vec Ideal S1x128x10240 .fp8e4m3) (XS : Vec Ideal S1x128x320 .f32) (r : Fin 128) (j : Fin 16) (l : Fin 128) :
    cols3 X XS (ix2 r ⟨128 * j.val + l.val, by omega⟩) = dq X XS r ⟨6144 + (128 * j.val + l.val), by omega⟩ := by
  unfold cols3
  rw [cat16_apply]
  match j with
  | ⟨0, _⟩ => exact (blk_dq X XS (sTile1 XS) 128 6144 64#32 (by decide) (by decide) (by decide) _ (hS1 XS) r l).trans (by congr 1; apply Fin.ext; show 6144 + l.val = 6144 + (128 * 0 + l.val); omega)
  | ⟨1, _⟩ => exact (blk_dq X XS (sTile1 XS) 128 6272 68#32 (by decide) (by decide) (by decide) _ (hS1 XS) r l).trans (by congr 1; apply Fin.ext; show 6272 + l.val = 6144 + (128 * 1 + l.val); omega)
  | ⟨2, _⟩ => exact (blk_dq X XS (sTile1 XS) 128 6400 72#32 (by decide) (by decide) (by decide) _ (hS1 XS) r l).trans (by congr 1; apply Fin.ext; show 6400 + l.val = 6144 + (128 * 2 + l.val); omega)
  | ⟨3, _⟩ => exact (blk_dq X XS (sTile1 XS) 128 6528 76#32 (by decide) (by decide) (by decide) _ (hS1 XS) r l).trans (by congr 1; apply Fin.ext; show 6528 + l.val = 6144 + (128 * 3 + l.val); omega)
  | ⟨4, _⟩ => exact (blk_dq X XS (sTile1 XS) 128 6656 80#32 (by decide) (by decide) (by decide) _ (hS1 XS) r l).trans (by congr 1; apply Fin.ext; show 6656 + l.val = 6144 + (128 * 4 + l.val); omega)
  | ⟨5, _⟩ => exact (blk_dq X XS (sTile1 XS) 128 6784 84#32 (by decide) (by decide) (by decide) _ (hS1 XS) r l).trans (by congr 1; apply Fin.ext; show 6784 + l.val = 6144 + (128 * 5 + l.val); omega)
  | ⟨6, _⟩ => exact (blk_dq X XS (sTile1 XS) 128 6912 88#32 (by decide) (by decide) (by decide) _ (hS1 XS) r l).trans (by congr 1; apply Fin.ext; show 6912 + l.val = 6144 + (128 * 6 + l.val); omega)
  | ⟨7, _⟩ => exact (blk_dq X XS (sTile1 XS) 128 7040 92#32 (by decide) (by decide) (by decide) _ (hS1 XS) r l).trans (by congr 1; apply Fin.ext; show 7040 + l.val = 6144 + (128 * 7 + l.val); omega)
  | ⟨8, _⟩ => exact (blk_dq X XS (sTile1 XS) 128 7168 96#32 (by decide) (by decide) (by decide) _ (hS1 XS) r l).trans (by congr 1; apply Fin.ext; show 7168 + l.val = 6144 + (128 * 8 + l.val); omega)
  | ⟨9, _⟩ => exact (blk_dq X XS (sTile1 XS) 128 7296 100#32 (by decide) (by decide) (by decide) _ (hS1 XS) r l).trans (by congr 1; apply Fin.ext; show 7296 + l.val = 6144 + (128 * 9 + l.val); omega)
  | ⟨10, _⟩ => exact (blk_dq X XS (sTile1 XS) 128 7424 104#32 (by decide) (by decide) (by decide) _ (hS1 XS) r l).trans (by congr 1; apply Fin.ext; show 7424 + l.val = 6144 + (128 * 10 + l.val); omega)
  | ⟨11, _⟩ => exact (blk_dq X XS (sTile1 XS) 128 7552 108#32 (by decide) (by decide) (by decide) _ (hS1 XS) r l).trans (by congr 1; apply Fin.ext; show 7552 + l.val = 6144 + (128 * 11 + l.val); omega)
  | ⟨12, _⟩ => exact (blk_dq X XS (sTile1 XS) 128 7680 112#32 (by decide) (by decide) (by decide) _ (hS1 XS) r l).trans (by congr 1; apply Fin.ext; show 7680 + l.val = 6144 + (128 * 12 + l.val); omega)
  | ⟨13, _⟩ => exact (blk_dq X XS (sTile1 XS) 128 7808 116#32 (by decide) (by decide) (by decide) _ (hS1 XS) r l).trans (by congr 1; apply Fin.ext; show 7808 + l.val = 6144 + (128 * 13 + l.val); omega)
  | ⟨14, _⟩ => exact (blk_dq X XS (sTile1 XS) 128 7936 120#32 (by decide) (by decide) (by decide) _ (hS1 XS) r l).trans (by congr 1; apply Fin.ext; show 7936 + l.val = 6144 + (128 * 14 + l.val); omega)
  | ⟨15, _⟩ => exact (blk_dq X XS (sTile1 XS) 128 8064 124#32 (by decide) (by decide) (by decide) _ (hS1 XS) r l).trans (by congr 1; apply Fin.ext; show 8064 + l.val = 6144 + (128 * 15 + l.val); omega)
  | ⟨n + 16, h⟩ => omega

theorem cols4_apply (X : Vec Ideal S1x128x10240 .fp8e4m3) (XS : Vec Ideal S1x128x320 .f32) (r : Fin 128) (j : Fin 16) (l : Fin 128) :
    cols4 X XS (ix2 r ⟨128 * j.val + l.val, by omega⟩) = dq X XS r ⟨8192 + (128 * j.val + l.val), by omega⟩ := by
  unfold cols4
  rw [cat16_apply]
  match j with
  | ⟨0, _⟩ => exact (blk_dq X XS (sTile2 XS) 256 8192 0#32 (by decide) (by decide) (by decide) _ (hS2 XS) r l).trans (by congr 1; apply Fin.ext; show 8192 + l.val = 8192 + (128 * 0 + l.val); omega)
  | ⟨1, _⟩ => exact (blk_dq X XS (sTile2 XS) 256 8320 4#32 (by decide) (by decide) (by decide) _ (hS2 XS) r l).trans (by congr 1; apply Fin.ext; show 8320 + l.val = 8192 + (128 * 1 + l.val); omega)
  | ⟨2, _⟩ => exact (blk_dq X XS (sTile2 XS) 256 8448 8#32 (by decide) (by decide) (by decide) _ (hS2 XS) r l).trans (by congr 1; apply Fin.ext; show 8448 + l.val = 8192 + (128 * 2 + l.val); omega)
  | ⟨3, _⟩ => exact (blk_dq X XS (sTile2 XS) 256 8576 12#32 (by decide) (by decide) (by decide) _ (hS2 XS) r l).trans (by congr 1; apply Fin.ext; show 8576 + l.val = 8192 + (128 * 3 + l.val); omega)
  | ⟨4, _⟩ => exact (blk_dq X XS (sTile2 XS) 256 8704 16#32 (by decide) (by decide) (by decide) _ (hS2 XS) r l).trans (by congr 1; apply Fin.ext; show 8704 + l.val = 8192 + (128 * 4 + l.val); omega)
  | ⟨5, _⟩ => exact (blk_dq X XS (sTile2 XS) 256 8832 20#32 (by decide) (by decide) (by decide) _ (hS2 XS) r l).trans (by congr 1; apply Fin.ext; show 8832 + l.val = 8192 + (128 * 5 + l.val); omega)
  | ⟨6, _⟩ => exact (blk_dq X XS (sTile2 XS) 256 8960 24#32 (by decide) (by decide) (by decide) _ (hS2 XS) r l).trans (by congr 1; apply Fin.ext; show 8960 + l.val = 8192 + (128 * 6 + l.val); omega)
  | ⟨7, _⟩ => exact (blk_dq X XS (sTile2 XS) 256 9088 28#32 (by decide) (by decide) (by decide) _ (hS2 XS) r l).trans (by congr 1; apply Fin.ext; show 9088 + l.val = 8192 + (128 * 7 + l.val); omega)
  | ⟨8, _⟩ => exact (blk_dq X XS (sTile2 XS) 256 9216 32#32 (by decide) (by decide) (by decide) _ (hS2 XS) r l).trans (by congr 1; apply Fin.ext; show 9216 + l.val = 8192 + (128 * 8 + l.val); omega)
  | ⟨9, _⟩ => exact (blk_dq X XS (sTile2 XS) 256 9344 36#32 (by decide) (by decide) (by decide) _ (hS2 XS) r l).trans (by congr 1; apply Fin.ext; show 9344 + l.val = 8192 + (128 * 9 + l.val); omega)
  | ⟨10, _⟩ => exact (blk_dq X XS (sTile2 XS) 256 9472 40#32 (by decide) (by decide) (by decide) _ (hS2 XS) r l).trans (by congr 1; apply Fin.ext; show 9472 + l.val = 8192 + (128 * 10 + l.val); omega)
  | ⟨11, _⟩ => exact (blk_dq X XS (sTile2 XS) 256 9600 44#32 (by decide) (by decide) (by decide) _ (hS2 XS) r l).trans (by congr 1; apply Fin.ext; show 9600 + l.val = 8192 + (128 * 11 + l.val); omega)
  | ⟨12, _⟩ => exact (blk_dq X XS (sTile2 XS) 256 9728 48#32 (by decide) (by decide) (by decide) _ (hS2 XS) r l).trans (by congr 1; apply Fin.ext; show 9728 + l.val = 8192 + (128 * 12 + l.val); omega)
  | ⟨13, _⟩ => exact (blk_dq X XS (sTile2 XS) 256 9856 52#32 (by decide) (by decide) (by decide) _ (hS2 XS) r l).trans (by congr 1; apply Fin.ext; show 9856 + l.val = 8192 + (128 * 13 + l.val); omega)
  | ⟨14, _⟩ => exact (blk_dq X XS (sTile2 XS) 256 9984 56#32 (by decide) (by decide) (by decide) _ (hS2 XS) r l).trans (by congr 1; apply Fin.ext; show 9984 + l.val = 8192 + (128 * 14 + l.val); omega)
  | ⟨15, _⟩ => exact (blk_dq X XS (sTile2 XS) 256 10112 60#32 (by decide) (by decide) (by decide) _ (hS2 XS) r l).trans (by congr 1; apply Fin.ext; show 10112 + l.val = 8192 + (128 * 15 + l.val); omega)
  | ⟨n + 16, h⟩ => omega

/-- A chunk's column at any place of the chunk. -/
theorem cols0_at (X : Vec Ideal S1x128x10240 .fp8e4m3) (XS : Vec Ideal S1x128x320 .f32) (r : Fin 128) (k : Fin 2048) :
    cols0 X XS (ix2 r k) = dq X XS r ⟨0 + k.val, by omega⟩ := by
  have h := cols0_apply X XS r ⟨k.val / 128, by omega⟩ ⟨k.val % 128, by omega⟩
  have e : 128 * (k.val / 128) + k.val % 128 = k.val := by omega
  simp only [e] at h
  exact h
theorem cols1_at (X : Vec Ideal S1x128x10240 .fp8e4m3) (XS : Vec Ideal S1x128x320 .f32) (r : Fin 128) (k : Fin 2048) :
    cols1 X XS (ix2 r k) = dq X XS r ⟨2048 + k.val, by omega⟩ := by
  have h := cols1_apply X XS r ⟨k.val / 128, by omega⟩ ⟨k.val % 128, by omega⟩
  have e : 128 * (k.val / 128) + k.val % 128 = k.val := by omega
  simp only [e] at h
  exact h
theorem cols2_at (X : Vec Ideal S1x128x10240 .fp8e4m3) (XS : Vec Ideal S1x128x320 .f32) (r : Fin 128) (k : Fin 2048) :
    cols2 X XS (ix2 r k) = dq X XS r ⟨4096 + k.val, by omega⟩ := by
  have h := cols2_apply X XS r ⟨k.val / 128, by omega⟩ ⟨k.val % 128, by omega⟩
  have e : 128 * (k.val / 128) + k.val % 128 = k.val := by omega
  simp only [e] at h
  exact h
theorem cols3_at (X : Vec Ideal S1x128x10240 .fp8e4m3) (XS : Vec Ideal S1x128x320 .f32) (r : Fin 128) (k : Fin 2048) :
    cols3 X XS (ix2 r k) = dq X XS r ⟨6144 + k.val, by omega⟩ := by
  have h := cols3_apply X XS r ⟨k.val / 128, by omega⟩ ⟨k.val % 128, by omega⟩
  have e : 128 * (k.val / 128) + k.val % 128 = k.val := by omega
  simp only [e] at h
  exact h
theorem cols4_at (X : Vec Ideal S1x128x10240 .fp8e4m3) (XS : Vec Ideal S1x128x320 .f32) (r : Fin 128) (k : Fin 2048) :
    cols4 X XS (ix2 r k) = dq X XS r ⟨8192 + k.val, by omega⟩ := by
  have h := cols4_apply X XS r ⟨k.val / 128, by omega⟩ ⟨k.val % 128, by omega⟩
  have e : 128 * (k.val / 128) + k.val % 128 = k.val := by omega
  simp only [e] at h
  exact h

/-- A load of 2048 rows of the weights, element by element. -/
theorem ldW_apply (W : Vec Ideal S10240x384 .fp8e4m3) (o : ℕ) (inb) (k : Fin 2048) (q : Fin 384) (h : o + k.val < 10240) :
    ldW W ![o, 0] inb (ix2 k q) = W (ix2 ⟨o + k.val, h⟩ q) := by
  unfold ldW
  congr 1
  funext a
  apply Fin.ext
  match a with
  | ⟨0, _⟩ => show o + 1 * k.val = o + k.val; omega
  | ⟨1, _⟩ => show 0 + 1 * q.val = q.val; omega

theorem chunkOf_apply (acc : FVec Ideal S128x384 .f32) (D : FVec Ideal S128x2048 .bf16) (W : Vec Ideal S2048x384 .fp8e4m3) (r : Fin 128) (q : Fin 384) :
    chunkOf acc D W (ix2 r q) = acc (ix2 r q) + ∑ k : Fin 2048, D (ix2 r k) * W (ix2 k q) := by
  unfold chunkOf
  pointwise

/-- A sum over all columns, chunk by chunk. -/
theorem sum_chunks (f : Fin 10240 → EReal) :
    ∑ k, f k = ((((∑ k : Fin 2048, f ⟨0 + k.val, by omega⟩) + ∑ k : Fin 2048, f ⟨2048 + k.val, by omega⟩) + ∑ k : Fin 2048, f ⟨4096 + k.val, by omega⟩)
      + ∑ k : Fin 2048, f ⟨6144 + k.val, by omega⟩) + ∑ k : Fin 2048, f ⟨8192 + k.val, by omega⟩ := by
  have h : ∑ k, f k = ∑ c : Fin 5, ∑ k : Fin 2048, f ⟨2048 * c.val + k.val, by omega⟩ := by
    rw [← Fintype.sum_prod_type']
    refine (Fintype.sum_equiv (finProdFinEquiv (m := 5) (n := 2048)) _ _ fun x => ?_).symm
    congr 1
    apply Fin.ext
    show 2048 * x.1.val + x.2.val = x.2.val + 2048 * x.1.val
    omega
  rw [h, Fin.sum_univ_five]
  rfl

/-- The tile's sums of products, element by element. -/
theorem accOf_apply (X : Vec Ideal S1x128x10240 .fp8e4m3) (XS : Vec Ideal S1x128x320 .f32) (W : Vec Ideal S10240x384 .fp8e4m3) (r : Fin 128) (q : Fin 384) :
    accOf X XS W (ix2 r q) = ∑ k : Fin 10240, dq X XS r k * W (ix2 k q) := by
  rw [sum_chunks]
  unfold accOf
  simp only [chunkOf_apply, cols0_at, cols1_at, cols2_at, cols3_at, cols4_at]
  have h0 : (k0_pay14 (F := Ideal)) (ix2 r q) = 0 := by
    unfold k0_pay14
    pointwise
  rw [h0, zero_add]
  refine congrArg₂ (· + ·) (congrArg₂ (· + ·) (congrArg₂ (· + ·) (congrArg₂ (· + ·) ?_ ?_) ?_) ?_) ?_ <;>
  · refine Finset.sum_congr rfl fun k _ => ?_
    rw [ldW_apply]

/-- The tile's features, element by element. -/
theorem rawOf_apply (X : Vec Ideal S1x128x10240 .fp8e4m3) (XS : Vec Ideal S1x128x320 .f32) (W : Vec Ideal S10240x384 .fp8e4m3) (WS BS : Vec Ideal S1x384 .f32) (r : Fin 128) (q : Fin 384) :
    rawOf X XS W WS BS (ix2 r q) = max ((∑ k : Fin 10240, dq X XS r k * W (ix2 k q)) * WS (ix2 0 q) + BS (ix2 0 q)) 0 := by
  rw [← accOf_apply]
  unfold rawOf ldS
  pointwise

theorem hOf_apply (X : Vec Ideal S1x128x10240 .fp8e4m3) (XS : Vec Ideal S1x128x320 .f32) (W : Vec Ideal S10240x384 .fp8e4m3) (WS BS : Vec Ideal S1x384 .f32) (r : Fin 128) (q : Fin 384) :
    hOf X XS W WS BS (ix2 r q) = max ((∑ k : Fin 10240, dq X XS r k * W (ix2 k q)) * WS (ix2 0 q) + BS (ix2 0 q)) 0 := by
  rw [← rawOf_apply]
  unfold hOf k0_pay1
  pointwise

theorem pfOf_apply (X : Vec Ideal S1x128x10240 .fp8e4m3) (XS : Vec Ideal S1x128x320 .f32) (W : Vec Ideal S10240x384 .fp8e4m3) (WS BS : Vec Ideal S1x384 .f32) (r : Fin 128) (q : Fin 384) :
    pfOf X XS W WS BS (ix3 0 r q) = max ((∑ k : Fin 10240, dq X XS r k * W (ix2 k q)) * WS (ix2 0 q) + BS (ix2 0 q)) 0 := by
  rw [← rawOf_apply]
  unfold pfOf
  pointwise

end Cert.KernelIdeal.Hand
-- ==== Proof.Spec.lean ====
/- The problem's mathematics in plain terms over the extended reals: what the kernel and the reference are both shown to compute. -/
module

public import Idealize.ShloMosaic.Lib.Pointwise

@[expose] public section

noncomputable section

namespace Cert.Spec

open Idealize.ShloMosaic

/-- The feature `q` of point `n` of batch `b`: the point's dequantized row times the weights' column, times the column's scale, plus its
    bias, not below zero. -/
def feat (x : FVec Ideal ⟨3, ![3, 640, 10240]⟩ .fp8e4m3) (xs : FVec Ideal ⟨3, ![3, 640, 320]⟩ .f32) (w : FVec Ideal ⟨2, ![10240, 384]⟩ .fp8e4m3)
    (ws bs : FVec Ideal ⟨1, ![384]⟩ .f32) (b : Fin 3) (n : Fin 640) (q : Fin 384) : EReal :=
  max ((∑ k : Fin 10240, x (ix3 b n k) * xs (ix3 b n ⟨k.val / 32, by omega⟩) * w (ix2 k q)) * ws (ix1 q) + bs (ix1 q)) 0

/-- The points of batch `b` in voxel `v`. -/
def members (ids : IVec ⟨2, ![3, 640]⟩ 32) (b : Fin 3) (v : Fin 200) : Finset (Fin 640) :=
  Finset.univ.filter fun n => ids (ix2 b n) = BitVec.ofNat 32 v.val

/-- How many points of batch `b` are in voxel `v`. -/
def count (ids : IVec ⟨2, ![3, 640]⟩ 32) (b : Fin 3) (v : Fin 200) : BitVec 32 := BitVec.ofNat 32 (members ids b v).card

/-- The voxel's feature: the greatest of its points', and zero where it has none. -/
def vox (f : Fin 640 → EReal) (S : Finset (Fin 640)) : EReal := S.sup f ⊔ 0

end Cert.Spec
-- ==== Proof.KernelIdealFeat.lean ====
/- The tile's features in terms of the program's arguments: the blocks the windows hand to a point are slices of the arguments. -/
module

public import proofs.«01_k».proof.Proof.KernelIdealRun
public import proofs.«01_k».proof.Proof.KernelIdealTileVal
public import proofs.«01_k».proof.Proof.Spec
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe

variable (m : (ℓ : Loc nD τ sig) → Buf (Elt Ideal) ℓ)

/-- The specification's feature at this program's arguments. -/
def featM (c : Dev nD) (b : Fin 3) (n : Fin 640) (q : Fin 384) : EReal :=
  Cert.Spec.feat (m ((c : Thread nD τ).loc main_arg0)) (m ((c : Thread nD τ).loc main_arg1)) (m ((c : Thread nD τ).loc main_arg2))
    (m ((c : Thread nD τ).loc main_arg3)) (m ((c : Thread nD τ).loc main_arg4)) b n q

theorem ofNat_lt (n : ℕ) (h : n < 100) : (BitVec.ofNat 32 n).toNat = n := by
  rw [BitVec.toNat_ofNat]; omega

theorem iblk1_apply (c : Dev nD) (t : Fin cfg0.N) (r : Fin 128) (k : Fin 10240) (hb : t.val / 5 < 3) (hn : 128 * (t.val % 5) + r.val < 640) :
    iblk m c 1 t (ix3 0 r k) = m ((c : Thread nD τ).loc main_arg0) (ix3 ⟨t.val / 5, hb⟩ ⟨128 * (t.val % 5) + r.val, hn⟩ k) := by
  obtain ⟨h0, h1⟩ := coords_eq t
  show V m c main_arg0 (((cfg0.win 1).blk t).view.emb (ix3 0 r k)) = _
  rw [V_main_arg0]
  congr 1
  funext a
  refine Fin.ext ?_
  match a with
  | ⟨0, _⟩ => show (BitVec.ofNat 32 (grid0.coords t 0).val).toNat * 1 + 1 * 0 = t.val / 5; rw [ofNat_lt _ (by omega)]; omega
  | ⟨1, _⟩ => show (BitVec.ofNat 32 (grid0.coords t 1).val).toNat * 128 + 1 * r.val = 128 * (t.val % 5) + r.val; rw [ofNat_lt _ (by omega)]; omega
  | ⟨2, _⟩ => show 0 * 10240 + 1 * k.val = k.val; omega

theorem iblk2_apply (c : Dev nD) (t : Fin cfg0.N) (r : Fin 128) (k : Fin 320) (hb : t.val / 5 < 3) (hn : 128 * (t.val % 5) + r.val < 640) :
    iblk m c 2 t (ix3 0 r k) = m ((c : Thread nD τ).loc main_arg1) (ix3 ⟨t.val / 5, hb⟩ ⟨128 * (t.val % 5) + r.val, hn⟩ k) := by
  obtain ⟨h0, h1⟩ := coords_eq t
  show V m c main_arg1 (((cfg0.win 2).blk t).view.emb (ix3 0 r k)) = _
  rw [V_main_arg1]
  congr 1
  funext a
  refine Fin.ext ?_
  match a with
  | ⟨0, _⟩ => show (BitVec.ofNat 32 (grid0.coords t 0).val).toNat * 1 + 1 * 0 = t.val / 5; rw [ofNat_lt _ (by omega)]; omega
  | ⟨1, _⟩ => show (BitVec.ofNat 32 (grid0.coords t 1).val).toNat * 128 + 1 * r.val = 128 * (t.val % 5) + r.val; rw [ofNat_lt _ (by omega)]; omega
  | ⟨2, _⟩ => show 0 * 320 + 1 * k.val = k.val; omega

theorem iblk3_apply (c : Dev nD) (t : Fin cfg0.N) (k : Fin 10240) (q : Fin 384) :
    iblk m c 3 t (ix2 k q) = m ((c : Thread nD τ).loc main_arg2) (ix2 k q) := by
  show V m c main_arg2 (((cfg0.win 3).blk t).view.emb (ix2 k q)) = _
  rw [V_main_arg2]
  congr 1
  funext a
  refine Fin.ext ?_
  match a with
  | ⟨0, _⟩ => show 0 * 10240 + 1 * k.val = k.val; omega
  | ⟨1, _⟩ => show 0 * 384 + 1 * q.val = q.val; omega

theorem iblk4_apply (c : Dev nD) (t : Fin cfg0.N) (q : Fin 384) :
    iblk m c 4 t (ix2 0 q) = m ((c : Thread nD τ).loc main_arg3) (ix1 q) := by
  have e : (((cfg0.win 4).blk t).view.emb (ix2 0 q)) = ix2 (0 : Fin 1) q := by
    funext a
    refine Fin.ext ?_
    match a with
    | ⟨0, _⟩ => rfl
    | ⟨1, _⟩ => show 0 * 384 + 1 * q.val = q.val; omega
  show V m c main_v0 (((cfg0.win 4).blk t).view.emb (ix2 0 q)) = _
  rw [e]
  entry_read
  pointwise

theorem iblk5_apply (c : Dev nD) (t : Fin cfg0.N) (q : Fin 384) :
    iblk m c 5 t (ix2 0 q) = m ((c : Thread nD τ).loc main_arg4) (ix1 q) := by
  have e : (((cfg0.win 5).blk t).view.emb (ix2 0 q)) = ix2 (0 : Fin 1) q := by
    funext a
    refine Fin.ext ?_
    match a with
    | ⟨0, _⟩ => rfl
    | ⟨1, _⟩ => show 0 * 384 + 1 * q.val = q.val; omega
  show V m c main_v1 (((cfg0.win 5).blk t).view.emb (ix2 0 q)) = _
  rw [e]
  entry_read
  pointwise

/-- What the features of a tile come to, whatever names them. -/
theorem tile_feat (c : Dev nD) (t : Fin cfg0.N) (r : Fin 128) (q : Fin 384) (hb : t.val / 5 < 3) (hn : 128 * (t.val % 5) + r.val < 640) :
    max ((∑ k : Fin 10240, dq (iblk m c 1 t) (iblk m c 2 t) r k * (iblk m c 3 t : Vec Ideal S10240x384 .fp8e4m3) (ix2 k q)) * (iblk m c 4 t : Vec Ideal S1x384 .f32) (ix2 0 q)
      + (iblk m c 5 t : Vec Ideal S1x384 .f32) (ix2 0 q)) 0 = featM m c ⟨t.val / 5, hb⟩ ⟨128 * (t.val % 5) + r.val, hn⟩ q := by
  rw [iblk4_apply, iblk5_apply]
  unfold featM Cert.Spec.feat dq
  refine congrArg₂ max (congrArg₂ (· + ·) (congrArg₂ (· * ·) (Finset.sum_congr rfl fun k _ => ?_) rfl) rfl) rfl
  rw [iblk1_apply m c t r k hb hn, iblk2_apply m c t r _ hb hn, iblk3_apply]

theorem hT_apply (c : Dev nD) (t : Fin cfg0.N) (r : Fin 128) (q : Fin 384) (hb : t.val / 5 < 3) (hn : 128 * (t.val % 5) + r.val < 640) :
    hT m c t (ix2 r q) = featM m c ⟨t.val / 5, hb⟩ ⟨128 * (t.val % 5) + r.val, hn⟩ q :=
  (hOf_apply _ _ _ _ _ r q).trans (tile_feat m c t r q hb hn)

theorem pfT_apply (c : Dev nD) (t : Fin cfg0.N) (r : Fin 128) (q : Fin 384) (hb : t.val / 5 < 3) (hn : 128 * (t.val % 5) + r.val < 640) :
    pfT m c t (ix3 0 r q) = featM m c ⟨t.val / 5, hb⟩ ⟨128 * (t.val % 5) + r.val, hn⟩ q :=
  (pfOf_apply _ _ _ _ _ r q).trans (tile_feat m c t r q hb hn)

/-- The features of point `n` of batch `b`. -/
theorem hB_apply (c : Dev nD) (b : Fin 3) (n : Fin 640) (q : Fin 384) : hB m c b.val n.val q = featM m c b n q := by
  have hb := b.isLt
  have hn := n.isLt
  have ht : (pt (5 * b.val + n.val / 128)).val = 5 * b.val + n.val / 128 := by
    show (5 * b.val + n.val / 128) % 15 = _
    omega
  show hT m c (pt (5 * b.val + n.val / 128)) (ix2 (⟨(n.val % 128) % 128, _⟩ : Fin 128) q) = _
  rw [hT_apply m c _ _ q (by omega) (by show 128 * ((pt (5 * b.val + n.val / 128)).val % 5) + (n.val % 128) % 128 < 640; omega)]
  congr 1
  · apply Fin.ext
    show (pt (5 * b.val + n.val / 128)).val / 5 = b.val
    omega
  · apply Fin.ext
    show 128 * ((pt (5 * b.val + n.val / 128)).val % 5) + (n.val % 128) % 128 = n.val
    omega

end Cert.KernelIdeal.Hand
-- ==== Proof.KernelIdealVox.lean ====
/- The counts and the running maxima read as the specification's count and maximum. -/
module

public import proofs.«01_k».proof.Proof.KernelIdealFeat

@[expose] public section

set_option maxRecDepth 16384

noncomputable section

namespace Cert.KernelIdeal.Hand

open Cert.KernelIdeal Cert.KernelIdeal.Gen
open Idealize.ShloMosaic Idealize.ShloMosaic.TcCoe

variable (m : (ℓ : Loc nD τ sig) → Buf (Elt Ideal) ℓ)

/-- A point's row is voxel `v`'s exactly when its id is `v`. -/
theorem slotOf_eq_iff (i : BitVec 32) (v : ℕ) (hv : v < 200) : slotOf i = v ↔ i = BitVec.ofNat 32 v := by
  by_cases h : counted i = true
  · rw [slotOf_of_counted h]
    constructor
    · intro e
      apply BitVec.eq_of_toNat_eq
      rw [BitVec.toNat_ofNat, e]
      omega
    · intro e
      rw [e, BitVec.toNat_ofNat]
      omega
  · rw [slotOf_of_not_counted h]
    constructor
    · intro e; omega
    · intro e
      refine absurd ((counted_iff i).2 ?_) h
      rw [e, BitVec.toInt_eq_toNat_of_lt (by rw [BitVec.toNat_ofNat]; omega)]
      exact Int.natCast_nonneg _

/-- A point counts at `v` exactly when its id is `v`. -/
theorem counted_eq_iff (i : BitVec 32) (v : ℕ) (hv : v < 200) : (counted i = true ∧ v = i.toNat) ↔ i = BitVec.ofNat 32 v := by
  rw [← slotOf_eq_iff i v hv]
  constructor
  · rintro ⟨h, e⟩
    rw [slotOf_of_counted h, e]
  · intro e
    by_cases h : counted i = true
    · exact ⟨h, by rw [slotOf_of_counted h] at e; exact e.symm⟩
    · rw [slotOf_of_not_counted h] at e; omega

/-- The counts after `n` points. -/
theorem cntN_apply (b v : ℕ) (hb : b < 3) (hv : v < 200) (idr : ℕ → BitVec 32) (n : ℕ) :
    cntN (F := Ideal) b (fun _ => 0#32) idr n (ix2 ⟨b, hb⟩ ⟨v, hv⟩)
      = BitVec.ofNat 32 (∑ r ∈ Finset.range n, if idr r = BitVec.ofNat 32 v then 1 else 0) := by
  induction n with
  | zero => rfl
  | succ n ih =>
    rw [Finset.sum_range_succ]
    show (if counted (idr n) = true ∧ b = b ∧ v = (idr n).toNat then
      Scalar.addi (cntN (F := Ideal) b (fun _ => 0#32) idr n (ix2 ⟨b, hb⟩ ⟨v, hv⟩)) 1#32 else cntN (F := Ideal) b (fun _ => 0#32) idr n (ix2 ⟨b, hb⟩ ⟨v, hv⟩)) = _
    by_cases h : idr n = BitVec.ofNat 32 v
    · rw [if_pos h, if_pos (by obtain ⟨h1, h2⟩ := (counted_eq_iff _ v hv).2 h; exact ⟨h1, rfl, h2⟩), ih]
      exact BitVec.ofNat_add_ofNat _ _
    · rw [if_neg h, if_neg (fun hc => h ((counted_eq_iff _ v hv).1 ⟨hc.1, hc.2.2⟩)), ih, Nat.add_zero]

/-- A batch's counts, all of its points counted. -/
theorem cntV_apply (c : Dev nD) (b : Fin 3) (v : Fin 200) :
    cntV (F := Ideal) (IDS m c) b.val 640 (ix2 b v) = Cert.Spec.count (m ((c : Thread nD τ).loc main_arg5)) b v := by
  refine (cntN_apply b.val v.val b.isLt v.isLt _ 640).trans ?_
  unfold Cert.Spec.count Cert.Spec.members
  rw [Finset.card_filter, Finset.sum_range]
  refine congrArg (BitVec.ofNat 32) (Finset.sum_congr rfl fun n _ => ?_)
  have e : idOf (F := Ideal) (IDS m c) b.val n.val = m ((c : Thread nD τ).loc main_arg5) (ix2 b n) := by
    have hb := b.isLt
    have hn := n.isLt
    show m ((c : Thread nD τ).loc main_arg5) (ix2 ⟨b.val % 3, _⟩ ⟨n.val % 640, _⟩) = _
    congr 2
    · exact Fin.ext (Nat.mod_eq_of_lt hb)
    · exact Fin.ext (Nat.mod_eq_of_lt hn)
  rw [e]

/-- The running maxima are bounded by any bound of the points folded in that is not negative. -/
theorem vacN_le (hh : ℕ → Fin 384 → EReal) (idr : ℕ → BitVec 32) (u : Fin 8) (s : Fin 208) (q : Fin 384) (B : EReal) (h0 : 0 ≤ B) (n : ℕ)
    (hB : ∀ r < n, slotOf (idr r) = s.val → hh r q ≤ B) : vacN (F := Ideal) (k0_pay13 (F := Ideal)) hh idr n (ix3 u s q) ≤ B := by
  induction n with
  | zero =>
    have e : (k0_pay13 (F := Ideal)) (ix3 u s q) = 0 := by
      unfold k0_pay13
      pointwise
    exact e.le.trans h0
  | succ n ih =>
    show (if u.val = n % 8 ∧ s.val = slotOf (idr n) then max (vacN (F := Ideal) (k0_pay13 (F := Ideal)) hh idr n (ix3 u s q)) (hh n q) else vacN (F := Ideal) (k0_pay13 (F := Ideal)) hh idr n (ix3 u s q)) ≤ B
    have hi := ih fun r hr => hB r (by omega)
    split
    · rename_i h
      exact max_le hi (hB n (by omega) h.2.symm)
    · exact hi

/-- They only grow. -/
theorem vacN_mono (hh : ℕ → Fin 384 → EReal) (idr : ℕ → BitVec 32) (u : Fin 8) (s : Fin 208) (q : Fin 384) (n : ℕ) :
    vacN (F := Ideal) (k0_pay13 (F := Ideal)) hh idr n (ix3 u s q) ≤ vacN (F := Ideal) (k0_pay13 (F := Ideal)) hh idr (n + 1) (ix3 u s q) := by
  show _ ≤ (if u.val = n % 8 ∧ s.val = slotOf (idr n) then max (vacN (F := Ideal) (k0_pay13 (F := Ideal)) hh idr n (ix3 u s q)) (hh n q) else vacN (F := Ideal) (k0_pay13 (F := Ideal)) hh idr n (ix3 u s q))
  split
  · exact le_max_left _ _
  · exact le_rfl

theorem vacN_nonneg (hh : ℕ → Fin 384 → EReal) (idr : ℕ → BitVec 32) (u : Fin 8) (s : Fin 208) (q : Fin 384) (n : ℕ) :
    0 ≤ vacN (F := Ideal) (k0_pay13 (F := Ideal)) hh idr n (ix3 u s q) := by
  induction n with
  | zero =>
    have e : (k0_pay13 (F := Ideal)) (ix3 u s q) = 0 := by
      unfold k0_pay13
      pointwise
    exact e.ge
  | succ n ih => exact ih.trans (vacN_mono hh idr u s q n)

/-- Every point folded in is below its copy's maximum. -/
theorem le_vacN (hh : ℕ → Fin 384 → EReal) (idr : ℕ → BitVec 32) (s : Fin 208) (q : Fin 384) (r n : ℕ) (hr : r < n) (hs : slotOf (idr r) = s.val) :
    hh r q ≤ vacN (F := Ideal) (k0_pay13 (F := Ideal)) hh idr n (ix3 ⟨r % 8, Nat.mod_lt _ (by decide)⟩ s q) := by
  induction n with
  | zero => omega
  | succ n ih =>
    by_cases h : r < n
    · exact (ih h).trans (vacN_mono hh idr _ s q n)
    · have e : r = n := by omega
      subst e
      show _ ≤ (if r % 8 = r % 8 ∧ s.val = slotOf (idr r) then max _ (hh r q) else _)
      rw [if_pos ⟨rfl, hs.symm⟩]
      exact le_max_right _ _

/-- The eight copies' maxima put together. -/
theorem voxOf_apply (V : Vec Ideal S8x208x384 .f32) (v : Fin 200) (q : Fin 384) :
    voxOf V (ix3 0 v q) = max (max (max (max (max (max (max (V (ix3 0 ⟨v.val, by omega⟩ q)) (V (ix3 1 ⟨v.val, by omega⟩ q))) (V (ix3 2 ⟨v.val, by omega⟩ q)))
      (V (ix3 3 ⟨v.val, by omega⟩ q))) (V (ix3 4 ⟨v.val, by omega⟩ q))) (V (ix3 5 ⟨v.val, by omega⟩ q))) (V (ix3 6 ⟨v.val, by omega⟩ q))) (V (ix3 7 ⟨v.val, by omega⟩ q)) := by
  unfold voxOf k0_pay4 planeOf
  pointwise

theorem le_voxOf (V : Vec Ideal S8x208x384 .f32) (u : Fin 8) (v : Fin 200) (q : Fin 384) : V (ix3 u ⟨v.val, by omega⟩ q) ≤ voxOf V (ix3 0 v q) := by
  rw [voxOf_apply]
  match u with
  | ⟨0, _⟩ => simp only [le_max_iff]; exact .inl (.inl (.inl (.inl (.inl (.inl (.inl le_rfl))))))
  | ⟨1, _⟩ => simp only [le_max_iff]; exact .inl (.inl (.inl (.inl (.inl (.inl (.inr le_rfl))))))
  | ⟨2, _⟩ => simp only [le_max_iff]; exact .inl (.inl (.inl (.inl (.inl (.inr le_rfl)))))
  | ⟨3, _⟩ => simp only [le_max_iff]; exact .inl (.inl (.inl (.inl (.inr le_rfl))))
  | ⟨4, _⟩ => simp only [le_max_iff]; exact .inl (.inl (.inl (.inr le_rfl)))
  | ⟨5, _⟩ => simp only [le_max_iff]; exact .inl (.inl (.inr le_rfl))
  | ⟨6, _⟩ => simp only [le_max_iff]; exact .inl (.inr le_rfl)
  | ⟨7, _⟩ => simp only [le_max_iff]; exact .inr le_rfl
  | ⟨n + 8, h⟩ => omega

/-- A batch's voxel features. -/
theorem vox_apply (c : Dev nD) (b : Fin 3) (v : Fin 200) (q : Fin 384) :
    voxOf (vacB m c b.val 640) (ix3 0 v q)
      = Cert.Spec.vox (fun n => featM m c b n q) (Cert.Spec.members (m ((c : Thread nD τ).loc main_arg5)) b v) := by
  have hb := b.isLt
  have e : ∀ n : Fin 640, idOf (F := Ideal) (IDS m c) b.val n.val = m ((c : Thread nD τ).loc main_arg5) (ix2 b n) := by
    intro n
    have hn := n.isLt
    show m ((c : Thread nD τ).loc main_arg5) (ix2 ⟨b.val % 3, _⟩ ⟨n.val % 640, _⟩) = _
    congr 2
    · exact Fin.ext (Nat.mod_eq_of_lt hb)
    · exact Fin.ext (Nat.mod_eq_of_lt hn)
  have hmem : ∀ n : Fin 640, n ∈ Cert.Spec.members (m ((c : Thread nD τ).loc main_arg5)) b v ↔ slotOf (idOf (F := Ideal) (IDS m c) b.val n.val) = v.val := by
    intro n
    unfold Cert.Spec.members
    rw [slotOf_eq_iff _ _ v.isLt, e n]
    simp
  apply le_antisymm
  · have hl : ∀ u : Fin 8, vacB m c b.val 640 (ix3 u ⟨v.val, by omega⟩ q) ≤ Cert.Spec.vox (fun n => featM m c b n q) (Cert.Spec.members (m ((c : Thread nD τ).loc main_arg5)) b v) := by
      intro u
      refine vacN_le _ _ u _ q _ le_sup_right 640 fun r hr hs => ?_
      have h := (hmem ⟨r, hr⟩).2 hs
      refine (hB_apply m c b ⟨r, hr⟩ q).le.trans (le_trans ?_ le_sup_left)
      exact Finset.le_sup (f := fun n => featM m c b n q) h
    rw [voxOf_apply]
    exact max_le (max_le (max_le (max_le (max_le (max_le (max_le (hl 0) (hl 1)) (hl 2)) (hl 3)) (hl 4)) (hl 5)) (hl 6)) (hl 7)
  · refine sup_le (Finset.sup_le fun n hn => ?_) ?_
    · have h := le_vacN (hB m c b.val) (idOf (F := Ideal) (IDS m c) b.val) ⟨v.val, by omega⟩ q n.val 640 n.isLt ((hmem n).1 hn)
      exact ((hB_apply m c b n q).ge.trans h).trans (le_voxOf (vacB m c b.val 640) _ v q)
    · exact (vacN_nonneg (hB m c b.val) (idOf (F := Ideal) (IDS m c) b.val) 0 ⟨v.val, by omega⟩ q 640).trans (le_voxOf (vacB m c b.val 640) 0 v q)

end Cert.KernelIdeal.Hand
-- ==== Proof.KernelIdealOut.lean ====
/- The three result arrays after the kernel's run, as the specification's functions of the arguments. -/
module

public import proofs.«01_k».proof.Proof.KernelIdealVox

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Pipeline
open Idealize.SL Idealize.SL.RA Idealize.SL.Sem

variable (m : (ℓ : Loc nD τ sig) → Buf (Elt Ideal) ℓ) (ρ : Dev nD → PrngReg)

/-- The voxel features. -/
def vox0 (c : Dev nD) : Buf (Elt Ideal) ((c.tc : Thread nD τ).loc main_v2_0) :=
  fun y : S3x200x384.Idx => Cert.Spec.vox (fun n => featM m c (y 0) n (y 2)) (Cert.Spec.members (m ((c : Thread nD τ).loc main_arg5)) (y 0) (y 1))

/-- The counts. -/
def cnt1 (c : Dev nD) : Buf (Elt Ideal) ((c.tc : Thread nD τ).loc main_v2_1) :=
  fun y : S3x200.Idx => Cert.Spec.count (m ((c : Thread nD τ).loc main_arg5)) (y 0) (y 1)

/-- The point features. -/
def pf2 (c : Dev nD) : Buf (Elt Ideal) ((c.tc : Thread nD τ).loc main_v2_2) :=
  fun y : S3x640x384.Idx => featM m c (y 0) (y 1) (y 2)

theorem out6 (c : Dev nD) (dat : Dat τ (Elt Ideal) Unit ℕ (UR sig nD τ) ℕ cfg0 c)
    (h : ∀ t : Fin cfg0.N, (cfg0.win 6).flush t = true → dat.after 6 t = voxOf (vacB m c (t.val / 5) 640)) : dat.arrAt 6 cfg0.N = vox0 m c := by
  refine dat.arrAt_eq_of_covers 6 _ (by decide +kernel) fun t hf y => ?_
  obtain ⟨h0, h1⟩ := coords_eq t
  rw [h t hf]
  blk_simp
  obtain ⟨a, v, q, rfl⟩ : ∃ (a : Fin 1) (v : Fin 200) (q : Fin 384), y = ix3 a v q := ⟨y 0, y 1, y 2, eq_ix3 (n0 := 1) (n1 := 200) (n2 := 384) y⟩
  obtain rfl : a = 0 := Subsingleton.elim _ _
  have hN : t.val < 15 := t.isLt
  have e : (win0_6.blk t).view.emb (ix3 (0 : Fin 1) v q) = ix3 (⟨t.val / 5, by omega⟩ : Fin 3) v q := by
    funext a
    refine Fin.ext ?_
    match a with
    | ⟨0, _⟩ => show (BitVec.ofNat 32 (grid0.coords t 0).val).toNat * 1 + 1 * 0 = t.val / 5; rw [ofNat_lt _ (by omega)]; omega
    | ⟨1, _⟩ => show 0 * 200 + 1 * v.val = v.val; omega
    | ⟨2, _⟩ => show 0 * 384 + 1 * q.val = q.val; omega
  rw [e]
  exact vox_apply m c ⟨t.val / 5, by omega⟩ v q

theorem out8 (c : Dev nD) (dat : Dat τ (Elt Ideal) Unit ℕ (UR sig nD τ) ℕ cfg0 c)
    (h : ∀ t : Fin cfg0.N, dat.after 8 t = pfT m c t) : dat.arrAt 8 cfg0.N = pf2 m c := by
  refine dat.arrAt_eq_of_covers 8 _ (by decide +kernel) fun t hf y => ?_
  obtain ⟨h0, h1⟩ := coords_eq t
  rw [h t]
  blk_simp
  obtain ⟨a, r, q, rfl⟩ : ∃ (a : Fin 1) (r : Fin 128) (q : Fin 384), y = ix3 a r q := ⟨y 0, y 1, y 2, eq_ix3 (n0 := 1) (n1 := 128) (n2 := 384) y⟩
  obtain rfl : a = 0 := Subsingleton.elim _ _
  have hN : t.val < 15 := t.isLt
  have e : (win0_8.blk t).view.emb (ix3 (0 : Fin 1) r q) = ix3 (⟨t.val / 5, by omega⟩ : Fin 3) (⟨128 * (t.val % 5) + r.val, by omega⟩ : Fin 640) q := by
    funext a
    refine Fin.ext ?_
    match a with
    | ⟨0, _⟩ => show (BitVec.ofNat 32 (grid0.coords t 0).val).toNat * 1 + 1 * 0 = t.val / 5; rw [ofNat_lt _ (by omega)]; omega
    | ⟨1, _⟩ => show (BitVec.ofNat 32 (grid0.coords t 1).val).toNat * 128 + 1 * r.val = 128 * (t.val % 5) + r.val; rw [ofNat_lt _ (by omega)]; omega
    | ⟨2, _⟩ => show 0 * 384 + 1 * q.val = q.val; omega
  rw [e]
  exact pfT_apply m c t r q _ _

theorem out7 (c : Dev nD) (dat : Dat τ (Elt Ideal) Unit ℕ (UR sig nD τ) ℕ cfg0 c)
    (h : ∀ t : Fin cfg0.N, (cfg0.win 7).flush t = true → cntOK (IDS m c) t.val (dat.after 7 t)) : dat.arrAt 7 cfg0.N = cnt1 m c := by
  refine dat.arrAt_eq_of_covers 7 _ (by decide +kernel) fun t hf y => ?_
  have hc := h t hf
  blk_simp
  obtain ⟨b, v, rfl⟩ : ∃ (b : Fin 3) (v : Fin 200), y = ix2 b v := ⟨y 0, y 1, eq_ix2 (n0 := 3) (n1 := 200) y⟩
  have hN : t.val < 15 := t.isLt
  have hb := b.isLt
  have ht : t.val = 14 := by
    have := (flush0_7 t).mp hf
    omega
  have e : (win0_7.blk t).view.emb (ix2 b v) = ix2 b v := by
    funext a
    refine Fin.ext ?_
    match a with
    | ⟨0, _⟩ => show 0 * 3 + 1 * b.val = b.val; omega
    | ⟨1, _⟩ => show 0 * 200 + 1 * v.val = v.val; omega
  rw [e]
  refine Eq.trans ?_ (cntV_apply m c b v)
  by_cases h2 : b.val < 2
  · exact (hc (ix2 b v)).1 (by show b.val < t.val / 5; omega)
  · have := (hc (ix2 b v)).2 (by show b.val = t.val / 5; omega)
    rw [ht] at this
    exact this

/-- The run: the three results at the specification's values, the arguments unchanged. -/
theorem run_value (hid : ∀ c j, idOK (IDS m c j)) : θ_run defs (onTc (τ := τ) (main (F := Ideal))) ⟨m, fun _ => 0, ρ⟩ (fun r => ∀ c : Dev nD,
      r.2.mem ((c.tc : Thread nD τ).loc main_v2_0) = vox0 m c
      ∧ r.2.mem ((c.tc : Thread nD τ).loc main_v2_1) = cnt1 m c
      ∧ r.2.mem ((c.tc : Thread nD τ).loc main_v2_2) = pf2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => by
    obtain ⟨after, ha, hm⟩ := RDat.FramePost.exists_exact h.1 c
    have hR : ∀ (w : Fin cfg0.W) (u : Fin cfg0.N), marks w = true → (cfg0.win w).flush u = true → Rl m c w u (after w u) :=
      fun w u hw hf => (dats m 0 c).toRRel_leaves hw (ha w u hf)
    refine ⟨(hm 6).trans (out6 m c _ fun t hf => hR 6 t rfl hf ((flush0_6 t).mp hf)), (hm 7).trans (out7 m c _ fun t hf => hR 7 t rfl hf),
      (hm 8).trans (out8 m c _ fun t => hR 8 t rfl (flush0_8 t)),
      (h.1.arr_in c 1 rfl).trans ((A_eq m c 1).trans (V_main_arg0 m c)),
      (h.1.arr_in c 2 rfl).trans ((A_eq m c 2).trans (V_main_arg1 m c)),
      (h.1.arr_in c 3 rfl).trans ((A_eq m c 3).trans (V_main_arg2 m c)),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      (h.1.arr_in c 0 rfl).trans ((A_eq m c 0).trans (V_main_arg5 m c))⟩) (run_main m ρ hid)

end Cert.KernelIdeal.Hand
-- ==== Proof.ReferenceIdealRead.lean ====
/- The reference's three results as terms over the buffers its host operations read, and those terms element by element. -/
module

public import proofs.«01_k».proof.Proof.Gen.ReferenceIdeal.Frame
public import proofs.«01_k».proof.Proof.Spec
public import Idealize.ShloMosaic.Lib.StableHlo.ReadAt

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.ShloMosaic.Pipeline

/-- The features, from the widened inputs, the scales and the bias. -/
def hR (x : FVec Ideal S3x640x10240 .bf16) (xs : FVec Ideal S3x640x320 .f32) (w : FVec Ideal S10240x384 .bf16) (ws bs : FVec Ideal S384 .f32) :
    FVec Ideal S3x640x384 .f32 :=
  maximumf
    (addf
      (mulf
        (Host.dotGeneral dot_S3x640x10240_S10240x384_S3x640x384_2_0_01_1_n_n none
          (shapeCast S3x640x10240
            (mulf (shapeCast S3x640x320x32 x shapeCasts_S3x640x10240_S3x640x320x32)
              (broadcastInDim S3x640x320x32 ![0, 1, 2, 3] bcast_S3x640x320x1_S3x640x320x32_0_1_2_3
                (broadcastInDim S3x640x320x1 ![0, 1, 2] bcast_S3x640x320_S3x640x320x1_0_1_2 (truncf .bf16 xs bitsLt_bf16_f32))))
            shapeCasts_S3x640x320x32_S3x640x10240)
          w)
        (broadcastInDim S3x640x384 ![0, 1, 2] bcast_S1x1x384_S3x640x384_0_1_2 (broadcastInDim S1x1x384 ![2] bcast_S384_S1x1x384_2 ws)))
      (broadcastInDim S3x640x384 ![0, 1, 2] bcast_S1x1x384_S3x640x384_0_1_2 (broadcastInDim S1x1x384 ![2] bcast_S384_S1x1x384_2 bs)))
    (broadcastInDim S3x640x384 ![] bcast_S_S3x640x384 (constant S_ .f32 0#32))

/-- Whether a point is in a voxel. -/
def maskR (ids : IVec S3x640 32) : IVec S3x640x200 1 :=
  cmpi .eq
    (broadcastInDim S3x640x200 ![0, 1, 2] bcast_S3x640x1_S3x640x200_0_1_2 (broadcastInDim S3x640x1 ![0, 1] bcast_S3x640_S3x640x1_0_1 ids))
    (broadcastInDim S3x640x200 ![0, 1, 2] bcast_S1x1x200_S3x640x200_0_1_2 (broadcastInDim S1x1x200 ![2] bcast_S200_S1x1x200_2 (iotaInDim S200 32 0)))

/-- The counts. -/
def cntR (ids : IVec S3x640 32) : IVec S3x200 32 :=
  Host.reduce IntOp.addi (extui 32 (maskR ids) natLt_1_32) (constantI S_ 32 0#32) reducesTo_S3x640x200_S3x200_d1 h_S_

/-- The greatest feature of each voxel's points. -/
def maxR (ids : IVec S3x640 32) (h : FVec Ideal S3x640x384 .f32) : FVec Ideal S3x200x384 .f32 :=
  Host.reduce FloatOps.maximumf
    (select
      (broadcastInDim S3x640x200x384 ![0, 1, 2, 3] bcast_S3x640x200x1_S3x640x200x384_0_1_2_3
        (broadcastInDim S3x640x200x1 ![0, 1, 2] bcast_S3x640x200_S3x640x200x1_0_1_2 (maskR ids)))
      (broadcastInDim S3x640x200x384 ![0, 1, 2, 3] bcast_S3x640x1x384_S3x640x200x384_0_1_2_3
        (broadcastInDim S3x640x1x384 ![0, 1, 3] bcast_S3x640x384_S3x640x1x384_0_1_3 h))
      (broadcastInDim S3x640x200x384 ![] bcast_S_S3x640x200x384 (id (constant S_ .f32 4286578688#32))))
    (constant S_ .f32 4286578688#32) reducesTo_S3x640x200x384_S3x200x384_d1 h_S_

/-- The voxel features. -/
def voxR (ids : IVec S3x640 32) (h : FVec Ideal S3x640x384 .f32) : FVec Ideal S3x200x384 .bf16 :=
  truncf .bf16
    (select
      (broadcastInDim S3x200x384 ![0, 1, 2] bcast_S3x200x1_S3x200x384_0_1_2
        (cmpi .sgt (broadcastInDim S3x200x1 ![0, 1] bcast_S3x200_S3x200x1_0_1 (cntR ids))
          (broadcastInDim S3x200x1 ![] bcast_S_S3x200x1 (constantI S_ 32 0#32))))
      (maxR ids h)
      (broadcastInDim S3x200x384 ![] bcast_S_S3x200x384 (id (constant S_ .f32 0#32))))
    bitsLt_bf16_f32

section Reads

variable (W : Valuation τ sig (Elt Ideal))

/-- The host operations after the launch. -/
abbrev tailOps : List (HloOp τ sig (Elt Ideal)) := ([hostOps1, hostOps1_1, hostOps1_2, hostOps1_3, hostOps1_4] : List (List (HloOp τ sig (Elt Ideal)))).flatten

theorem read16 : StableHlo.after tailOps W (Proc.devRef .tc main_v16)
    = truncf .bf16 (hR (W (Proc.devRef .tc main_v0_0)) (W (Proc.devRef .tc main_arg1)) (W (Proc.devRef .tc main_v0_1)) (W (Proc.devRef .tc main_arg3)) (W (Proc.devRef .tc main_arg4))) bitsLt_bf16_f32 := by
  simp only [tailOps, hostOps1, hostOps1_1, hostOps1_2, hostOps1_3, hostOps1_4, List.flatten_cons, List.flatten_nil, List.append_nil, List.cons_append, List.nil_append]
  after_reads_simp
  rfl

theorem read24 : StableHlo.after tailOps W (Proc.devRef .tc main_v24) = cntR (W (Proc.devRef .tc main_arg5)) := by
  simp only [tailOps, hostOps1, hostOps1_1, hostOps1_2, hostOps1_3, hostOps1_4, List.flatten_cons, List.flatten_nil, List.append_nil, List.cons_append, List.nil_append]
  after_reads_simp
  rfl

theorem read33 : StableHlo.after tailOps W (Proc.devRef .tc main_v33)
    = voxR (W (Proc.devRef .tc main_arg5)) (hR (W (Proc.devRef .tc main_v0_0)) (W (Proc.devRef .tc main_arg1)) (W (Proc.devRef .tc main_v0_1)) (W (Proc.devRef .tc main_arg3)) (W (Proc.devRef .tc main_arg4))) := by
  simp only [tailOps, hostOps1, hostOps1_1, hostOps1_2, hostOps1_3, hostOps1_4, List.flatten_cons, List.flatten_nil, List.append_nil, List.cons_append, List.nil_append]
  after_reads_simp
  simp -implicitDefEqProofs only [StableHlo.TRef.toBuf, StableHlo.TRef.ofBuf, cast_cast, cast_eq]
  rfl

end Reads

/-- A feature, element by element. -/
theorem hR_apply (x : FVec Ideal S3x640x10240 .bf16) (xs : FVec Ideal S3x640x320 .f32) (w : FVec Ideal S10240x384 .bf16) (ws bs : FVec Ideal S384 .f32)
    (b : Fin 3) (n : Fin 640) (q : Fin 384) : hR x xs w ws bs (ix3 b n q) = Cert.Spec.feat x xs w ws bs b n q := by
  unfold hR Cert.Spec.feat
  pointwise

/-- A feature is not negative. -/
theorem hR_nonneg (x : FVec Ideal S3x640x10240 .bf16) (xs : FVec Ideal S3x640x320 .f32) (w : FVec Ideal S10240x384 .bf16) (ws bs : FVec Ideal S384 .f32)
    (b : Fin 3) (n : Fin 640) (q : Fin 384) : 0 ≤ hR x xs w ws bs (ix3 b n q) := by
  rw [hR_apply]
  exact le_max_right _ _

/-- The mask, element by element. -/
theorem maskR_apply (ids : IVec S3x640 32) (b : Fin 3) (n : Fin 640) (v : Fin 200) :
    maskR ids (ix3 b n v) = if ids (ix2 b n) = BitVec.ofNat 32 v.val then 1#1 else 0#1 := by
  unfold maskR
  pointwise
  by_cases h : ids (ix2 b n) = BitVec.ofNat 32 v.val
  · rw [if_pos h, h]
    show BitVec.ofBool (_ == _) = _
    rw [beq_self_eq_true]
    rfl
  · rw [if_neg h]
    show BitVec.ofBool (_ == _) = _
    rw [beq_eq_false_iff_ne.2 h]
    rfl

/-- Adding up the marks of a set of points counts them. -/
theorem fold_addi (p : Fin 640 → Prop) [DecidablePred p] (S : Finset (Fin 640)) :
    Finset.fold IntOp.addi (0#32) (fun x => BitVec.setWidth 32 (if p x then 1#1 else 0#1)) S = BitVec.ofNat 32 (S.filter p).card := by
  induction S using Finset.induction_on with
  | empty => rfl
  | insert a S ha ih =>
    rw [Finset.fold_insert ha, ih, Finset.filter_insert]
    by_cases h : p a
    · rw [if_pos h, if_pos h, Finset.card_insert_of_notMem (fun hc => ha (Finset.mem_filter.1 hc).1), Nat.add_comm]
      exact BitVec.ofNat_add_ofNat 1 _
    · rw [if_neg h, if_neg h]
      exact BitVec.zero_add _

/-- The counts are the specification's. -/
theorem cntR_apply (ids : IVec S3x640 32) (b : Fin 3) (v : Fin 200) : cntR ids (ix2 b v) = Cert.Spec.count ids b v := by
  unfold cntR
  pointwise [maskR_apply]
  exact fold_addi (fun n => ids (ix2 b n) = BitVec.ofNat 32 v.val) _

/-- The greatest of the marked points' features, from the least value. -/
theorem fold_max (p : Fin 640 → Prop) [DecidablePred p] (f : Fin 640 → EReal) (S : Finset (Fin 640)) :
    Finset.fold max ⊥ (fun x => Scalar.select (if p x then 1#1 else 0#1) (f x) ⊥) S = (S.filter p).sup f := by
  induction S using Finset.induction_on with
  | empty => rfl
  | insert a S ha ih =>
    rw [Finset.fold_insert ha, ih, Finset.filter_insert]
    by_cases h : p a
    · rw [if_pos h, if_pos h, Finset.sup_insert]
      rfl
    · rw [if_neg h, if_neg h]
      exact bot_sup_eq _

/-- The reference's least value. -/
theorem negInf : Ideal.ofBits FTy.f32 4286578688#32 = (⊥ : EReal) := by
  simp [Ideal.ofBits, Ideal.ieee]

/-- The greatest features of the voxels. -/
theorem maxR_apply (ids : IVec S3x640 32) (h : FVec Ideal S3x640x384 .f32) (b : Fin 3) (v : Fin 200) (q : Fin 384) :
    maxR ids h (ix3 b v q) = (Cert.Spec.members ids b v).sup fun n => h (ix3 b n q) := by
  unfold maxR
  pointwise [maskR_apply]
  have e : (id (constant (F := Ideal) S_ FTy.f32 4286578688#32) ix0 : EReal) = ⊥ := negInf
  rw [negInf, e]
  exact fold_max (fun n => ids (ix2 b n) = BitVec.ofNat 32 v.val) _ _

/-- A count is above zero exactly when the voxel has a point. -/
theorem count_pos (ids : IVec S3x640 32) (b : Fin 3) (v : Fin 200) :
    IntOp.cmpi CmpIPredicate.sgt (Cert.Spec.count ids b v) 0#32 = if (Cert.Spec.members ids b v).card = 0 then 0#1 else 1#1 := by
  unfold Cert.Spec.count
  have hle : (Cert.Spec.members ids b v).card ≤ 640 := (Finset.card_le_univ _).trans (by simp)
  generalize (Cert.Spec.members ids b v).card = k at hle
  have e : (BitVec.ofNat 32 k).toInt = (k : ℤ) := by
    rw [BitVec.toInt_eq_toNat_of_lt (by rw [BitVec.toNat_ofNat]; omega), BitVec.toNat_ofNat, Nat.mod_eq_of_lt (by omega)]
  show BitVec.ofBool (BitVec.slt 0#32 (BitVec.ofNat 32 k)) = _
  rw [BitVec.slt, e]
  by_cases h : k = 0
  · subst h; rfl
  · rw [if_neg h, decide_eq_true (by show (0 : ℤ) < k; omega)]
    rfl

/-- The voxel features are the specification's, of features that are not negative. -/
theorem voxR_apply (ids : IVec S3x640 32) (h : FVec Ideal S3x640x384 .f32) (b : Fin 3) (v : Fin 200) (q : Fin 384)
    (h0 : ∀ n, 0 ≤ h (ix3 b n q)) : voxR ids h (ix3 b v q) = Cert.Spec.vox (fun n => h (ix3 b n q)) (Cert.Spec.members ids b v) := by
  unfold voxR
  pointwise [cntR_apply, maxR_apply]
  have e : (id (constant (F := Ideal) S_ FTy.f32 0#32) ix0 : EReal) = 0 := by
    show (constant (F := Ideal) S_ FTy.f32 0#32) ix0 = 0
    pointwise
  rw [e, count_pos]
  unfold Cert.Spec.vox
  by_cases hc : (Cert.Spec.members ids b v).card = 0
  · rw [if_pos hc, Finset.card_eq_zero.1 hc, Finset.sup_empty, bot_sup_eq]
    rfl
  · rw [if_neg hc]
    obtain ⟨n, hn⟩ := Finset.card_pos.1 (Nat.pos_of_ne_zero hc)
    refine Eq.trans ?_ (sup_eq_left.2 ((h0 n).trans (Finset.le_sup (f := fun n => h (ix3 b n q)) hn))).symm
    rfl

end Cert.ReferenceIdeal.Hand
-- ==== Proof.ReferenceIdealRun.lean ====
/- The reference's run: its three results at the specification's values. -/
module

public import proofs.«01_k».proof.Proof.ReferenceIdealRead
public import Idealize.ShloMosaic.Lib.Pipeline.ValueKit

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.ShloMosaic.Pipeline

variable (m : (ℓ : Loc nD τ sig) → Buf (Elt Ideal) ℓ) (ρ : Dev nD → PrngReg)

/-- What the body leaves in window 2 is what it read. -/
theorem out0_2_eq (x0 : Vec Ideal S3x640x10240 .fp8e4m3) (x1 : Vec Ideal S10240x384 .fp8e4m3) : out0_2 x0 x1 = (x0 : S3x640x10240.Idx → EReal) := by
  unfold out0_2
  rw [View.ld_unit_lit _ x0 (by decide)]
  exact View.canon_cons_unit_lit _ _ _ (by decide)

/-- The launch leaves the points as they were: the widening is exact. -/
theorem arr2 (c : Dev nD) : (dats m 0 c).arrAt 2 cfg0.N = (m ((c : Thread nD τ).loc main_arg0) : S3x640x10240.Idx → EReal) := by
  refine (dats m 0 c).arrAt_eq_of_covers 2 _ (by decide +kernel) fun t hf y => ?_
  rw [after0_2, out0_2_eq]
  show m ((c : Thread nD τ).loc main_arg0) ((win0_0.blk t).view.emb y) = m ((c : Thread nD τ).loc main_arg0) ((win0_2.blk t).view.emb y)
  rfl

/-- What the body leaves in window 3 is what it read. -/
theorem out0_3_eq (x0 : Vec Ideal S3x640x10240 .fp8e4m3) (x1 : Vec Ideal S10240x384 .fp8e4m3) : out0_3 x0 x1 = (x1 : S10240x384.Idx → EReal) := by
  unfold out0_3
  rw [View.ld_unit_lit _ x1 (by decide)]
  exact View.canon_cons_unit_lit _ _ _ (by decide)

/-- The launch leaves the weights as they were: the widening is exact. -/
theorem arr3 (c : Dev nD) : (dats m 0 c).arrAt 3 cfg0.N = (m ((c : Thread nD τ).loc main_arg2) : S10240x384.Idx → EReal) := by
  refine (dats m 0 c).arrAt_eq_of_covers 3 _ (by decide +kernel) fun t hf y => ?_
  rw [after0_3, out0_3_eq]
  show m ((c : Thread nD τ).loc main_arg2) ((win0_1.blk t).view.emb y) = m ((c : Thread nD τ).loc main_arg2) ((win0_3.blk t).view.emb y)
  rfl

section Final

variable (c : Dev nD)

/-- The buffers the host operations after the launch read. -/
abbrev Wv : Valuation τ sig (Elt Ideal) := Pipeline.withArrays (cfgs 0).spec c (V0 m c) fun w => (dats m 0 c).arrAt w (cfgs 0).N

theorem w0_0 : Wv m c (Proc.devRef .tc main_v0_0) = (m ((c : Thread nD τ).loc main_arg0) : S3x640x10240.Idx → EReal) :=
  (Pipeline.withArrays_arr (cfgs 0).spec (by decide) c (V0 m c) _ 2).trans (arr2 m c)

theorem w0_1 : Wv m c (Proc.devRef .tc main_v0_1) = (m ((c : Thread nD τ).loc main_arg2) : S10240x384.Idx → EReal) :=
  (Pipeline.withArrays_arr (cfgs 0).spec (by decide) c (V0 m c) _ 3).trans (arr3 m c)

theorem w1 : Wv m c (Proc.devRef .tc main_arg1) = m ((c : Thread nD τ).loc main_arg1) :=
  (Pipeline.withArrays_of_ne _ c (V0 m c) _ main_arg1 (by exact (by decide : ∀ w, Pipeline.arrRef spec0 w ≠ main_arg1))).trans (V_main_arg1 m c)

theorem w3 : Wv m c (Proc.devRef .tc main_arg3) = m ((c : Thread nD τ).loc main_arg3) :=
  (Pipeline.withArrays_of_ne _ c (V0 m c) _ main_arg3 (by exact (by decide : ∀ w, Pipeline.arrRef spec0 w ≠ main_arg3))).trans (V_main_arg3 m c)

theorem w4 : Wv m c (Proc.devRef .tc main_arg4) = m ((c : Thread nD τ).loc main_arg4) :=
  (Pipeline.withArrays_of_ne _ c (V0 m c) _ main_arg4 (by exact (by decide : ∀ w, Pipeline.arrRef spec0 w ≠ main_arg4))).trans (V_main_arg4 m c)

theorem w5 : Wv m c (Proc.devRef .tc main_arg5) = m ((c : Thread nD τ).loc main_arg5) :=
  (Pipeline.withArrays_of_ne _ c (V0 m c) _ main_arg5 (by exact (by decide : ∀ w, Pipeline.arrRef spec0 w ≠ main_arg5))).trans (V_main_arg5 m c)

/-- The feature of point `n`, read off the arguments. -/
abbrev featM (b : Fin 3) (n : Fin 640) (q : Fin 384) : EReal :=
  Cert.Spec.feat (m ((c : Thread nD τ).loc main_arg0)) (m ((c : Thread nD τ).loc main_arg1)) (m ((c : Thread nD τ).loc main_arg2))
    (m ((c : Thread nD τ).loc main_arg3)) (m ((c : Thread nD τ).loc main_arg4)) b n q

/-- The voxel features. -/
def vox0 : S3x200x384.Idx → EReal := fun y =>
  Cert.Spec.vox (fun n => featM m c (y 0) n (y 2)) (Cert.Spec.members (m ((c : Thread nD τ).loc main_arg5)) (y 0) (y 1))

/-- The counts. -/
def cnt1 : S3x200.Idx → BitVec 32 := fun y => Cert.Spec.count (m ((c : Thread nD τ).loc main_arg5)) (y 0) (y 1)

/-- The point features. -/
def pf2 : S3x640x384.Idx → EReal := fun y => featM m c (y 0) (y 1) (y 2)

theorem final16 : StableHlo.after tailOps (Wv m c) (Proc.devRef .tc main_v16) = pf2 m c := by
  rw [read16, w0_0, w0_1, w1, w3, w4]
  funext y
  obtain ⟨b, n, q, rfl⟩ : ∃ (b : Fin 3) (n : Fin 640) (q : Fin 384), y = ix3 b n q := ⟨y 0, y 1, y 2, eq_ix3 (n0 := 3) (n1 := 640) (n2 := 384) y⟩
  exact hR_apply _ _ _ _ _ b n q

theorem final24 : StableHlo.after tailOps (Wv m c) (Proc.devRef .tc main_v24) = cnt1 m c := by
  rw [read24, w5]
  funext y
  obtain ⟨b, v, rfl⟩ : ∃ (b : Fin 3) (v : Fin 200), y = ix2 b v := ⟨y 0, y 1, eq_ix2 (n0 := 3) (n1 := 200) y⟩
  exact cntR_apply _ b v

theorem final33 : StableHlo.after tailOps (Wv m c) (Proc.devRef .tc main_v33) = vox0 m c := by
  rw [read33, w0_0, w0_1, w1, w3, w4, w5]
  funext y
  obtain ⟨b, v, q, rfl⟩ : ∃ (b : Fin 3) (v : Fin 200) (q : Fin 384), y = ix3 b v q := ⟨y 0, y 1, y 2, eq_ix3 (n0 := 3) (n1 := 200) (n2 := 384) y⟩
  refine (voxR_apply _ _ b v q fun n => hR_nonneg _ _ _ _ _ b n q).trans ?_
  exact congrArg (fun f => Cert.Spec.vox f (Cert.Spec.members (m ((c : Thread nD τ).loc main_arg5)) b v)) (funext fun n => hR_apply _ _ _ _ _ b n q)

end Final

/-- The run: the three results at the specification's values, the arguments unchanged. -/
theorem run_value : θ_run defs (onTc (τ := τ) (main (F := Ideal))) ⟨m, fun _ => 0, ρ⟩ (fun r => ∀ c : Dev nD,
      r.2.mem ((c.tc : Thread nD τ).loc main_v33) = vox0 m c
      ∧ r.2.mem ((c.tc : Thread nD τ).loc main_v24) = cnt1 m c
      ∧ r.2.mem ((c.tc : Thread nD τ).loc main_v16) = pf2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      ((h c).2 main_v33 (Pipeline.mem_restRefs_of main_v33 (by decide) (by decide))).trans (final33 m c),
      ((h c).2 main_v24 (Pipeline.mem_restRefs_of main_v24 (by decide) (by decide))).trans (final24 m c),
      ((h c).2 main_v16 (Pipeline.mem_restRefs_of main_v16 (by decide) (by decide))).trans (final16 m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 1).trans (((dats m 0 c).arrAt_in 1 rfl _).trans ((A_eq m c 1).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩) (run_main m ρ)

end Cert.ReferenceIdeal.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_ids_below_voxels
public import Idealize.ShloMosaic.Adequacy
public import Idealize.ShloMosaic.Init
public import proofs.«01_k».proof.Proof.Pre
public import proofs.«01_k».proof.Proof.KernelIdealOut
public import proofs.«01_k».proof.Proof.ReferenceIdealRun

@[expose] public section

noncomputable section

namespace Cert.Proof

open Idealize.ShloMosaic Idealize.SL.Sem

/-- From equal arguments the reference ends with the kernel's three results. -/
theorem algebraic (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Hand.vox0 m' c = Cert.KernelIdeal.Hand.vox0 m c
      ∧ Cert.ReferenceIdeal.Hand.cnt1 m' c = Cert.KernelIdeal.Hand.cnt1 m c
      ∧ Cert.ReferenceIdeal.Hand.pf2 m' c = Cert.KernelIdeal.Hand.pf2 m c := by
  refine ⟨?_, ?_, ?_⟩
  · unfold Cert.ReferenceIdeal.Hand.vox0 Cert.ReferenceIdeal.Hand.featM
    rw [h0, h1, h2, h3, h4, h5]
    rfl
  · unfold Cert.ReferenceIdeal.Hand.cnt1
    rw [h5]
    rfl
  · unfold Cert.ReferenceIdeal.Hand.pf2 Cert.ReferenceIdeal.Hand.featM
    rw [h0, h1, h2, h3, h4]
    rfl

theorem claim : Cert.Claim := ⟨Cert.Kernel.Gen.facts, Cert.KernelIdeal.Gen.facts, Cert.ReferenceIdeal.Gen.facts, Cert.Pre_ids_below_voxels.Gen.facts,
  fun m ρ h => Cert.Kernel.Hand.frame m ρ (ids_Kernel m h),
  fun m ρ h => Cert.KernelIdeal.Hand.frame m ρ (ids_KernelIdeal m h),
  fun m ρ _ => Cert.ReferenceIdeal.Gen.frame m ρ,
  fun m ρ _ => Cert.ReferenceIdeal.Gen.frame m ρ,
  trivial,
  fun m g m' g' hp hm => ⟨Cert.KernelIdeal.Hand.vox0 m, Cert.KernelIdeal.Hand.cnt1 m, Cert.KernelIdeal.Hand.pf2 m,
    Cert.KernelIdeal.Hand.run_value m g (ids_KernelIdeal m hp),
    (θ_run _ _ _).mono (fun _ h c => by
      obtain ⟨h0, h1, h2, h3, h4, h5⟩ := hm c
      obtain ⟨e0, e1, e2⟩ := algebraic m m' c h0 h1 h2 h3 h4 h5
      obtain ⟨r0, r1, r2, ra⟩ := h c
      exact ⟨r0.trans e0, r1.trans e1, r2.trans e2, ra⟩) (Cert.ReferenceIdeal.Hand.run_value m' g')⟩⟩

end Cert.Proof

end
